-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 32768]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![32768, 1024]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v30) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x256x1024 : Shape := ⟨3, ![4, 256, 1024]⟩
abbrev S1024x1024 : Shape := ⟨2, ![1024, 1024]⟩
abbrev S1024x8192 : Shape := ⟨2, ![1024, 8192]⟩
abbrev S_ : Shape := ⟨0, ![]⟩
abbrev S1024x256 : Shape := ⟨2, ![1024, 256]⟩
abbrev S256x1024 : Shape := ⟨2, ![256, 1024]⟩
abbrev S3x64x1024 : Shape := ⟨3, ![3, 64, 1024]⟩
abbrev S3x16x1024 : Shape := ⟨3, ![3, 16, 1024]⟩
abbrev S3x128x1024 : Shape := ⟨3, ![3, 128, 1024]⟩
abbrev S3x32x1024 : Shape := ⟨3, ![3, 32, 1024]⟩
abbrev S16x1024 : Shape := ⟨2, ![16, 1024]⟩
abbrev S28 : Shape := ⟨1, ![28]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S1 : Shape := ⟨1, ![1]⟩
abbrev S1x128x1024 : Shape := ⟨3, ![1, 128, 1024]⟩
abbrev S128x1024 : Shape := ⟨2, ![128, 1024]⟩
abbrev S1x64x1024 : Shape := ⟨3, ![1, 64, 1024]⟩
abbrev S64x1024 : Shape := ⟨2, ![64, 1024]⟩
abbrev S1x32x1024 : Shape := ⟨3, ![1, 32, 1024]⟩
abbrev S32x1024 : Shape := ⟨2, ![32, 1024]⟩
abbrev S1x16x1024 : Shape := ⟨3, ![1, 16, 1024]⟩

abbrev nBuf : Space → Nat
  | .hbm => 36
  | .vmem => 13
  | .smem => 0
  | _ => 0

abbrev bufTy : (tb : Table) → Fin (tcTables nBuf tb) → BufTy
  | .hbm, ⟨0, _⟩ => ⟨S4x256x1024, .f32⟩
  | .hbm, ⟨1, _⟩ => ⟨S1024x1024, .f32⟩
  | .hbm, ⟨2, _⟩ => ⟨S1024x8192, .f32⟩
  | .hbm, ⟨3, _⟩ => ⟨S1024x8192, .f32⟩
  | .hbm, ⟨4, _⟩ => ⟨S1024x1024, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1024x1024, .f32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S1024x256, .f32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S1024x256, .f32⟩
  | .hbm, ⟨34, _⟩ => ⟨S1024x1024, .f32⟩
  | .hbm, ⟨35, _⟩ => ⟨S4x256x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x256, .f32⟩
  | .local _ .vmem, ⟨4, _⟩ => ⟨S1024x256, .f32⟩
  | .local _ .vmem, ⟨5, _⟩ => ⟨S1024x1024, .f32⟩
  | .local _ .vmem, ⟨6, _⟩ => ⟨S256x1024, .f32⟩
  | .local _ .vmem, ⟨7, _⟩ => ⟨S256x1024, .f32⟩
  | .local _ .vmem, ⟨8, _⟩ => ⟨S3x64x1024, .f32⟩
  | .local _ .vmem, ⟨9, _⟩ => ⟨S3x16x1024, .f32⟩
  | .local _ .vmem, ⟨10, _⟩ => ⟨S3x128x1024, .f32⟩
  | .local _ .vmem, ⟨11, _⟩ => ⟨S3x32x1024, .f32⟩
  | .local _ .vmem, ⟨12, _⟩ => ⟨S16x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  (ofTc nBuf bufTy 1 62 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_v10 : Ref sig .tc := ⟨.hbm, 20, rfl⟩
abbrev main_c_5 : Ref sig .tc := ⟨.hbm, 21, rfl⟩
abbrev main_v11 : Ref sig .tc := ⟨.hbm, 22, rfl⟩
abbrev main_c_6 : Ref sig .tc := ⟨.hbm, 23, rfl⟩
abbrev main_v12 : Ref sig .tc := ⟨.hbm, 24, rfl⟩
abbrev main_c_7 : Ref sig .tc := ⟨.hbm, 25, rfl⟩
abbrev main_v13 : Ref sig .tc := ⟨.hbm, 26, rfl⟩
abbrev main_c_8 : Ref sig .tc := ⟨.hbm, 27, rfl⟩
abbrev main_v14 : Ref sig .tc := ⟨.hbm, 28, rfl⟩
abbrev main_c_9 : Ref sig .tc := ⟨.hbm, 29, rfl⟩
abbrev main_v15 : Ref sig .tc := ⟨.hbm, 30, rfl⟩
abbrev main_v16 : Ref sig .tc := ⟨.hbm, 31, rfl⟩
abbrev main_c_10 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_51 : BitVec 32 := 0#32
  let c8_i32_18 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v45 : BitVec 32 := Scalar.muli c8_i32_18 v19
  let c2_i32_19 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v46 : BitVec 32 := Scalar.muli c2_i32_19 v37
  let v47 : BitVec 32 := Scalar.addi v45 v46
  let c2_i32_20 : BitVec 32 := 2#32
  let v48 : BitVec 32 := Scalar.remsi v37 c2_i32_20
  let c0_i32_21 : BitVec 32 := 0#32
  let v49 : BitVec 1 := Scalar.cmpi .eq v48 c0_i32_21
  let c1_i32_17 : BitVec 32 := 1#32
  let c2_i32_12 : BitVec 32 := 2#32
  let v38 : BitVec 32 := Scalar.remsi v37 c2_i32_12
  let c0_i32_13 : BitVec 32 := 0#32
  let v39 : BitVec 1 := Scalar.cmpi .eq v38 c0_i32_13
  let c2_i32_14 : BitVec 32 := 2#32
  let v40 : BitVec 32 := Scalar.remsi v20 c2_i32_14
  let c1_i32_16 : BitVec 32 := 1#32
  let c2_i32_15 : BitVec 32 := 2#32
  let v41 : BitVec 32 := Scalar.remsi v20 c2_i32_15
  let v42 : BitVec 32 := Scalar.subi c1_i32_16 v41
  let v43 : BitVec 32 := Scalar.select v39 v40 v42
  let v44 : BitVec 32 := Scalar.subi c1_i32_17 v43
  let c1_i32_22 : BitVec 32 := 1#32
  let v50 : BitVec 32 := Scalar.subi c1_i32_22 v44
  let v51 : BitVec 32 := Scalar.select v49 v44 v50
  let v52 : BitVec 32 := Scalar.addi v47 v51
  let c1_i32_50 : BitVec 32 := 1#32
  let v94 : BitVec 32 := Scalar.muli v52 c1_i32_50
  let v95 : BitVec 32 := Scalar.addi c0_i32_51 v94
  v95.toNat
def k0_dev2 (d0 : Dev nD) : Nat :=
  let c0_i32_54 : BitVec 32 := 0#32
  let c8_i32_24 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v55 : BitVec 32 := Scalar.muli c8_i32_24 v19
  let c2_i32_25 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_23 : BitVec 32 := 1#32
  let v53 : BitVec 32 := Scalar.addi v37 c1_i32_23
  let c4_i32 : BitVec 32 := 4#32
  let v54 : BitVec 32 := Scalar.remsi v53 c4_i32
  let v56 : BitVec 32 := Scalar.muli c2_i32_25 v54
  let v57 : BitVec 32 := Scalar.addi v55 v56
  let c2_i32_26 : BitVec 32 := 2#32
  let v58 : BitVec 32 := Scalar.remsi v54 c2_i32_26
  let c0_i32_27 : BitVec 32 := 0#32
  let v59 : BitVec 1 := Scalar.cmpi .eq v58 c0_i32_27
  let c2_i32_12 : BitVec 32 := 2#32
  let v38 : BitVec 32 := Scalar.remsi v37 c2_i32_12
  let c0_i32_13 : BitVec 32 := 0#32
  let v39 : BitVec 1 := Scalar.cmpi .eq v38 c0_i32_13
  let c2_i32_14 : BitVec 32 := 2#32
  let v40 : BitVec 32 := Scalar.remsi v20 c2_i32_14
  let c1_i32_16 : BitVec 32 := 1#32
  let c2_i32_15 : BitVec 32 := 2#32
  let v41 : BitVec 32 := Scalar.remsi v20 c2_i32_15
  let v42 : BitVec 32 := Scalar.subi c1_i32_16 v41
  let v43 : BitVec 32 := Scalar.select v39 v40 v42
  let c1_i32_28 : BitVec 32 := 1#32
  let v60 : BitVec 32 := Scalar.subi c1_i32_28 v43
  let v61 : BitVec 32 := Scalar.select v59 v43 v60
  let v62 : BitVec 32 := Scalar.addi v57 v61
  let c1_i32_53 : BitVec 32 := 1#32
  let v96 : BitVec 32 := Scalar.muli v62 c1_i32_53
  let v97 : BitVec 32 := Scalar.addi c0_i32_54 v96
  v97.toNat
def k0_dev3 (d0 : Dev nD) : Nat :=
  let c0_i32_57 : BitVec 32 := 0#32
  let c8_i32_30 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v65 : BitVec 32 := Scalar.muli c8_i32_30 v19
  let c2_i32_31 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v63 : BitVec 32 := Scalar.addi v37 c3_i32
  let c4_i32_29 : BitVec 32 := 4#32
  let v64 : BitVec 32 := Scalar.remsi v63 c4_i32_29
  let v66 : BitVec 32 := Scalar.muli c2_i32_31 v64
  let v67 : BitVec 32 := Scalar.addi v65 v66
  let c2_i32_32 : BitVec 32 := 2#32
  let v68 : BitVec 32 := Scalar.remsi v64 c2_i32_32
  let c0_i32_33 : BitVec 32 := 0#32
  let v69 : BitVec 1 := Scalar.cmpi .eq v68 c0_i32_33
  let c2_i32_12 : BitVec 32 := 2#32
  let v38 : BitVec 32 := Scalar.remsi v37 c2_i32_12
  let c0_i32_13 : BitVec 32 := 0#32
  let v39 : BitVec 1 := Scalar.cmpi .eq v38 c0_i32_13
  let c2_i32_14 : BitVec 32 := 2#32
  let v40 : BitVec 32 := Scalar.remsi v20 c2_i32_14
  let c1_i32_16 : BitVec 32 := 1#32
  let c2_i32_15 : BitVec 32 := 2#32
  let v41 : BitVec 32 := Scalar.remsi v20 c2_i32_15
  let v42 : BitVec 32 := Scalar.subi c1_i32_16 v41
  let v43 : BitVec 32 := Scalar.select v39 v40 v42
  let c1_i32_34 : BitVec 32 := 1#32
  let v70 : BitVec 32 := Scalar.subi c1_i32_34 v43
  let v71 : BitVec 32 := Scalar.select v69 v43 v70
  let v72 : BitVec 32 := Scalar.addi v67 v71
  let c1_i32_56 : BitVec 32 := 1#32
  let v98 : BitVec 32 := Scalar.muli v72 c1_i32_56
  let v99 : BitVec 32 := Scalar.addi c0_i32_57 v98
  v99.toNat
def k0_dev4 (d0 : Dev nD) : Nat :=
  let c0_i32_60 : BitVec 32 := 0#32
  let c8_i32_37 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_35 : BitVec 32 := 1#32
  let v73 : BitVec 32 := Scalar.addi v19 c1_i32_35
  let c4_i32_36 : BitVec 32 := 4#32
  let v74 : BitVec 32 := Scalar.remsi v73 c4_i32_36
  let v75 : BitVec 32 := Scalar.muli c8_i32_37 v74
  let c2_i32_38 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v76 : BitVec 32 := Scalar.muli c2_i32_38 v37
  let v77 : BitVec 32 := Scalar.addi v75 v76
  let c2_i32_39 : BitVec 32 := 2#32
  let v78 : BitVec 32 := Scalar.remsi v37 c2_i32_39
  let c0_i32_40 : BitVec 32 := 0#32
  let v79 : BitVec 1 := Scalar.cmpi .eq v78 c0_i32_40
  let c2_i32_12 : BitVec 32 := 2#32
  let v38 : BitVec 32 := Scalar.remsi v37 c2_i32_12
  let c0_i32_13 : BitVec 32 := 0#32
  let v39 : BitVec 1 := Scalar.cmpi .eq v38 c0_i32_13
  let c2_i32_14 : BitVec 32 := 2#32
  let v40 : BitVec 32 := Scalar.remsi v20 c2_i32_14
  let c1_i32_16 : BitVec 32 := 1#32
  let c2_i32_15 : BitVec 32 := 2#32
  let v41 : BitVec 32 := Scalar.remsi v20 c2_i32_15
  let v42 : BitVec 32 := Scalar.subi c1_i32_16 v41
  let v43 : BitVec 32 := Scalar.select v39 v40 v42
  let c1_i32_41 : BitVec 32 := 1#32
  let v80 : BitVec 32 := Scalar.subi c1_i32_41 v43
  let v81 : BitVec 32 := Scalar.select v79 v43 v80
  let v82 : BitVec 32 := Scalar.addi v77 v81
  let c1_i32_59 : BitVec 32 := 1#32
  let v100 : BitVec 32 := Scalar.muli v82 c1_i32_59
  let v101 : BitVec 32 := Scalar.addi c0_i32_60 v100
  v101.toNat
def k0_dev5 (d0 : Dev nD) : Nat :=
  let c0_i32_63 : BitVec 32 := 0#32
  let c8_i32_44 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_42 : BitVec 32 := 3#32
  let v83 : BitVec 32 := Scalar.addi v19 c3_i32_42
  let c4_i32_43 : BitVec 32 := 4#32
  let v84 : BitVec 32 := Scalar.remsi v83 c4_i32_43
  let v85 : BitVec 32 := Scalar.muli c8_i32_44 v84
  let c2_i32_45 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v86 : BitVec 32 := Scalar.muli c2_i32_45 v37
  let v87 : BitVec 32 := Scalar.addi v85 v86
  let c2_i32_46 : BitVec 32 := 2#32
  let v88 : BitVec 32 := Scalar.remsi v37 c2_i32_46
  let c0_i32_47 : BitVec 32 := 0#32
  let v89 : BitVec 1 := Scalar.cmpi .eq v88 c0_i32_47
  let c2_i32_12 : BitVec 32 := 2#32
  let v38 : BitVec 32 := Scalar.remsi v37 c2_i32_12
  let c0_i32_13 : BitVec 32 := 0#32
  let v39 : BitVec 1 := Scalar.cmpi .eq v38 c0_i32_13
  let c2_i32_14 : BitVec 32 := 2#32
  let v40 : BitVec 32 := Scalar.remsi v20 c2_i32_14
  let c1_i32_16 : BitVec 32 := 1#32
  let c2_i32_15 : BitVec 32 := 2#32
  let v41 : BitVec 32 := Scalar.remsi v20 c2_i32_15
  let v42 : BitVec 32 := Scalar.subi c1_i32_16 v41
  let v43 : BitVec 32 := Scalar.select v39 v40 v42
  let c1_i32_48 : BitVec 32 := 1#32
  let v90 : BitVec 32 := Scalar.subi c1_i32_48 v43
  let v91 : BitVec 32 := Scalar.select v89 v43 v90
  let v92 : BitVec 32 := Scalar.addi v87 v91
  let c1_i32_62 : BitVec 32 := 1#32
  let v102 : BitVec 32 := Scalar.muli v92 c1_i32_62
  let v103 : BitVec 32 := Scalar.addi c0_i32_63 v102
  v103.toNat
def k0_off1 (d0 : Dev nD) : Fin 2 → Nat :=
  let c1_i32_204 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_12 : BitVec 32 := 2#32
  let v38 : BitVec 32 := Scalar.remsi v37 c2_i32_12
  let c0_i32_13 : BitVec 32 := 0#32
  let v39 : BitVec 1 := Scalar.cmpi .eq v38 c0_i32_13
  let c2_i32_14 : BitVec 32 := 2#32
  let v40 : BitVec 32 := Scalar.remsi v20 c2_i32_14
  let c1_i32_16 : BitVec 32 := 1#32
  let c2_i32_15 : BitVec 32 := 2#32
  let v41 : BitVec 32 := Scalar.remsi v20 c2_i32_15
  let v42 : BitVec 32 := Scalar.subi c1_i32_16 v41
  let v43 : BitVec 32 := Scalar.select v39 v40 v42
  let v447 : BitVec 32 := Scalar.subi c1_i32_204 v43
  let c256_i32_205 : BitVec 32 := 256#32
  let v448 : BitVec 32 := Scalar.muli v447 c256_i32_205
  let c0_i32_210 : BitVec 32 := 0#32
  ![v448.toNat, 0]
def k0_dev6 (d0 : Dev nD) : Nat :=
  let c0_i32_209 : BitVec 32 := 0#32
  let c8_i32_18 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v45 : BitVec 32 := Scalar.muli c8_i32_18 v19
  let c2_i32_19 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v46 : BitVec 32 := Scalar.muli c2_i32_19 v37
  let v47 : BitVec 32 := Scalar.addi v45 v46
  let c2_i32_20 : BitVec 32 := 2#32
  let v48 : BitVec 32 := Scalar.remsi v37 c2_i32_20
  let c0_i32_21 : BitVec 32 := 0#32
  let v49 : BitVec 1 := Scalar.cmpi .eq v48 c0_i32_21
  let c1_i32_17 : BitVec 32 := 1#32
  let c2_i32_12 : BitVec 32 := 2#32
  let v38 : BitVec 32 := Scalar.remsi v37 c2_i32_12
  let c0_i32_13 : BitVec 32 := 0#32
  let v39 : BitVec 1 := Scalar.cmpi .eq v38 c0_i32_13
  let c2_i32_14 : BitVec 32 := 2#32
  let v40 : BitVec 32 := Scalar.remsi v20 c2_i32_14
  let c1_i32_16 : BitVec 32 := 1#32
  let c2_i32_15 : BitVec 32 := 2#32
  let v41 : BitVec 32 := Scalar.remsi v20 c2_i32_15
  let v42 : BitVec 32 := Scalar.subi c1_i32_16 v41
  let v43 : BitVec 32 := Scalar.select v39 v40 v42
  let v44 : BitVec 32 := Scalar.subi c1_i32_17 v43
  let c1_i32_22 : BitVec 32 := 1#32
  let v50 : BitVec 32 := Scalar.subi c1_i32_22 v44
  let v51 : BitVec 32 := Scalar.select v49 v44 v50
  let v52 : BitVec 32 := Scalar.addi v47 v51
  let c1_i32_208 : BitVec 32 := 1#32
  let v449 : BitVec 32 := Scalar.muli v52 c1_i32_208
  let v450 : BitVec 32 := Scalar.addi c0_i32_209 v449
  v450.toNat
def k0_off2 (d0 : Dev nD) (c1_i32_359 : BitVec 32) : Fin 2 → Nat :=
  let c512_i32_362 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v792 : BitVec 32 := Scalar.addi v19 c1_i32_359
  let c4_i32_360 : BitVec 32 := 4#32
  let v793 : BitVec 32 := Scalar.remsi v792 c4_i32_360
  let c128_i32_361 : BitVec 32 := 128#32
  let v794 : BitVec 32 := Scalar.muli v793 c128_i32_361
  let v795 : BitVec 32 := Scalar.addi c512_i32_362 v794
  let c0_i32_370 : BitVec 32 := 0#32
  ![v795.toNat, 0]
def k0_dev7 (d0 : Dev nD) : Nat :=
  let c0_i32_367 : BitVec 32 := 0#32
  let c8_i32_44 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_42 : BitVec 32 := 3#32
  let v83 : BitVec 32 := Scalar.addi v19 c3_i32_42
  let c4_i32_43 : BitVec 32 := 4#32
  let v84 : BitVec 32 := Scalar.remsi v83 c4_i32_43
  let v85 : BitVec 32 := Scalar.muli c8_i32_44 v84
  let c2_i32_45 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v86 : BitVec 32 := Scalar.muli c2_i32_45 v37
  let v87 : BitVec 32 := Scalar.addi v85 v86
  let c2_i32_46 : BitVec 32 := 2#32
  let v88 : BitVec 32 := Scalar.remsi v37 c2_i32_46
  let c0_i32_47 : BitVec 32 := 0#32
  let v89 : BitVec 1 := Scalar.cmpi .eq v88 c0_i32_47
  let c2_i32_12 : BitVec 32 := 2#32
  let v38 : BitVec 32 := Scalar.remsi v37 c2_i32_12
  let c0_i32_13 : BitVec 32 := 0#32
  let v39 : BitVec 1 := Scalar.cmpi .eq v38 c0_i32_13
  let c2_i32_14 : BitVec 32 := 2#32
  let v40 : BitVec 32 := Scalar.remsi v20 c2_i32_14
  let c1_i32_16 : BitVec 32 := 1#32
  let c2_i32_15 : BitVec 32 := 2#32
  let v41 : BitVec 32 := Scalar.remsi v20 c2_i32_15
  let v42 : BitVec 32 := Scalar.subi c1_i32_16 v41
  let v43 : BitVec 32 := Scalar.select v39 v40 v42
  let c1_i32_48 : BitVec 32 := 1#32
  let v90 : BitVec 32 := Scalar.subi c1_i32_48 v43
  let v91 : BitVec 32 := Scalar.select v89 v43 v90
  let v92 : BitVec 32 := Scalar.addi v87 v91
  let c1_i32_366 : BitVec 32 := 1#32
  let v796 : BitVec 32 := Scalar.muli v92 c1_i32_366
  let v797 : BitVec 32 := Scalar.addi c0_i32_367 v796
  v797.toNat
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_12 : BitVec 32 := 2#32
  let v38 : BitVec 32 := Scalar.remsi v37 c2_i32_12
  let c0_i32_13 : BitVec 32 := 0#32
  let v39 : BitVec 1 := Scalar.cmpi .eq v38 c0_i32_13
  let c2_i32_14 : BitVec 32 := 2#32
  let v40 : BitVec 32 := Scalar.remsi v20 c2_i32_14
  let c1_i32_16 : BitVec 32 := 1#32
  let c2_i32_15 : BitVec 32 := 2#32
  let v41 : BitVec 32 := Scalar.remsi v20 c2_i32_15
  let v42 : BitVec 32 := Scalar.subi c1_i32_16 v41
  let v43 : BitVec 32 := Scalar.select v39 v40 v42
  let c256_i32 : BitVec 32 := 256#32
  let v104 : BitVec 32 := Scalar.muli v43 c256_i32
  let v810 : Index := Scalar.indexCast v104
  let c0_376 : Index := 0#32
  ![v810.toNat, 0]
def k0_off4 (d0 : Dev nD) : Fin 2 → Nat :=
  let c512_i32_391 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_388 : BitVec 32 := 2#32
  let v824 : BitVec 32 := Scalar.addi v19 c2_i32_388
  let c4_i32_389 : BitVec 32 := 4#32
  let v825 : BitVec 32 := Scalar.remsi v824 c4_i32_389
  let c128_i32_390 : BitVec 32 := 128#32
  let v826 : BitVec 32 := Scalar.muli v825 c128_i32_390
  let v827 : BitVec 32 := Scalar.addi c512_i32_391 v826
  let v828 : Index := Scalar.indexCast v827
  let c0_392 : Index := 0#32
  ![v828.toNat, 0]
def k0_off5 (d0 : Dev nD) (c7_i32 : BitVec 32) (c0_i32_397 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_12 : BitVec 32 := 2#32
  let v38 : BitVec 32 := Scalar.remsi v37 c2_i32_12
  let c0_i32_13 : BitVec 32 := 0#32
  let v39 : BitVec 1 := Scalar.cmpi .eq v38 c0_i32_13
  let c2_i32_14 : BitVec 32 := 2#32
  let v40 : BitVec 32 := Scalar.remsi v20 c2_i32_14
  let c1_i32_16 : BitVec 32 := 1#32
  let c2_i32_15 : BitVec 32 := 2#32
  let v41 : BitVec 32 := Scalar.remsi v20 c2_i32_15
  let v42 : BitVec 32 := Scalar.subi c1_i32_16 v41
  let v43 : BitVec 32 := Scalar.select v39 v40 v42
  let c256_i32 : BitVec 32 := 256#32
  let v104 : BitVec 32 := Scalar.muli v43 c256_i32
  let v836 : BitVec 32 := Scalar.addi v37 c7_i32
  let v837 : BitVec 32 := Scalar.subi v836 c0_i32_397
  let c4_i32_398 : BitVec 32 := 4#32
  let v838 : BitVec 32 := Scalar.remsi v837 c4_i32_398
  let c64_i32_399 : BitVec 32 := 64#32
  let v839 : BitVec 32 := Scalar.muli v838 c64_i32_399
  let v840 : BitVec 32 := Scalar.addi v104 v839
  let c0_i32_407 : BitVec 32 := 0#32
  ![v840.toNat, 0]
def k0_dev8 (d0 : Dev nD) : Nat :=
  let c0_i32_404 : BitVec 32 := 0#32
  let c8_i32_24 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v55 : BitVec 32 := Scalar.muli c8_i32_24 v19
  let c2_i32_25 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_23 : BitVec 32 := 1#32
  let v53 : BitVec 32 := Scalar.addi v37 c1_i32_23
  let c4_i32 : BitVec 32 := 4#32
  let v54 : BitVec 32 := Scalar.remsi v53 c4_i32
  let v56 : BitVec 32 := Scalar.muli c2_i32_25 v54
  let v57 : BitVec 32 := Scalar.addi v55 v56
  let c2_i32_26 : BitVec 32 := 2#32
  let v58 : BitVec 32 := Scalar.remsi v54 c2_i32_26
  let c0_i32_27 : BitVec 32 := 0#32
  let v59 : BitVec 1 := Scalar.cmpi .eq v58 c0_i32_27
  let c2_i32_12 : BitVec 32 := 2#32
  let v38 : BitVec 32 := Scalar.remsi v37 c2_i32_12
  let c0_i32_13 : BitVec 32 := 0#32
  let v39 : BitVec 1 := Scalar.cmpi .eq v38 c0_i32_13
  let c2_i32_14 : BitVec 32 := 2#32
  let v40 : BitVec 32 := Scalar.remsi v20 c2_i32_14
  let c1_i32_16 : BitVec 32 := 1#32
  let c2_i32_15 : BitVec 32 := 2#32
  let v41 : BitVec 32 := Scalar.remsi v20 c2_i32_15
  let v42 : BitVec 32 := Scalar.subi c1_i32_16 v41
  let v43 : BitVec 32 := Scalar.select v39 v40 v42
  let c1_i32_28 : BitVec 32 := 1#32
  let v60 : BitVec 32 := Scalar.subi c1_i32_28 v43
  let v61 : BitVec 32 := Scalar.select v59 v43 v60
  let v62 : BitVec 32 := Scalar.addi v57 v61
  let c1_i32_403 : BitVec 32 := 1#32
  let v841 : BitVec 32 := Scalar.muli v62 c1_i32_403
  let v842 : BitVec 32 := Scalar.addi c0_i32_404 v841
  v842.toNat
def k0_off6 (d0 : Dev nD) (c1_i32_412 : BitVec 32) : Fin 2 → Nat :=
  let c512_i32_415 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_411 : BitVec 32 := 1#32
  let v855 : BitVec 32 := Scalar.addi v19 c1_i32_411
  let v856 : BitVec 32 := Scalar.addi v855 c1_i32_412
  let c4_i32_413 : BitVec 32 := 4#32
  let v857 : BitVec 32 := Scalar.remsi v856 c4_i32_413
  let c128_i32_414 : BitVec 32 := 128#32
  let v858 : BitVec 32 := Scalar.muli v857 c128_i32_414
  let v859 : BitVec 32 := Scalar.addi c512_i32_415 v858
  let c0_i32_423 : BitVec 32 := 0#32
  ![v859.toNat, 0]
def k0_dev9 (d0 : Dev nD) : Nat :=
  let c0_i32_420 : BitVec 32 := 0#32
  let c8_i32_44 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_42 : BitVec 32 := 3#32
  let v83 : BitVec 32 := Scalar.addi v19 c3_i32_42
  let c4_i32_43 : BitVec 32 := 4#32
  let v84 : BitVec 32 := Scalar.remsi v83 c4_i32_43
  let v85 : BitVec 32 := Scalar.muli c8_i32_44 v84
  let c2_i32_45 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v86 : BitVec 32 := Scalar.muli c2_i32_45 v37
  let v87 : BitVec 32 := Scalar.addi v85 v86
  let c2_i32_46 : BitVec 32 := 2#32
  let v88 : BitVec 32 := Scalar.remsi v37 c2_i32_46
  let c0_i32_47 : BitVec 32 := 0#32
  let v89 : BitVec 1 := Scalar.cmpi .eq v88 c0_i32_47
  let c2_i32_12 : BitVec 32 := 2#32
  let v38 : BitVec 32 := Scalar.remsi v37 c2_i32_12
  let c0_i32_13 : BitVec 32 := 0#32
  let v39 : BitVec 1 := Scalar.cmpi .eq v38 c0_i32_13
  let c2_i32_14 : BitVec 32 := 2#32
  let v40 : BitVec 32 := Scalar.remsi v20 c2_i32_14
  let c1_i32_16 : BitVec 32 := 1#32
  let c2_i32_15 : BitVec 32 := 2#32
  let v41 : BitVec 32 := Scalar.remsi v20 c2_i32_15
  let v42 : BitVec 32 := Scalar.subi c1_i32_16 v41
  let v43 : BitVec 32 := Scalar.select v39 v40 v42
  let c1_i32_48 : BitVec 32 := 1#32
  let v90 : BitVec 32 := Scalar.subi c1_i32_48 v43
  let v91 : BitVec 32 := Scalar.select v89 v43 v90
  let v92 : BitVec 32 := Scalar.addi v87 v91
  let c1_i32_419 : BitVec 32 := 1#32
  let v860 : BitVec 32 := Scalar.muli v92 c1_i32_419
  let v861 : BitVec 32 := Scalar.addi c0_i32_420 v860
  v861.toNat
def k0_off7 (d0 : Dev nD) (c0_i32_408 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_12 : BitVec 32 := 2#32
  let v38 : BitVec 32 := Scalar.remsi v37 c2_i32_12
  let c0_i32_13 : BitVec 32 := 0#32
  let v39 : BitVec 1 := Scalar.cmpi .eq v38 c0_i32_13
  let c2_i32_14 : BitVec 32 := 2#32
  let v40 : BitVec 32 := Scalar.remsi v20 c2_i32_14
  let c1_i32_16 : BitVec 32 := 1#32
  let c2_i32_15 : BitVec 32 := 2#32
  let v41 : BitVec 32 := Scalar.remsi v20 c2_i32_15
  let v42 : BitVec 32 := Scalar.subi c1_i32_16 v41
  let v43 : BitVec 32 := Scalar.select v39 v40 v42
  let c256_i32 : BitVec 32 := 256#32
  let v104 : BitVec 32 := Scalar.muli v43 c256_i32
  let c6_i32 : BitVec 32 := 6#32
  let v850 : BitVec 32 := Scalar.addi v37 c6_i32
  let v851 : BitVec 32 := Scalar.subi v850 c0_i32_408
  let c4_i32_409 : BitVec 32 := 4#32
  let v852 : BitVec 32 := Scalar.remsi v851 c4_i32_409
  let c64_i32_410 : BitVec 32 := 64#32
  let v853 : BitVec 32 := Scalar.muli v852 c64_i32_410
  let v854 : BitVec 32 := Scalar.addi v104 v853
  let v881 : Index := Scalar.indexCast v854
  let c0_437 : Index := 0#32
  ![v881.toNat, 0]
def k0_off8 (d0 : Dev nD) (c1_i32_425 : BitVec 32) : Fin 2 → Nat :=
  let c512_i32_428 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_424 : BitVec 32 := 2#32
  let v869 : BitVec 32 := Scalar.addi v19 c2_i32_424
  let v870 : BitVec 32 := Scalar.addi v869 c1_i32_425
  let c4_i32_426 : BitVec 32 := 4#32
  let v871 : BitVec 32 := Scalar.remsi v870 c4_i32_426
  let c128_i32_427 : BitVec 32 := 128#32
  let v872 : BitVec 32 := Scalar.muli v871 c128_i32_427
  let v873 : BitVec 32 := Scalar.addi c512_i32_428 v872
  let v896 : Index := Scalar.indexCast v873
  let c0_450 : Index := 0#32
  ![v896.toNat, 0]
def k0_dev10 (d0 : Dev nD) : Nat :=
  let c0_i32_462 : BitVec 32 := 0#32
  let c8_i32_24 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v55 : BitVec 32 := Scalar.muli c8_i32_24 v19
  let c2_i32_25 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_23 : BitVec 32 := 1#32
  let v53 : BitVec 32 := Scalar.addi v37 c1_i32_23
  let c4_i32 : BitVec 32 := 4#32
  let v54 : BitVec 32 := Scalar.remsi v53 c4_i32
  let v56 : BitVec 32 := Scalar.muli c2_i32_25 v54
  let v57 : BitVec 32 := Scalar.addi v55 v56
  let c2_i32_26 : BitVec 32 := 2#32
  let v58 : BitVec 32 := Scalar.remsi v54 c2_i32_26
  let c0_i32_27 : BitVec 32 := 0#32
  let v59 : BitVec 1 := Scalar.cmpi .eq v58 c0_i32_27
  let c2_i32_12 : BitVec 32 := 2#32
  let v38 : BitVec 32 := Scalar.remsi v37 c2_i32_12
  let c0_i32_13 : BitVec 32 := 0#32
  let v39 : BitVec 1 := Scalar.cmpi .eq v38 c0_i32_13
  let c2_i32_14 : BitVec 32 := 2#32
  let v40 : BitVec 32 := Scalar.remsi v20 c2_i32_14
  let c1_i32_16 : BitVec 32 := 1#32
  let c2_i32_15 : BitVec 32 := 2#32
  let v41 : BitVec 32 := Scalar.remsi v20 c2_i32_15
  let v42 : BitVec 32 := Scalar.subi c1_i32_16 v41
  let v43 : BitVec 32 := Scalar.select v39 v40 v42
  let c1_i32_28 : BitVec 32 := 1#32
  let v60 : BitVec 32 := Scalar.subi c1_i32_28 v43
  let v61 : BitVec 32 := Scalar.select v59 v43 v60
  let v62 : BitVec 32 := Scalar.addi v57 v61
  let c1_i32_461 : BitVec 32 := 1#32
  let v909 : BitVec 32 := Scalar.muli v62 c1_i32_461
  let v910 : BitVec 32 := Scalar.addi c0_i32_462 v909
  v910.toNat
def k0_dev11 (d0 : Dev nD) : Nat :=
  let c0_i32_479 : BitVec 32 := 0#32
  let c8_i32_44 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_42 : BitVec 32 := 3#32
  let v83 : BitVec 32 := Scalar.addi v19 c3_i32_42
  let c4_i32_43 : BitVec 32 := 4#32
  let v84 : BitVec 32 := Scalar.remsi v83 c4_i32_43
  let v85 : BitVec 32 := Scalar.muli c8_i32_44 v84
  let c2_i32_45 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v86 : BitVec 32 := Scalar.muli c2_i32_45 v37
  let v87 : BitVec 32 := Scalar.addi v85 v86
  let c2_i32_46 : BitVec 32 := 2#32
  let v88 : BitVec 32 := Scalar.remsi v37 c2_i32_46
  let c0_i32_47 : BitVec 32 := 0#32
  let v89 : BitVec 1 := Scalar.cmpi .eq v88 c0_i32_47
  let c2_i32_12 : BitVec 32 := 2#32
  let v38 : BitVec 32 := Scalar.remsi v37 c2_i32_12
  let c0_i32_13 : BitVec 32 := 0#32
  let v39 : BitVec 1 := Scalar.cmpi .eq v38 c0_i32_13
  let c2_i32_14 : BitVec 32 := 2#32
  let v40 : BitVec 32 := Scalar.remsi v20 c2_i32_14
  let c1_i32_16 : BitVec 32 := 1#32
  let c2_i32_15 : BitVec 32 := 2#32
  let v41 : BitVec 32 := Scalar.remsi v20 c2_i32_15
  let v42 : BitVec 32 := Scalar.subi c1_i32_16 v41
  let v43 : BitVec 32 := Scalar.select v39 v40 v42
  let c1_i32_48 : BitVec 32 := 1#32
  let v90 : BitVec 32 := Scalar.subi c1_i32_48 v43
  let v91 : BitVec 32 := Scalar.select v89 v43 v90
  let v92 : BitVec 32 := Scalar.addi v87 v91
  let c1_i32_478 : BitVec 32 := 1#32
  let v928 : BitVec 32 := Scalar.muli v92 c1_i32_478
  let v929 : BitVec 32 := Scalar.addi c0_i32_479 v928
  v929.toNat
def k0_dev12 (d0 : Dev nD) : Nat :=
  let c0_i32_521 : BitVec 32 := 0#32
  let c8_i32_24 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v55 : BitVec 32 := Scalar.muli c8_i32_24 v19
  let c2_i32_25 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_23 : BitVec 32 := 1#32
  let v53 : BitVec 32 := Scalar.addi v37 c1_i32_23
  let c4_i32 : BitVec 32 := 4#32
  let v54 : BitVec 32 := Scalar.remsi v53 c4_i32
  let v56 : BitVec 32 := Scalar.muli c2_i32_25 v54
  let v57 : BitVec 32 := Scalar.addi v55 v56
  let c2_i32_26 : BitVec 32 := 2#32
  let v58 : BitVec 32 := Scalar.remsi v54 c2_i32_26
  let c0_i32_27 : BitVec 32 := 0#32
  let v59 : BitVec 1 := Scalar.cmpi .eq v58 c0_i32_27
  let c2_i32_12 : BitVec 32 := 2#32
  let v38 : BitVec 32 := Scalar.remsi v37 c2_i32_12
  let c0_i32_13 : BitVec 32 := 0#32
  let v39 : BitVec 1 := Scalar.cmpi .eq v38 c0_i32_13
  let c2_i32_14 : BitVec 32 := 2#32
  let v40 : BitVec 32 := Scalar.remsi v20 c2_i32_14
  let c1_i32_16 : BitVec 32 := 1#32
  let c2_i32_15 : BitVec 32 := 2#32
  let v41 : BitVec 32 := Scalar.remsi v20 c2_i32_15
  let v42 : BitVec 32 := Scalar.subi c1_i32_16 v41
  let v43 : BitVec 32 := Scalar.select v39 v40 v42
  let c1_i32_28 : BitVec 32 := 1#32
  let v60 : BitVec 32 := Scalar.subi c1_i32_28 v43
  let v61 : BitVec 32 := Scalar.select v59 v43 v60
  let v62 : BitVec 32 := Scalar.addi v57 v61
  let c1_i32_520 : BitVec 32 := 1#32
  let v977 : BitVec 32 := Scalar.muli v62 c1_i32_520
  let v978 : BitVec 32 := Scalar.addi c0_i32_521 v977
  v978.toNat
def k0_off9 (d0 : Dev nD) (c0_i32_530 : BitVec 32) : Fin 2 → Nat :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c128_i32 : BitVec 32 := 128#32
  let v107 : BitVec 32 := Scalar.muli v19 c128_i32
  let v108 : BitVec 32 := Scalar.addi c512_i32 v107
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_529 : BitVec 32 := 1#32
  let v991 : BitVec 32 := Scalar.addi v37 c1_i32_529
  let v992 : BitVec 32 := Scalar.addi v991 c0_i32_530
  let c4_i32_531 : BitVec 32 := 4#32
  let v993 : BitVec 32 := Scalar.remsi v992 c4_i32_531
  let c32_i32_532 : BitVec 32 := 32#32
  let v994 : BitVec 32 := Scalar.muli v993 c32_i32_532
  let v995 : BitVec 32 := Scalar.addi v108 v994
  let c0_i32_540 : BitVec 32 := 0#32
  ![v995.toNat, 0]
def k0_dev13 (d0 : Dev nD) : Nat :=
  let c0_i32_537 : BitVec 32 := 0#32
  let c8_i32_30 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v65 : BitVec 32 := Scalar.muli c8_i32_30 v19
  let c2_i32_31 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v63 : BitVec 32 := Scalar.addi v37 c3_i32
  let c4_i32_29 : BitVec 32 := 4#32
  let v64 : BitVec 32 := Scalar.remsi v63 c4_i32_29
  let v66 : BitVec 32 := Scalar.muli c2_i32_31 v64
  let v67 : BitVec 32 := Scalar.addi v65 v66
  let c2_i32_32 : BitVec 32 := 2#32
  let v68 : BitVec 32 := Scalar.remsi v64 c2_i32_32
  let c0_i32_33 : BitVec 32 := 0#32
  let v69 : BitVec 1 := Scalar.cmpi .eq v68 c0_i32_33
  let c2_i32_12 : BitVec 32 := 2#32
  let v38 : BitVec 32 := Scalar.remsi v37 c2_i32_12
  let c0_i32_13 : BitVec 32 := 0#32
  let v39 : BitVec 1 := Scalar.cmpi .eq v38 c0_i32_13
  let c2_i32_14 : BitVec 32 := 2#32
  let v40 : BitVec 32 := Scalar.remsi v20 c2_i32_14
  let c1_i32_16 : BitVec 32 := 1#32
  let c2_i32_15 : BitVec 32 := 2#32
  let v41 : BitVec 32 := Scalar.remsi v20 c2_i32_15
  let v42 : BitVec 32 := Scalar.subi c1_i32_16 v41
  let v43 : BitVec 32 := Scalar.select v39 v40 v42
  let c1_i32_34 : BitVec 32 := 1#32
  let v70 : BitVec 32 := Scalar.subi c1_i32_34 v43
  let v71 : BitVec 32 := Scalar.select v69 v43 v70
  let v72 : BitVec 32 := Scalar.addi v67 v71
  let c1_i32_536 : BitVec 32 := 1#32
  let v996 : BitVec 32 := Scalar.muli v72 c1_i32_536
  let v997 : BitVec 32 := Scalar.addi c0_i32_537 v996
  v997.toNat
def k0_off10 (d0 : Dev nD) (c0_i32_542 : BitVec 32) : Fin 2 → Nat :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c128_i32 : BitVec 32 := 128#32
  let v107 : BitVec 32 := Scalar.muli v19 c128_i32
  let v108 : BitVec 32 := Scalar.addi c512_i32 v107
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_541 : BitVec 32 := 2#32
  let v1005 : BitVec 32 := Scalar.addi v37 c2_i32_541
  let v1006 : BitVec 32 := Scalar.addi v1005 c0_i32_542
  let c4_i32_543 : BitVec 32 := 4#32
  let v1007 : BitVec 32 := Scalar.remsi v1006 c4_i32_543
  let c32_i32_544 : BitVec 32 := 32#32
  let v1008 : BitVec 32 := Scalar.muli v1007 c32_i32_544
  let v1009 : BitVec 32 := Scalar.addi v108 v1008
  let v1032 : Index := Scalar.indexCast v1009
  let c0_566 : Index := 0#32
  ![v1032.toNat, 0]
def k0_off11 (d0 : Dev nD) (c7_i32_571 : BitVec 32) (c0_i32_572 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_12 : BitVec 32 := 2#32
  let v38 : BitVec 32 := Scalar.remsi v37 c2_i32_12
  let c0_i32_13 : BitVec 32 := 0#32
  let v39 : BitVec 1 := Scalar.cmpi .eq v38 c0_i32_13
  let c2_i32_14 : BitVec 32 := 2#32
  let v40 : BitVec 32 := Scalar.remsi v20 c2_i32_14
  let c1_i32_16 : BitVec 32 := 1#32
  let c2_i32_15 : BitVec 32 := 2#32
  let v41 : BitVec 32 := Scalar.remsi v20 c2_i32_15
  let v42 : BitVec 32 := Scalar.subi c1_i32_16 v41
  let v43 : BitVec 32 := Scalar.select v39 v40 v42
  let c256_i32 : BitVec 32 := 256#32
  let v104 : BitVec 32 := Scalar.muli v43 c256_i32
  let c64_i32 : BitVec 32 := 64#32
  let v105 : BitVec 32 := Scalar.muli v37 c64_i32
  let v106 : BitVec 32 := Scalar.addi v104 v105
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1040 : BitVec 32 := Scalar.addi v19 c7_i32_571
  let v1041 : BitVec 32 := Scalar.subi v1040 c0_i32_572
  let c4_i32_573 : BitVec 32 := 4#32
  let v1042 : BitVec 32 := Scalar.remsi v1041 c4_i32_573
  let c16_i32 : BitVec 32 := 16#32
  let v1043 : BitVec 32 := Scalar.muli v1042 c16_i32
  let v1044 : BitVec 32 := Scalar.addi v106 v1043
  let c0_i32_581 : BitVec 32 := 0#32
  ![v1044.toNat, 0]
def k0_dev14 (d0 : Dev nD) : Nat :=
  let c0_i32_578 : BitVec 32 := 0#32
  let c8_i32_37 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_35 : BitVec 32 := 1#32
  let v73 : BitVec 32 := Scalar.addi v19 c1_i32_35
  let c4_i32_36 : BitVec 32 := 4#32
  let v74 : BitVec 32 := Scalar.remsi v73 c4_i32_36
  let v75 : BitVec 32 := Scalar.muli c8_i32_37 v74
  let c2_i32_38 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v76 : BitVec 32 := Scalar.muli c2_i32_38 v37
  let v77 : BitVec 32 := Scalar.addi v75 v76
  let c2_i32_39 : BitVec 32 := 2#32
  let v78 : BitVec 32 := Scalar.remsi v37 c2_i32_39
  let c0_i32_40 : BitVec 32 := 0#32
  let v79 : BitVec 1 := Scalar.cmpi .eq v78 c0_i32_40
  let c2_i32_12 : BitVec 32 := 2#32
  let v38 : BitVec 32 := Scalar.remsi v37 c2_i32_12
  let c0_i32_13 : BitVec 32 := 0#32
  let v39 : BitVec 1 := Scalar.cmpi .eq v38 c0_i32_13
  let c2_i32_14 : BitVec 32 := 2#32
  let v40 : BitVec 32 := Scalar.remsi v20 c2_i32_14
  let c1_i32_16 : BitVec 32 := 1#32
  let c2_i32_15 : BitVec 32 := 2#32
  let v41 : BitVec 32 := Scalar.remsi v20 c2_i32_15
  let v42 : BitVec 32 := Scalar.subi c1_i32_16 v41
  let v43 : BitVec 32 := Scalar.select v39 v40 v42
  let c1_i32_41 : BitVec 32 := 1#32
  let v80 : BitVec 32 := Scalar.subi c1_i32_41 v43
  let v81 : BitVec 32 := Scalar.select v79 v43 v80
  let v82 : BitVec 32 := Scalar.addi v77 v81
  let c1_i32_577 : BitVec 32 := 1#32
  let v1045 : BitVec 32 := Scalar.muli v82 c1_i32_577
  let v1046 : BitVec 32 := Scalar.addi c0_i32_578 v1045
  v1046.toNat
def k0_dev15 (d0 : Dev nD) : Nat :=
  let c0_i32_593 : BitVec 32 := 0#32
  let c8_i32_30 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v65 : BitVec 32 := Scalar.muli c8_i32_30 v19
  let c2_i32_31 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v63 : BitVec 32 := Scalar.addi v37 c3_i32
  let c4_i32_29 : BitVec 32 := 4#32
  let v64 : BitVec 32 := Scalar.remsi v63 c4_i32_29
  let v66 : BitVec 32 := Scalar.muli c2_i32_31 v64
  let v67 : BitVec 32 := Scalar.addi v65 v66
  let c2_i32_32 : BitVec 32 := 2#32
  let v68 : BitVec 32 := Scalar.remsi v64 c2_i32_32
  let c0_i32_33 : BitVec 32 := 0#32
  let v69 : BitVec 1 := Scalar.cmpi .eq v68 c0_i32_33
  let c2_i32_12 : BitVec 32 := 2#32
  let v38 : BitVec 32 := Scalar.remsi v37 c2_i32_12
  let c0_i32_13 : BitVec 32 := 0#32
  let v39 : BitVec 1 := Scalar.cmpi .eq v38 c0_i32_13
  let c2_i32_14 : BitVec 32 := 2#32
  let v40 : BitVec 32 := Scalar.remsi v20 c2_i32_14
  let c1_i32_16 : BitVec 32 := 1#32
  let c2_i32_15 : BitVec 32 := 2#32
  let v41 : BitVec 32 := Scalar.remsi v20 c2_i32_15
  let v42 : BitVec 32 := Scalar.subi c1_i32_16 v41
  let v43 : BitVec 32 := Scalar.select v39 v40 v42
  let c1_i32_34 : BitVec 32 := 1#32
  let v70 : BitVec 32 := Scalar.subi c1_i32_34 v43
  let v71 : BitVec 32 := Scalar.select v69 v43 v70
  let v72 : BitVec 32 := Scalar.addi v67 v71
  let c1_i32_592 : BitVec 32 := 1#32
  let v1064 : BitVec 32 := Scalar.muli v72 c1_i32_592
  let v1065 : BitVec 32 := Scalar.addi c0_i32_593 v1064
  v1065.toNat
def k0_off12 (d0 : Dev nD) (c0_i32_583 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_12 : BitVec 32 := 2#32
  let v38 : BitVec 32 := Scalar.remsi v37 c2_i32_12
  let c0_i32_13 : BitVec 32 := 0#32
  let v39 : BitVec 1 := Scalar.cmpi .eq v38 c0_i32_13
  let c2_i32_14 : BitVec 32 := 2#32
  let v40 : BitVec 32 := Scalar.remsi v20 c2_i32_14
  let c1_i32_16 : BitVec 32 := 1#32
  let c2_i32_15 : BitVec 32 := 2#32
  let v41 : BitVec 32 := Scalar.remsi v20 c2_i32_15
  let v42 : BitVec 32 := Scalar.subi c1_i32_16 v41
  let v43 : BitVec 32 := Scalar.select v39 v40 v42
  let c256_i32 : BitVec 32 := 256#32
  let v104 : BitVec 32 := Scalar.muli v43 c256_i32
  let c64_i32 : BitVec 32 := 64#32
  let v105 : BitVec 32 := Scalar.muli v37 c64_i32
  let v106 : BitVec 32 := Scalar.addi v104 v105
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c6_i32_582 : BitVec 32 := 6#32
  let v1054 : BitVec 32 := Scalar.addi v19 c6_i32_582
  let v1055 : BitVec 32 := Scalar.subi v1054 c0_i32_583
  let c4_i32_584 : BitVec 32 := 4#32
  let v1056 : BitVec 32 := Scalar.remsi v1055 c4_i32_584
  let c16_i32_585 : BitVec 32 := 16#32
  let v1057 : BitVec 32 := Scalar.muli v1056 c16_i32_585
  let v1058 : BitVec 32 := Scalar.addi v106 v1057
  let v1085 : Index := Scalar.indexCast v1058
  let c0_609 : Index := 0#32
  ![v1085.toNat, 0]
def k0_dev16 (d0 : Dev nD) : Nat :=
  let c0_i32_634 : BitVec 32 := 0#32
  let c8_i32_37 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_35 : BitVec 32 := 1#32
  let v73 : BitVec 32 := Scalar.addi v19 c1_i32_35
  let c4_i32_36 : BitVec 32 := 4#32
  let v74 : BitVec 32 := Scalar.remsi v73 c4_i32_36
  let v75 : BitVec 32 := Scalar.muli c8_i32_37 v74
  let c2_i32_38 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v76 : BitVec 32 := Scalar.muli c2_i32_38 v37
  let v77 : BitVec 32 := Scalar.addi v75 v76
  let c2_i32_39 : BitVec 32 := 2#32
  let v78 : BitVec 32 := Scalar.remsi v37 c2_i32_39
  let c0_i32_40 : BitVec 32 := 0#32
  let v79 : BitVec 1 := Scalar.cmpi .eq v78 c0_i32_40
  let c2_i32_12 : BitVec 32 := 2#32
  let v38 : BitVec 32 := Scalar.remsi v37 c2_i32_12
  let c0_i32_13 : BitVec 32 := 0#32
  let v39 : BitVec 1 := Scalar.cmpi .eq v38 c0_i32_13
  let c2_i32_14 : BitVec 32 := 2#32
  let v40 : BitVec 32 := Scalar.remsi v20 c2_i32_14
  let c1_i32_16 : BitVec 32 := 1#32
  let c2_i32_15 : BitVec 32 := 2#32
  let v41 : BitVec 32 := Scalar.remsi v20 c2_i32_15
  let v42 : BitVec 32 := Scalar.subi c1_i32_16 v41
  let v43 : BitVec 32 := Scalar.select v39 v40 v42
  let c1_i32_41 : BitVec 32 := 1#32
  let v80 : BitVec 32 := Scalar.subi c1_i32_41 v43
  let v81 : BitVec 32 := Scalar.select v79 v43 v80
  let v82 : BitVec 32 := Scalar.addi v77 v81
  let c1_i32_633 : BitVec 32 := 1#32
  let v1113 : BitVec 32 := Scalar.muli v82 c1_i32_633
  let v1114 : BitVec 32 := Scalar.addi c0_i32_634 v1113
  v1114.toNat
def k0_dev17 (d0 : Dev nD) : Nat :=
  let c0_i32_649 : BitVec 32 := 0#32
  let c8_i32_30 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v65 : BitVec 32 := Scalar.muli c8_i32_30 v19
  let c2_i32_31 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v63 : BitVec 32 := Scalar.addi v37 c3_i32
  let c4_i32_29 : BitVec 32 := 4#32
  let v64 : BitVec 32 := Scalar.remsi v63 c4_i32_29
  let v66 : BitVec 32 := Scalar.muli c2_i32_31 v64
  let v67 : BitVec 32 := Scalar.addi v65 v66
  let c2_i32_32 : BitVec 32 := 2#32
  let v68 : BitVec 32 := Scalar.remsi v64 c2_i32_32
  let c0_i32_33 : BitVec 32 := 0#32
  let v69 : BitVec 1 := Scalar.cmpi .eq v68 c0_i32_33
  let c2_i32_12 : BitVec 32 := 2#32
  let v38 : BitVec 32 := Scalar.remsi v37 c2_i32_12
  let c0_i32_13 : BitVec 32 := 0#32
  let v39 : BitVec 1 := Scalar.cmpi .eq v38 c0_i32_13
  let c2_i32_14 : BitVec 32 := 2#32
  let v40 : BitVec 32 := Scalar.remsi v20 c2_i32_14
  let c1_i32_16 : BitVec 32 := 1#32
  let c2_i32_15 : BitVec 32 := 2#32
  let v41 : BitVec 32 := Scalar.remsi v20 c2_i32_15
  let v42 : BitVec 32 := Scalar.subi c1_i32_16 v41
  let v43 : BitVec 32 := Scalar.select v39 v40 v42
  let c1_i32_34 : BitVec 32 := 1#32
  let v70 : BitVec 32 := Scalar.subi c1_i32_34 v43
  let v71 : BitVec 32 := Scalar.select v69 v43 v70
  let v72 : BitVec 32 := Scalar.addi v67 v71
  let c1_i32_648 : BitVec 32 := 1#32
  let v1132 : BitVec 32 := Scalar.muli v72 c1_i32_648
  let v1133 : BitVec 32 := Scalar.addi c0_i32_649 v1132
  v1133.toNat
def k0_dev18 (d0 : Dev nD) : Nat :=
  let c0_i32_690 : BitVec 32 := 0#32
  let c8_i32_37 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_35 : BitVec 32 := 1#32
  let v73 : BitVec 32 := Scalar.addi v19 c1_i32_35
  let c4_i32_36 : BitVec 32 := 4#32
  let v74 : BitVec 32 := Scalar.remsi v73 c4_i32_36
  let v75 : BitVec 32 := Scalar.muli c8_i32_37 v74
  let c2_i32_38 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v76 : BitVec 32 := Scalar.muli c2_i32_38 v37
  let v77 : BitVec 32 := Scalar.addi v75 v76
  let c2_i32_39 : BitVec 32 := 2#32
  let v78 : BitVec 32 := Scalar.remsi v37 c2_i32_39
  let c0_i32_40 : BitVec 32 := 0#32
  let v79 : BitVec 1 := Scalar.cmpi .eq v78 c0_i32_40
  let c2_i32_12 : BitVec 32 := 2#32
  let v38 : BitVec 32 := Scalar.remsi v37 c2_i32_12
  let c0_i32_13 : BitVec 32 := 0#32
  let v39 : BitVec 1 := Scalar.cmpi .eq v38 c0_i32_13
  let c2_i32_14 : BitVec 32 := 2#32
  let v40 : BitVec 32 := Scalar.remsi v20 c2_i32_14
  let c1_i32_16 : BitVec 32 := 1#32
  let c2_i32_15 : BitVec 32 := 2#32
  let v41 : BitVec 32 := Scalar.remsi v20 c2_i32_15
  let v42 : BitVec 32 := Scalar.subi c1_i32_16 v41
  let v43 : BitVec 32 := Scalar.select v39 v40 v42
  let c1_i32_41 : BitVec 32 := 1#32
  let v80 : BitVec 32 := Scalar.subi c1_i32_41 v43
  let v81 : BitVec 32 := Scalar.select v79 v43 v80
  let v82 : BitVec 32 := Scalar.addi v77 v81
  let c1_i32_689 : BitVec 32 := 1#32
  let v1181 : BitVec 32 := Scalar.muli v82 c1_i32_689
  let v1182 : BitVec 32 := Scalar.addi c0_i32_690 v1181
  v1182.toNat
def k0_off13 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c128_i32 : BitVec 32 := 128#32
  let v107 : BitVec 32 := Scalar.muli v19 c128_i32
  let v108 : BitVec 32 := Scalar.addi c512_i32 v107
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c32_i32_64 : BitVec 32 := 32#32
  let v109 : BitVec 32 := Scalar.muli v37 c32_i32_64
  let v110 : BitVec 32 := Scalar.addi v108 v109
  let c1_i32_698 : BitVec 32 := 1#32
  let c2_i32_12 : BitVec 32 := 2#32
  let v38 : BitVec 32 := Scalar.remsi v37 c2_i32_12
  let c0_i32_13 : BitVec 32 := 0#32
  let v39 : BitVec 1 := Scalar.cmpi .eq v38 c0_i32_13
  let c2_i32_14 : BitVec 32 := 2#32
  let v40 : BitVec 32 := Scalar.remsi v20 c2_i32_14
  let c1_i32_16 : BitVec 32 := 1#32
  let c2_i32_15 : BitVec 32 := 2#32
  let v41 : BitVec 32 := Scalar.remsi v20 c2_i32_15
  let v42 : BitVec 32 := Scalar.subi c1_i32_16 v41
  let v43 : BitVec 32 := Scalar.select v39 v40 v42
  let v1195 : BitVec 32 := Scalar.subi c1_i32_698 v43
  let c16_i32_699 : BitVec 32 := 16#32
  let v1196 : BitVec 32 := Scalar.muli v1195 c16_i32_699
  let v1197 : BitVec 32 := Scalar.addi v110 v1196
  let c0_i32_703 : BitVec 32 := 0#32
  ![v1197.toNat, 0]
def k0_dev19 (d0 : Dev nD) : Nat :=
  let c0_i32_702 : BitVec 32 := 0#32
  let c8_i32_18 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v45 : BitVec 32 := Scalar.muli c8_i32_18 v19
  let c2_i32_19 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v46 : BitVec 32 := Scalar.muli c2_i32_19 v37
  let v47 : BitVec 32 := Scalar.addi v45 v46
  let c2_i32_20 : BitVec 32 := 2#32
  let v48 : BitVec 32 := Scalar.remsi v37 c2_i32_20
  let c0_i32_21 : BitVec 32 := 0#32
  let v49 : BitVec 1 := Scalar.cmpi .eq v48 c0_i32_21
  let c1_i32_17 : BitVec 32 := 1#32
  let c2_i32_12 : BitVec 32 := 2#32
  let v38 : BitVec 32 := Scalar.remsi v37 c2_i32_12
  let c0_i32_13 : BitVec 32 := 0#32
  let v39 : BitVec 1 := Scalar.cmpi .eq v38 c0_i32_13
  let c2_i32_14 : BitVec 32 := 2#32
  let v40 : BitVec 32 := Scalar.remsi v20 c2_i32_14
  let c1_i32_16 : BitVec 32 := 1#32
  let c2_i32_15 : BitVec 32 := 2#32
  let v41 : BitVec 32 := Scalar.remsi v20 c2_i32_15
  let v42 : BitVec 32 := Scalar.subi c1_i32_16 v41
  let v43 : BitVec 32 := Scalar.select v39 v40 v42
  let v44 : BitVec 32 := Scalar.subi c1_i32_17 v43
  let c1_i32_22 : BitVec 32 := 1#32
  let v50 : BitVec 32 := Scalar.subi c1_i32_22 v44
  let v51 : BitVec 32 := Scalar.select v49 v44 v50
  let v52 : BitVec 32 := Scalar.addi v47 v51
  let c1_i32_701 : BitVec 32 := 1#32
  let v1198 : BitVec 32 := Scalar.muli v52 c1_i32_701
  let v1199 : BitVec 32 := Scalar.addi c0_i32_702 v1198
  v1199.toNat
def k0_off14 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c128_i32 : BitVec 32 := 128#32
  let v107 : BitVec 32 := Scalar.muli v19 c128_i32
  let v108 : BitVec 32 := Scalar.addi c512_i32 v107
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c32_i32_64 : BitVec 32 := 32#32
  let v109 : BitVec 32 := Scalar.muli v37 c32_i32_64
  let v110 : BitVec 32 := Scalar.addi v108 v109
  let c2_i32_12 : BitVec 32 := 2#32
  let v38 : BitVec 32 := Scalar.remsi v37 c2_i32_12
  let c0_i32_13 : BitVec 32 := 0#32
  let v39 : BitVec 1 := Scalar.cmpi .eq v38 c0_i32_13
  let c2_i32_14 : BitVec 32 := 2#32
  let v40 : BitVec 32 := Scalar.remsi v20 c2_i32_14
  let c1_i32_16 : BitVec 32 := 1#32
  let c2_i32_15 : BitVec 32 := 2#32
  let v41 : BitVec 32 := Scalar.remsi v20 c2_i32_15
  let v42 : BitVec 32 := Scalar.subi c1_i32_16 v41
  let v43 : BitVec 32 := Scalar.select v39 v40 v42
  let c16_i32_704 : BitVec 32 := 16#32
  let v1205 : BitVec 32 := Scalar.muli v43 c16_i32_704
  let v1206 : BitVec 32 := Scalar.addi v110 v1205
  let v1227 : Index := Scalar.indexCast v1206
  let c0_723 : Index := 0#32
  ![v1227.toNat, 0]
def k0_dev20 (d0 : Dev nD) : Nat :=
  let c0_i32_733 : BitVec 32 := 0#32
  let c8_i32_37 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_35 : BitVec 32 := 1#32
  let v73 : BitVec 32 := Scalar.addi v19 c1_i32_35
  let c4_i32_36 : BitVec 32 := 4#32
  let v74 : BitVec 32 := Scalar.remsi v73 c4_i32_36
  let v75 : BitVec 32 := Scalar.muli c8_i32_37 v74
  let c2_i32_38 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v76 : BitVec 32 := Scalar.muli c2_i32_38 v37
  let v77 : BitVec 32 := Scalar.addi v75 v76
  let c2_i32_39 : BitVec 32 := 2#32
  let v78 : BitVec 32 := Scalar.remsi v37 c2_i32_39
  let c0_i32_40 : BitVec 32 := 0#32
  let v79 : BitVec 1 := Scalar.cmpi .eq v78 c0_i32_40
  let c2_i32_12 : BitVec 32 := 2#32
  let v38 : BitVec 32 := Scalar.remsi v37 c2_i32_12
  let c0_i32_13 : BitVec 32 := 0#32
  let v39 : BitVec 1 := Scalar.cmpi .eq v38 c0_i32_13
  let c2_i32_14 : BitVec 32 := 2#32
  let v40 : BitVec 32 := Scalar.remsi v20 c2_i32_14
  let c1_i32_16 : BitVec 32 := 1#32
  let c2_i32_15 : BitVec 32 := 2#32
  let v41 : BitVec 32 := Scalar.remsi v20 c2_i32_15
  let v42 : BitVec 32 := Scalar.subi c1_i32_16 v41
  let v43 : BitVec 32 := Scalar.select v39 v40 v42
  let c1_i32_41 : BitVec 32 := 1#32
  let v80 : BitVec 32 := Scalar.subi c1_i32_41 v43
  let v81 : BitVec 32 := Scalar.select v79 v43 v80
  let v82 : BitVec 32 := Scalar.addi v77 v81
  let c1_i32_732 : BitVec 32 := 1#32
  let v1239 : BitVec 32 := Scalar.muli v82 c1_i32_732
  let v1240 : BitVec 32 := Scalar.addi c0_i32_733 v1239
  v1240.toNat
def k0_off15 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c128_i32 : BitVec 32 := 128#32
  let v107 : BitVec 32 := Scalar.muli v19 c128_i32
  let v108 : BitVec 32 := Scalar.addi c512_i32 v107
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c32_i32_64 : BitVec 32 := 32#32
  let v109 : BitVec 32 := Scalar.muli v37 c32_i32_64
  let v110 : BitVec 32 := Scalar.addi v108 v109
  let c2_i32_12 : BitVec 32 := 2#32
  let v38 : BitVec 32 := Scalar.remsi v37 c2_i32_12
  let c0_i32_13 : BitVec 32 := 0#32
  let v39 : BitVec 1 := Scalar.cmpi .eq v38 c0_i32_13
  let c2_i32_14 : BitVec 32 := 2#32
  let v40 : BitVec 32 := Scalar.remsi v20 c2_i32_14
  let c1_i32_16 : BitVec 32 := 1#32
  let c2_i32_15 : BitVec 32 := 2#32
  let v41 : BitVec 32 := Scalar.remsi v20 c2_i32_15
  let v42 : BitVec 32 := Scalar.subi c1_i32_16 v41
  let v43 : BitVec 32 := Scalar.select v39 v40 v42
  let c16_i32_736 : BitVec 32 := 16#32
  let v1247 : BitVec 32 := Scalar.muli v43 c16_i32_736
  let v1248 : BitVec 32 := Scalar.addi v110 v1247
  let c0_i32_740 : BitVec 32 := 0#32
  ![v1248.toNat, 0]
def k0_dev21 (d0 : Dev nD) : Nat :=
  let c0_i32_739 : BitVec 32 := 0#32
  let c8_i32_18 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v45 : BitVec 32 := Scalar.muli c8_i32_18 v19
  let c2_i32_19 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v46 : BitVec 32 := Scalar.muli c2_i32_19 v37
  let v47 : BitVec 32 := Scalar.addi v45 v46
  let c2_i32_20 : BitVec 32 := 2#32
  let v48 : BitVec 32 := Scalar.remsi v37 c2_i32_20
  let c0_i32_21 : BitVec 32 := 0#32
  let v49 : BitVec 1 := Scalar.cmpi .eq v48 c0_i32_21
  let c1_i32_17 : BitVec 32 := 1#32
  let c2_i32_12 : BitVec 32 := 2#32
  let v38 : BitVec 32 := Scalar.remsi v37 c2_i32_12
  let c0_i32_13 : BitVec 32 := 0#32
  let v39 : BitVec 1 := Scalar.cmpi .eq v38 c0_i32_13
  let c2_i32_14 : BitVec 32 := 2#32
  let v40 : BitVec 32 := Scalar.remsi v20 c2_i32_14
  let c1_i32_16 : BitVec 32 := 1#32
  let c2_i32_15 : BitVec 32 := 2#32
  let v41 : BitVec 32 := Scalar.remsi v20 c2_i32_15
  let v42 : BitVec 32 := Scalar.subi c1_i32_16 v41
  let v43 : BitVec 32 := Scalar.select v39 v40 v42
  let v44 : BitVec 32 := Scalar.subi c1_i32_17 v43
  let c1_i32_22 : BitVec 32 := 1#32
  let v50 : BitVec 32 := Scalar.subi c1_i32_22 v44
  let v51 : BitVec 32 := Scalar.select v49 v44 v50
  let v52 : BitVec 32 := Scalar.addi v47 v51
  let c1_i32_738 : BitVec 32 := 1#32
  let v1249 : BitVec 32 := Scalar.muli v52 c1_i32_738
  let v1250 : BitVec 32 := Scalar.addi c0_i32_739 v1249
  v1250.toNat
def k0_dev22 (d0 : Dev nD) : Nat :=
  let c0_i32_761 : BitVec 32 := 0#32
  let c8_i32_37 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_35 : BitVec 32 := 1#32
  let v73 : BitVec 32 := Scalar.addi v19 c1_i32_35
  let c4_i32_36 : BitVec 32 := 4#32
  let v74 : BitVec 32 := Scalar.remsi v73 c4_i32_36
  let v75 : BitVec 32 := Scalar.muli c8_i32_37 v74
  let c2_i32_38 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v76 : BitVec 32 := Scalar.muli c2_i32_38 v37
  let v77 : BitVec 32 := Scalar.addi v75 v76
  let c2_i32_39 : BitVec 32 := 2#32
  let v78 : BitVec 32 := Scalar.remsi v37 c2_i32_39
  let c0_i32_40 : BitVec 32 := 0#32
  let v79 : BitVec 1 := Scalar.cmpi .eq v78 c0_i32_40
  let c2_i32_12 : BitVec 32 := 2#32
  let v38 : BitVec 32 := Scalar.remsi v37 c2_i32_12
  let c0_i32_13 : BitVec 32 := 0#32
  let v39 : BitVec 1 := Scalar.cmpi .eq v38 c0_i32_13
  let c2_i32_14 : BitVec 32 := 2#32
  let v40 : BitVec 32 := Scalar.remsi v20 c2_i32_14
  let c1_i32_16 : BitVec 32 := 1#32
  let c2_i32_15 : BitVec 32 := 2#32
  let v41 : BitVec 32 := Scalar.remsi v20 c2_i32_15
  let v42 : BitVec 32 := Scalar.subi c1_i32_16 v41
  let v43 : BitVec 32 := Scalar.select v39 v40 v42
  let c1_i32_41 : BitVec 32 := 1#32
  let v80 : BitVec 32 := Scalar.subi c1_i32_41 v43
  let v81 : BitVec 32 := Scalar.select v79 v43 v80
  let v82 : BitVec 32 := Scalar.addi v77 v81
  let c1_i32_760 : BitVec 32 := 1#32
  let v1274 : BitVec 32 := Scalar.muli v82 c1_i32_760
  let v1275 : BitVec 32 := Scalar.addi c0_i32_761 v1274
  v1275.toNat
def k0_off16 (d0 : Dev nD) (c0_i32_764 : BitVec 32) : Fin 2 → Nat :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c128_i32 : BitVec 32 := 128#32
  let v107 : BitVec 32 := Scalar.muli v19 c128_i32
  let v108 : BitVec 32 := Scalar.addi c512_i32 v107
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v1282 : BitVec 32 := Scalar.addi v37 c0_i32_764
  let c4_i32_765 : BitVec 32 := 4#32
  let v1283 : BitVec 32 := Scalar.remsi v1282 c4_i32_765
  let c32_i32_766 : BitVec 32 := 32#32
  let v1284 : BitVec 32 := Scalar.muli v1283 c32_i32_766
  let v1285 : BitVec 32 := Scalar.addi v108 v1284
  let c0_i32_770 : BitVec 32 := 0#32
  ![v1285.toNat, 0]
def k0_dev23 (d0 : Dev nD) : Nat :=
  let c0_i32_769 : BitVec 32 := 0#32
  let c8_i32_30 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v65 : BitVec 32 := Scalar.muli c8_i32_30 v19
  let c2_i32_31 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v63 : BitVec 32 := Scalar.addi v37 c3_i32
  let c4_i32_29 : BitVec 32 := 4#32
  let v64 : BitVec 32 := Scalar.remsi v63 c4_i32_29
  let v66 : BitVec 32 := Scalar.muli c2_i32_31 v64
  let v67 : BitVec 32 := Scalar.addi v65 v66
  let c2_i32_32 : BitVec 32 := 2#32
  let v68 : BitVec 32 := Scalar.remsi v64 c2_i32_32
  let c0_i32_33 : BitVec 32 := 0#32
  let v69 : BitVec 1 := Scalar.cmpi .eq v68 c0_i32_33
  let c2_i32_12 : BitVec 32 := 2#32
  let v38 : BitVec 32 := Scalar.remsi v37 c2_i32_12
  let c0_i32_13 : BitVec 32 := 0#32
  let v39 : BitVec 1 := Scalar.cmpi .eq v38 c0_i32_13
  let c2_i32_14 : BitVec 32 := 2#32
  let v40 : BitVec 32 := Scalar.remsi v20 c2_i32_14
  let c1_i32_16 : BitVec 32 := 1#32
  let c2_i32_15 : BitVec 32 := 2#32
  let v41 : BitVec 32 := Scalar.remsi v20 c2_i32_15
  let v42 : BitVec 32 := Scalar.subi c1_i32_16 v41
  let v43 : BitVec 32 := Scalar.select v39 v40 v42
  let c1_i32_34 : BitVec 32 := 1#32
  let v70 : BitVec 32 := Scalar.subi c1_i32_34 v43
  let v71 : BitVec 32 := Scalar.select v69 v43 v70
  let v72 : BitVec 32 := Scalar.addi v67 v71
  let c1_i32_768 : BitVec 32 := 1#32
  let v1286 : BitVec 32 := Scalar.muli v72 c1_i32_768
  let v1287 : BitVec 32 := Scalar.addi c0_i32_769 v1286
  v1287.toNat
def k0_dev24 (d0 : Dev nD) : Nat :=
  let c0_i32_790 : BitVec 32 := 0#32
  let c8_i32_37 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_35 : BitVec 32 := 1#32
  let v73 : BitVec 32 := Scalar.addi v19 c1_i32_35
  let c4_i32_36 : BitVec 32 := 4#32
  let v74 : BitVec 32 := Scalar.remsi v73 c4_i32_36
  let v75 : BitVec 32 := Scalar.muli c8_i32_37 v74
  let c2_i32_38 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v76 : BitVec 32 := Scalar.muli c2_i32_38 v37
  let v77 : BitVec 32 := Scalar.addi v75 v76
  let c2_i32_39 : BitVec 32 := 2#32
  let v78 : BitVec 32 := Scalar.remsi v37 c2_i32_39
  let c0_i32_40 : BitVec 32 := 0#32
  let v79 : BitVec 1 := Scalar.cmpi .eq v78 c0_i32_40
  let c2_i32_12 : BitVec 32 := 2#32
  let v38 : BitVec 32 := Scalar.remsi v37 c2_i32_12
  let c0_i32_13 : BitVec 32 := 0#32
  let v39 : BitVec 1 := Scalar.cmpi .eq v38 c0_i32_13
  let c2_i32_14 : BitVec 32 := 2#32
  let v40 : BitVec 32 := Scalar.remsi v20 c2_i32_14
  let c1_i32_16 : BitVec 32 := 1#32
  let c2_i32_15 : BitVec 32 := 2#32
  let v41 : BitVec 32 := Scalar.remsi v20 c2_i32_15
  let v42 : BitVec 32 := Scalar.subi c1_i32_16 v41
  let v43 : BitVec 32 := Scalar.select v39 v40 v42
  let c1_i32_41 : BitVec 32 := 1#32
  let v80 : BitVec 32 := Scalar.subi c1_i32_41 v43
  let v81 : BitVec 32 := Scalar.select v79 v43 v80
  let v82 : BitVec 32 := Scalar.addi v77 v81
  let c1_i32_789 : BitVec 32 := 1#32
  let v1311 : BitVec 32 := Scalar.muli v82 c1_i32_789
  let v1312 : BitVec 32 := Scalar.addi c0_i32_790 v1311
  v1312.toNat
def k0_dev25 (d0 : Dev nD) : Nat :=
  let c0_i32_798 : BitVec 32 := 0#32
  let c8_i32_30 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v65 : BitVec 32 := Scalar.muli c8_i32_30 v19
  let c2_i32_31 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v63 : BitVec 32 := Scalar.addi v37 c3_i32
  let c4_i32_29 : BitVec 32 := 4#32
  let v64 : BitVec 32 := Scalar.remsi v63 c4_i32_29
  let v66 : BitVec 32 := Scalar.muli c2_i32_31 v64
  let v67 : BitVec 32 := Scalar.addi v65 v66
  let c2_i32_32 : BitVec 32 := 2#32
  let v68 : BitVec 32 := Scalar.remsi v64 c2_i32_32
  let c0_i32_33 : BitVec 32 := 0#32
  let v69 : BitVec 1 := Scalar.cmpi .eq v68 c0_i32_33
  let c2_i32_12 : BitVec 32 := 2#32
  let v38 : BitVec 32 := Scalar.remsi v37 c2_i32_12
  let c0_i32_13 : BitVec 32 := 0#32
  let v39 : BitVec 1 := Scalar.cmpi .eq v38 c0_i32_13
  let c2_i32_14 : BitVec 32 := 2#32
  let v40 : BitVec 32 := Scalar.remsi v20 c2_i32_14
  let c1_i32_16 : BitVec 32 := 1#32
  let c2_i32_15 : BitVec 32 := 2#32
  let v41 : BitVec 32 := Scalar.remsi v20 c2_i32_15
  let v42 : BitVec 32 := Scalar.subi c1_i32_16 v41
  let v43 : BitVec 32 := Scalar.select v39 v40 v42
  let c1_i32_34 : BitVec 32 := 1#32
  let v70 : BitVec 32 := Scalar.subi c1_i32_34 v43
  let v71 : BitVec 32 := Scalar.select v69 v43 v70
  let v72 : BitVec 32 := Scalar.addi v67 v71
  let c1_i32_797 : BitVec 32 := 1#32
  let v1323 : BitVec 32 := Scalar.muli v72 c1_i32_797
  let v1324 : BitVec 32 := Scalar.addi c0_i32_798 v1323
  v1324.toNat
def k0_dev26 (d0 : Dev nD) : Nat :=
  let c0_i32_819 : BitVec 32 := 0#32
  let c8_i32_24 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v55 : BitVec 32 := Scalar.muli c8_i32_24 v19
  let c2_i32_25 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_23 : BitVec 32 := 1#32
  let v53 : BitVec 32 := Scalar.addi v37 c1_i32_23
  let c4_i32 : BitVec 32 := 4#32
  let v54 : BitVec 32 := Scalar.remsi v53 c4_i32
  let v56 : BitVec 32 := Scalar.muli c2_i32_25 v54
  let v57 : BitVec 32 := Scalar.addi v55 v56
  let c2_i32_26 : BitVec 32 := 2#32
  let v58 : BitVec 32 := Scalar.remsi v54 c2_i32_26
  let c0_i32_27 : BitVec 32 := 0#32
  let v59 : BitVec 1 := Scalar.cmpi .eq v58 c0_i32_27
  let c2_i32_12 : BitVec 32 := 2#32
  let v38 : BitVec 32 := Scalar.remsi v37 c2_i32_12
  let c0_i32_13 : BitVec 32 := 0#32
  let v39 : BitVec 1 := Scalar.cmpi .eq v38 c0_i32_13
  let c2_i32_14 : BitVec 32 := 2#32
  let v40 : BitVec 32 := Scalar.remsi v20 c2_i32_14
  let c1_i32_16 : BitVec 32 := 1#32
  let c2_i32_15 : BitVec 32 := 2#32
  let v41 : BitVec 32 := Scalar.remsi v20 c2_i32_15
  let v42 : BitVec 32 := Scalar.subi c1_i32_16 v41
  let v43 : BitVec 32 := Scalar.select v39 v40 v42
  let c1_i32_28 : BitVec 32 := 1#32
  let v60 : BitVec 32 := Scalar.subi c1_i32_28 v43
  let v61 : BitVec 32 := Scalar.select v59 v43 v60
  let v62 : BitVec 32 := Scalar.addi v57 v61
  let c1_i32_818 : BitVec 32 := 1#32
  let v1348 : BitVec 32 := Scalar.muli v62 c1_i32_818
  let v1349 : BitVec 32 := Scalar.addi c0_i32_819 v1348
  v1349.toNat
def k0_dev27 (d0 : Dev nD) : Nat :=
  let c0_i32_827 : BitVec 32 := 0#32
  let c8_i32_30 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v65 : BitVec 32 := Scalar.muli c8_i32_30 v19
  let c2_i32_31 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v63 : BitVec 32 := Scalar.addi v37 c3_i32
  let c4_i32_29 : BitVec 32 := 4#32
  let v64 : BitVec 32 := Scalar.remsi v63 c4_i32_29
  let v66 : BitVec 32 := Scalar.muli c2_i32_31 v64
  let v67 : BitVec 32 := Scalar.addi v65 v66
  let c2_i32_32 : BitVec 32 := 2#32
  let v68 : BitVec 32 := Scalar.remsi v64 c2_i32_32
  let c0_i32_33 : BitVec 32 := 0#32
  let v69 : BitVec 1 := Scalar.cmpi .eq v68 c0_i32_33
  let c2_i32_12 : BitVec 32 := 2#32
  let v38 : BitVec 32 := Scalar.remsi v37 c2_i32_12
  let c0_i32_13 : BitVec 32 := 0#32
  let v39 : BitVec 1 := Scalar.cmpi .eq v38 c0_i32_13
  let c2_i32_14 : BitVec 32 := 2#32
  let v40 : BitVec 32 := Scalar.remsi v20 c2_i32_14
  let c1_i32_16 : BitVec 32 := 1#32
  let c2_i32_15 : BitVec 32 := 2#32
  let v41 : BitVec 32 := Scalar.remsi v20 c2_i32_15
  let v42 : BitVec 32 := Scalar.subi c1_i32_16 v41
  let v43 : BitVec 32 := Scalar.select v39 v40 v42
  let c1_i32_34 : BitVec 32 := 1#32
  let v70 : BitVec 32 := Scalar.subi c1_i32_34 v43
  let v71 : BitVec 32 := Scalar.select v69 v43 v70
  let v72 : BitVec 32 := Scalar.addi v67 v71
  let c1_i32_826 : BitVec 32 := 1#32
  let v1360 : BitVec 32 := Scalar.muli v72 c1_i32_826
  let v1361 : BitVec 32 := Scalar.addi c0_i32_827 v1360
  v1361.toNat
def k0_dev28 (d0 : Dev nD) : Nat :=
  let c0_i32_848 : BitVec 32 := 0#32
  let c8_i32_24 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v55 : BitVec 32 := Scalar.muli c8_i32_24 v19
  let c2_i32_25 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_23 : BitVec 32 := 1#32
  let v53 : BitVec 32 := Scalar.addi v37 c1_i32_23
  let c4_i32 : BitVec 32 := 4#32
  let v54 : BitVec 32 := Scalar.remsi v53 c4_i32
  let v56 : BitVec 32 := Scalar.muli c2_i32_25 v54
  let v57 : BitVec 32 := Scalar.addi v55 v56
  let c2_i32_26 : BitVec 32 := 2#32
  let v58 : BitVec 32 := Scalar.remsi v54 c2_i32_26
  let c0_i32_27 : BitVec 32 := 0#32
  let v59 : BitVec 1 := Scalar.cmpi .eq v58 c0_i32_27
  let c2_i32_12 : BitVec 32 := 2#32
  let v38 : BitVec 32 := Scalar.remsi v37 c2_i32_12
  let c0_i32_13 : BitVec 32 := 0#32
  let v39 : BitVec 1 := Scalar.cmpi .eq v38 c0_i32_13
  let c2_i32_14 : BitVec 32 := 2#32
  let v40 : BitVec 32 := Scalar.remsi v20 c2_i32_14
  let c1_i32_16 : BitVec 32 := 1#32
  let c2_i32_15 : BitVec 32 := 2#32
  let v41 : BitVec 32 := Scalar.remsi v20 c2_i32_15
  let v42 : BitVec 32 := Scalar.subi c1_i32_16 v41
  let v43 : BitVec 32 := Scalar.select v39 v40 v42
  let c1_i32_28 : BitVec 32 := 1#32
  let v60 : BitVec 32 := Scalar.subi c1_i32_28 v43
  let v61 : BitVec 32 := Scalar.select v59 v43 v60
  let v62 : BitVec 32 := Scalar.addi v57 v61
  let c1_i32_847 : BitVec 32 := 1#32
  let v1385 : BitVec 32 := Scalar.muli v62 c1_i32_847
  let v1386 : BitVec 32 := Scalar.addi c0_i32_848 v1385
  v1386.toNat
def k0_dev29 (d0 : Dev nD) : Nat :=
  let c0_i32_857 : BitVec 32 := 0#32
  let c8_i32_44 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_42 : BitVec 32 := 3#32
  let v83 : BitVec 32 := Scalar.addi v19 c3_i32_42
  let c4_i32_43 : BitVec 32 := 4#32
  let v84 : BitVec 32 := Scalar.remsi v83 c4_i32_43
  let v85 : BitVec 32 := Scalar.muli c8_i32_44 v84
  let c2_i32_45 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v86 : BitVec 32 := Scalar.muli c2_i32_45 v37
  let v87 : BitVec 32 := Scalar.addi v85 v86
  let c2_i32_46 : BitVec 32 := 2#32
  let v88 : BitVec 32 := Scalar.remsi v37 c2_i32_46
  let c0_i32_47 : BitVec 32 := 0#32
  let v89 : BitVec 1 := Scalar.cmpi .eq v88 c0_i32_47
  let c2_i32_12 : BitVec 32 := 2#32
  let v38 : BitVec 32 := Scalar.remsi v37 c2_i32_12
  let c0_i32_13 : BitVec 32 := 0#32
  let v39 : BitVec 1 := Scalar.cmpi .eq v38 c0_i32_13
  let c2_i32_14 : BitVec 32 := 2#32
  let v40 : BitVec 32 := Scalar.remsi v20 c2_i32_14
  let c1_i32_16 : BitVec 32 := 1#32
  let c2_i32_15 : BitVec 32 := 2#32
  let v41 : BitVec 32 := Scalar.remsi v20 c2_i32_15
  let v42 : BitVec 32 := Scalar.subi c1_i32_16 v41
  let v43 : BitVec 32 := Scalar.select v39 v40 v42
  let c1_i32_48 : BitVec 32 := 1#32
  let v90 : BitVec 32 := Scalar.subi c1_i32_48 v43
  let v91 : BitVec 32 := Scalar.select v89 v43 v90
  let v92 : BitVec 32 := Scalar.addi v87 v91
  let c1_i32_856 : BitVec 32 := 1#32
  let v1397 : BitVec 32 := Scalar.muli v92 c1_i32_856
  let v1398 : BitVec 32 := Scalar.addi c0_i32_857 v1397
  v1398.toNat
def k0_dev30 (d0 : Dev nD) : Nat :=
  let c0_i32_878 : BitVec 32 := 0#32
  let c8_i32_24 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v55 : BitVec 32 := Scalar.muli c8_i32_24 v19
  let c2_i32_25 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_23 : BitVec 32 := 1#32
  let v53 : BitVec 32 := Scalar.addi v37 c1_i32_23
  let c4_i32 : BitVec 32 := 4#32
  let v54 : BitVec 32 := Scalar.remsi v53 c4_i32
  let v56 : BitVec 32 := Scalar.muli c2_i32_25 v54
  let v57 : BitVec 32 := Scalar.addi v55 v56
  let c2_i32_26 : BitVec 32 := 2#32
  let v58 : BitVec 32 := Scalar.remsi v54 c2_i32_26
  let c0_i32_27 : BitVec 32 := 0#32
  let v59 : BitVec 1 := Scalar.cmpi .eq v58 c0_i32_27
  let c2_i32_12 : BitVec 32 := 2#32
  let v38 : BitVec 32 := Scalar.remsi v37 c2_i32_12
  let c0_i32_13 : BitVec 32 := 0#32
  let v39 : BitVec 1 := Scalar.cmpi .eq v38 c0_i32_13
  let c2_i32_14 : BitVec 32 := 2#32
  let v40 : BitVec 32 := Scalar.remsi v20 c2_i32_14
  let c1_i32_16 : BitVec 32 := 1#32
  let c2_i32_15 : BitVec 32 := 2#32
  let v41 : BitVec 32 := Scalar.remsi v20 c2_i32_15
  let v42 : BitVec 32 := Scalar.subi c1_i32_16 v41
  let v43 : BitVec 32 := Scalar.select v39 v40 v42
  let c1_i32_28 : BitVec 32 := 1#32
  let v60 : BitVec 32 := Scalar.subi c1_i32_28 v43
  let v61 : BitVec 32 := Scalar.select v59 v43 v60
  let v62 : BitVec 32 := Scalar.addi v57 v61
  let c1_i32_877 : BitVec 32 := 1#32
  let v1422 : BitVec 32 := Scalar.muli v62 c1_i32_877
  let v1423 : BitVec 32 := Scalar.addi c0_i32_878 v1422
  v1423.toNat
def k0_dev31 (d0 : Dev nD) : Nat :=
  let c0_i32_887 : BitVec 32 := 0#32
  let c8_i32_44 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_42 : BitVec 32 := 3#32
  let v83 : BitVec 32 := Scalar.addi v19 c3_i32_42
  let c4_i32_43 : BitVec 32 := 4#32
  let v84 : BitVec 32 := Scalar.remsi v83 c4_i32_43
  let v85 : BitVec 32 := Scalar.muli c8_i32_44 v84
  let c2_i32_45 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v86 : BitVec 32 := Scalar.muli c2_i32_45 v37
  let v87 : BitVec 32 := Scalar.addi v85 v86
  let c2_i32_46 : BitVec 32 := 2#32
  let v88 : BitVec 32 := Scalar.remsi v37 c2_i32_46
  let c0_i32_47 : BitVec 32 := 0#32
  let v89 : BitVec 1 := Scalar.cmpi .eq v88 c0_i32_47
  let c2_i32_12 : BitVec 32 := 2#32
  let v38 : BitVec 32 := Scalar.remsi v37 c2_i32_12
  let c0_i32_13 : BitVec 32 := 0#32
  let v39 : BitVec 1 := Scalar.cmpi .eq v38 c0_i32_13
  let c2_i32_14 : BitVec 32 := 2#32
  let v40 : BitVec 32 := Scalar.remsi v20 c2_i32_14
  let c1_i32_16 : BitVec 32 := 1#32
  let c2_i32_15 : BitVec 32 := 2#32
  let v41 : BitVec 32 := Scalar.remsi v20 c2_i32_15
  let v42 : BitVec 32 := Scalar.subi c1_i32_16 v41
  let v43 : BitVec 32 := Scalar.select v39 v40 v42
  let c1_i32_48 : BitVec 32 := 1#32
  let v90 : BitVec 32 := Scalar.subi c1_i32_48 v43
  let v91 : BitVec 32 := Scalar.select v89 v43 v90
  let v92 : BitVec 32 := Scalar.addi v87 v91
  let c1_i32_886 : BitVec 32 := 1#32
  let v1434 : BitVec 32 := Scalar.muli v92 c1_i32_886
  let v1435 : BitVec 32 := Scalar.addi c0_i32_887 v1434
  v1435.toNat
def k0_off17 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_12 : BitVec 32 := 2#32
  let v38 : BitVec 32 := Scalar.remsi v37 c2_i32_12
  let c0_i32_13 : BitVec 32 := 0#32
  let v39 : BitVec 1 := Scalar.cmpi .eq v38 c0_i32_13
  let c2_i32_14 : BitVec 32 := 2#32
  let v40 : BitVec 32 := Scalar.remsi v20 c2_i32_14
  let c1_i32_16 : BitVec 32 := 1#32
  let c2_i32_15 : BitVec 32 := 2#32
  let v41 : BitVec 32 := Scalar.remsi v20 c2_i32_15
  let v42 : BitVec 32 := Scalar.subi c1_i32_16 v41
  let v43 : BitVec 32 := Scalar.select v39 v40 v42
  let c256_i32 : BitVec 32 := 256#32
  let v104 : BitVec 32 := Scalar.muli v43 c256_i32
  let c0_i32_905 : BitVec 32 := 0#32
  ![v104.toNat, 0]
def k0_dev32 (d0 : Dev nD) : Nat :=
  let c0_i32_904 : BitVec 32 := 0#32
  let c8_i32_18 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v45 : BitVec 32 := Scalar.muli c8_i32_18 v19
  let c2_i32_19 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v46 : BitVec 32 := Scalar.muli c2_i32_19 v37
  let v47 : BitVec 32 := Scalar.addi v45 v46
  let c2_i32_20 : BitVec 32 := 2#32
  let v48 : BitVec 32 := Scalar.remsi v37 c2_i32_20
  let c0_i32_21 : BitVec 32 := 0#32
  let v49 : BitVec 1 := Scalar.cmpi .eq v48 c0_i32_21
  let c1_i32_17 : BitVec 32 := 1#32
  let c2_i32_12 : BitVec 32 := 2#32
  let v38 : BitVec 32 := Scalar.remsi v37 c2_i32_12
  let c0_i32_13 : BitVec 32 := 0#32
  let v39 : BitVec 1 := Scalar.cmpi .eq v38 c0_i32_13
  let c2_i32_14 : BitVec 32 := 2#32
  let v40 : BitVec 32 := Scalar.remsi v20 c2_i32_14
  let c1_i32_16 : BitVec 32 := 1#32
  let c2_i32_15 : BitVec 32 := 2#32
  let v41 : BitVec 32 := Scalar.remsi v20 c2_i32_15
  let v42 : BitVec 32 := Scalar.subi c1_i32_16 v41
  let v43 : BitVec 32 := Scalar.select v39 v40 v42
  let v44 : BitVec 32 := Scalar.subi c1_i32_17 v43
  let c1_i32_22 : BitVec 32 := 1#32
  let v50 : BitVec 32 := Scalar.subi c1_i32_22 v44
  let v51 : BitVec 32 := Scalar.select v49 v44 v50
  let v52 : BitVec 32 := Scalar.addi v47 v51
  let c1_i32_903 : BitVec 32 := 1#32
  let v1454 : BitVec 32 := Scalar.muli v52 c1_i32_903
  let v1455 : BitVec 32 := Scalar.addi c0_i32_904 v1454
  v1455.toNat
def k0_dev33 (d0 : Dev nD) : Nat :=
  let c0_i32_913 : BitVec 32 := 0#32
  let c8_i32_44 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_42 : BitVec 32 := 3#32
  let v83 : BitVec 32 := Scalar.addi v19 c3_i32_42
  let c4_i32_43 : BitVec 32 := 4#32
  let v84 : BitVec 32 := Scalar.remsi v83 c4_i32_43
  let v85 : BitVec 32 := Scalar.muli c8_i32_44 v84
  let c2_i32_45 : BitVec 32 := 2#32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v86 : BitVec 32 := Scalar.muli c2_i32_45 v37
  let v87 : BitVec 32 := Scalar.addi v85 v86
  let c2_i32_46 : BitVec 32 := 2#32
  let v88 : BitVec 32 := Scalar.remsi v37 c2_i32_46
  let c0_i32_47 : BitVec 32 := 0#32
  let v89 : BitVec 1 := Scalar.cmpi .eq v88 c0_i32_47
  let c2_i32_12 : BitVec 32 := 2#32
  let v38 : BitVec 32 := Scalar.remsi v37 c2_i32_12
  let c0_i32_13 : BitVec 32 := 0#32
  let v39 : BitVec 1 := Scalar.cmpi .eq v38 c0_i32_13
  let c2_i32_14 : BitVec 32 := 2#32
  let v40 : BitVec 32 := Scalar.remsi v20 c2_i32_14
  let c1_i32_16 : BitVec 32 := 1#32
  let c2_i32_15 : BitVec 32 := 2#32
  let v41 : BitVec 32 := Scalar.remsi v20 c2_i32_15
  let v42 : BitVec 32 := Scalar.subi c1_i32_16 v41
  let v43 : BitVec 32 := Scalar.select v39 v40 v42
  let c1_i32_48 : BitVec 32 := 1#32
  let v90 : BitVec 32 := Scalar.subi c1_i32_48 v43
  let v91 : BitVec 32 := Scalar.select v89 v43 v90
  let v92 : BitVec 32 := Scalar.addi v87 v91
  let c1_i32_912 : BitVec 32 := 1#32
  let v1466 : BitVec 32 := Scalar.muli v92 c1_i32_912
  let v1467 : BitVec 32 := Scalar.addi c0_i32_913 v1466
  v1467.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S4x256x1024 : Shape := ⟨3, ![4, 256, 1024]⟩
abbrev S1024x32768 : Shape := ⟨2, ![1024, 32768]⟩
abbrev S1024x8192 : Shape := ⟨2, ![1024, 8192]⟩
abbrev S32768x1024 : Shape := ⟨2, ![32768, 1024]⟩
abbrev S1024x1024 : Shape := ⟨2, ![1024, 1024]⟩
abbrev S4x256x256x128 : Shape := ⟨4, ![4, 256, 256, 128]⟩
abbrev S4x256x64x128 : Shape := ⟨4, ![4, 256, 64, 128]⟩
abbrev S4x256x64x4x128 : Shape := ⟨5, ![4, 256, 64, 4, 128]⟩
abbrev S4x256x256x256 : Shape := ⟨4, ![4, 256, 256, 256]⟩
abbrev S_ : Shape := ⟨0, ![]⟩
abbrev S4x256x256 : Shape := ⟨3, ![4, 256, 256]⟩
abbrev S4x256x256x1 : Shape := ⟨4, ![4, 256, 256, 1]⟩
abbrev S4x256x128x256 : Shape := ⟨4, ![4, 256, 128, 256]⟩

abbrev nBuf : Space → Nat
  | .hbm => 39
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024x32768, .f32⟩
  | .hbm, ⟨2, _⟩ => ⟨S1024x8192, .f32⟩
  | .hbm, ⟨3, _⟩ => ⟨S1024x8192, .f32⟩
  | .hbm, ⟨4, _⟩ => ⟨S32768x1024, .f32⟩
  | .hbm, ⟨5, _⟩ => ⟨S1024x1024, .f32⟩
  | .hbm, ⟨6, _⟩ => ⟨S1024x32768, .f32⟩
  | .hbm, ⟨7, _⟩ => ⟨S4x256x256x128, .f32⟩
  | .hbm, ⟨8, _⟩ => ⟨S1024x1024, .f32⟩
  | .hbm, ⟨9, _⟩ => ⟨S1024x8192, .f32⟩
  | .hbm, ⟨10, _⟩ => ⟨S4x256x64x128, .f32⟩
  | .hbm, ⟨11, _⟩ => ⟨S1024x1024, .f32⟩
  | .hbm, ⟨12, _⟩ => ⟨S1024x8192, .f32⟩
  | .hbm, ⟨13, _⟩ => ⟨S4x256x64x128, .f32⟩
  | .hbm, ⟨14, _⟩ => ⟨S4x256x64x4x128, .f32⟩
  | .hbm, ⟨15, _⟩ => ⟨S4x256x256x128, .f32⟩
  | .hbm, ⟨16, _⟩ => ⟨S4x256x64x4x128, .f32⟩
  | .hbm, ⟨17, _⟩ => ⟨S4x256x256x128, .f32⟩
  | .hbm, ⟨18, _⟩ => ⟨S4x256x256x256, .f32⟩
  | .hbm, ⟨19, _⟩ => ⟨S_, .f32⟩
  | .hbm, ⟨20, _⟩ => ⟨S4x256x256x256, .f32⟩
  | .hbm, ⟨21, _⟩ => ⟨S4x256x256x256, .f32⟩
  | .hbm, ⟨22, _⟩ => ⟨S_, .f32⟩
  | .hbm, ⟨23, _⟩ => ⟨S4x256x256, .f32⟩
  | .hbm, ⟨24, _⟩ => ⟨S4x256x256x1, .f32⟩
  | .hbm, ⟨25, _⟩ => ⟨S4x256x256x256, .f32⟩
  | .hbm, ⟨26, _⟩ => ⟨S4x256x256x256, .f32⟩
  | .hbm, ⟨27, _⟩ => ⟨S4x256x256x256, .f32⟩
  | .hbm, ⟨28, _⟩ => ⟨S_, .f32⟩
  | .hbm, ⟨29, _⟩ => ⟨S4x256x256, .f32⟩
  | .hbm, ⟨30, _⟩ => ⟨S4x256x256x1, .f32⟩
  | .hbm, ⟨31, _⟩ => ⟨S4x256x128x256, .f32⟩
  | .hbm, ⟨32, _⟩ => ⟨S4x256x256x128, .f32⟩
  | .hbm, ⟨33, _⟩ => ⟨S4x256x256x1, .f32⟩
  | .hbm, ⟨34, _⟩ => ⟨S4x256x256x128, .f32⟩
  | .hbm, ⟨35, _⟩ => ⟨S4x256x256x128, .f32⟩
  | .hbm, ⟨36, _⟩ => ⟨S1024x32768, .f32⟩
  | .hbm, ⟨37, _⟩ => ⟨S1024x1024, .f32⟩
  | .hbm, ⟨38, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== Proof.Topo.lean ====
/-
  The mesh the all-reduce runs on: 32 devices on a grid 2 × 4 × 4 numbered along a snake in the first axis, the five
  neighbours of a device, which neighbour each of the 28 transfers goes to, which 16-row chunks of the result it moves,
  and that the printed device numbers and row offsets are these.
-/
module

public import proofs.«01_k».proof.Proof.Gen.KernelIdeal.Launch

@[expose] public section

noncomputable section

namespace Cert.KernelIdeal.AR

open Idealize.ShloMosaic Idealize.ShloMosaic.TcCoe

/-- Coordinates of a device. -/
def px (d : Dev nD) : ℕ := if d.val / 2 % 2 = 0 then d.val % 2 else 1 - d.val % 2
def py (d : Dev nD) : ℕ := d.val / 2 % 4
def pz (d : Dev nD) : ℕ := d.val / 8
/-- The device at given coordinates. -/
def at3 (x y z : ℕ) : Dev nD := ⟨(8 * z + 2 * y + (if y % 2 = 0 then x else 1 - x)) % 32, Nat.mod_lt _ (by decide)⟩

/-- The five neighbours: across x; forward and back along the y ring; forward and back along the z ring. -/
def nb (j : Fin 5) (d : Dev nD) : Dev nD :=
  match j with
  | 0 => at3 (1 - px d) (py d) (pz d)
  | 1 => at3 (px d) ((py d + 1) % 4) (pz d)
  | 2 => at3 (px d) ((py d + 3) % 4) (pz d)
  | 3 => at3 (px d) (py d) ((pz d + 1) % 4)
  | 4 => at3 (px d) (py d) ((pz d + 3) % 4)

/-- The opposite direction. -/
def op (j : Fin 5) : Fin 5 := match j with | 0 => 0 | 1 => 2 | 2 => 1 | 3 => 4 | 4 => 3

/-- The direction of transfer k. -/
def dir (k : Fin 28) : Fin 5 :=
  (![0, 4, 1, 4, 1, 4, 1, 2, 3, 2, 3, 2, 3, 0, 3, 0, 3, 2, 3, 2, 1, 2, 1, 4, 1, 4, 0, 4] : Fin 28 → Fin 5) k

theorem op_op : ∀ j, op (op j) = j := by decide
theorem nb_op : ∀ (j : Fin 5) (d : Dev nD), nb (op j) (nb j d) = d := by decide +kernel
theorem nb_op' (j : Fin 5) (d : Dev nD) : nb j (nb (op j) d) = d := by
  have := nb_op (op j) d; rwa [op_op] at this

/-- Where device d sends transfer k to, and where it receives transfer k from. -/
def tgt (k : Fin 28) (d : Dev nD) : Dev nD := nb (dir k) d
def frm (k : Fin 28) (d : Dev nD) : Dev nD := nb (op (dir k)) d
theorem frm_tgt (k : Fin 28) (d : Dev nD) : frm k (tgt k d) = d := nb_op _ _
theorem tgt_frm (k : Fin 28) (d : Dev nD) : tgt k (frm k d) = d := nb_op' _ _

/-- The directions as permutations of the devices. -/
def nbE (j : Fin 5) : Dev nD ≃ Dev nD := ⟨nb j, nb (op j), nb_op j, nb_op' j⟩
def tgtE (k : Fin 28) : Dev nD ≃ Dev nD := ⟨tgt k, frm k, frm_tgt k, tgt_frm k⟩

/-- The first 16-row chunk of what device d sends in transfer k, and how many chunks it is. -/
def ra (k : Fin 28) (d : Dev nD) : ℕ :=
  (![16 * (1 - px d), 32 + 8 * ((pz d + 1) % 4),
    16 * px d + 4 * ((py d + 3) % 4), 32 + 8 * ((pz d + 2) % 4), 16 * px d + 4 * ((py d + 2) % 4), 32 + 8 * ((pz d + 3) % 4),
    16 * px d + 4 * ((py d + 1) % 4), 32 + 8 * pz d + 2 * ((py d + 1) % 4),
    16 * px d + 4 * py d + (pz d + 3) % 4, 32 + 8 * pz d + 2 * ((py d + 2) % 4),
    16 * px d + 4 * py d + (pz d + 2) % 4, 32 + 8 * pz d + 2 * ((py d + 3) % 4),
    16 * px d + 4 * py d + (pz d + 1) % 4, 32 + 8 * pz d + 2 * py d + (1 - px d),
    16 * px d + 4 * py d + pz d, 32 + 8 * pz d + 2 * py d + px d,
    16 * px d + 4 * py d + (pz d + 3) % 4, 32 + 8 * pz d + 2 * py d,
    16 * px d + 4 * py d + (pz d + 2) % 4, 32 + 8 * pz d + 2 * ((py d + 1) % 4),
    16 * px d + 4 * py d, 32 + 8 * pz d + 2 * ((py d + 2) % 4),
    16 * px d + 4 * ((py d + 3) % 4), 32 + 8 * pz d,
    16 * px d + 4 * ((py d + 2) % 4), 32 + 8 * ((pz d + 1) % 4),
    16 * px d, 32 + 8 * ((pz d + 2) % 4)] : Fin 28 → ℕ) k
def rl (k : Fin 28) : ℕ :=
  (![16, 8, 4, 8, 4, 8, 4, 2, 1, 2, 1, 2, 1, 1, 1, 1, 1, 2, 1, 2, 4, 2, 4, 8, 4, 8, 16, 8] : Fin 28 → ℕ) k

/-- A run of chunks; what transfer k moves from device d. -/
def run (a l : ℕ) : Finset (Fin 64) := Finset.univ.filter fun i => a ≤ i.val ∧ i.val < a + l
def reg (k : Fin 28) (d : Dev nD) : Finset (Fin 64) := run (ra k d) (rl k)

/-! ## The printed device numbers -/

open Gen in
theorem sig_dev : ∀ d : Dev nD, k0_dev1 d = (nb 0 d).val ∧ k0_dev2 d = (nb 1 d).val ∧ k0_dev3 d = (nb 2 d).val
    ∧ k0_dev4 d = (nb 3 d).val ∧ k0_dev5 d = (nb 4 d).val := by decide +kernel

theorem send_dev_a : ∀ d : Dev nD, k0_dev6 d = (tgt 0 d).val ∧ k0_dev7 d = (tgt 1 d).val ∧ k0_dev8 d = (tgt 2 d).val
    ∧ k0_dev9 d = (tgt 3 d).val ∧ k0_dev10 d = (tgt 4 d).val ∧ k0_dev11 d = (tgt 5 d).val ∧ k0_dev12 d = (tgt 6 d).val
    ∧ k0_dev13 d = (tgt 7 d).val ∧ k0_dev14 d = (tgt 8 d).val ∧ k0_dev15 d = (tgt 9 d).val ∧ k0_dev16 d = (tgt 10 d).val
    ∧ k0_dev17 d = (tgt 11 d).val ∧ k0_dev18 d = (tgt 12 d).val ∧ k0_dev19 d = (tgt 13 d).val := by decide +kernel

theorem send_dev_b : ∀ d : Dev nD, k0_dev20 d = (tgt 14 d).val ∧ k0_dev21 d = (tgt 15 d).val ∧ k0_dev22 d = (tgt 16 d).val
    ∧ k0_dev23 d = (tgt 17 d).val ∧ k0_dev24 d = (tgt 18 d).val ∧ k0_dev25 d = (tgt 19 d).val ∧ k0_dev26 d = (tgt 20 d).val
    ∧ k0_dev27 d = (tgt 21 d).val ∧ k0_dev28 d = (tgt 22 d).val ∧ k0_dev29 d = (tgt 23 d).val ∧ k0_dev30 d = (tgt 24 d).val
    ∧ k0_dev31 d = (tgt 25 d).val ∧ k0_dev32 d = (tgt 26 d).val ∧ k0_dev33 d = (tgt 27 d).val := by decide +kernel

/-! ## The printed row offsets: sources of the transfers, and where what arrives is added -/

theorem off_src_a : ∀ d : Dev nD, k0_off1 d = ![16 * ra 0 d, 0] ∧ k0_off2 d 1#32 = ![16 * ra 1 d, 0]
    ∧ k0_off5 d 7#32 0#32 = ![16 * ra 2 d, 0] ∧ k0_off6 d 1#32 = ![16 * ra 3 d, 0] ∧ k0_off5 d 7#32 1#32 = ![16 * ra 4 d, 0]
    ∧ k0_off6 d 2#32 = ![16 * ra 5 d, 0] ∧ k0_off5 d 7#32 2#32 = ![16 * ra 6 d, 0] ∧ k0_off9 d 0#32 = ![16 * ra 7 d, 0]
    ∧ k0_off11 d 7#32 0#32 = ![16 * ra 8 d, 0] ∧ k0_off9 d 1#32 = ![16 * ra 9 d, 0] ∧ k0_off11 d 7#32 1#32 = ![16 * ra 10 d, 0]
    ∧ k0_off9 d 2#32 = ![16 * ra 11 d, 0] ∧ k0_off11 d 7#32 2#32 = ![16 * ra 12 d, 0] ∧ k0_off13 d = ![16 * ra 13 d, 0] := by
  decide +kernel

theorem off_src_b : ∀ d : Dev nD, k0_off11 d 4#32 0#32 = ![16 * ra 14 d, 0] ∧ k0_off15 d = ![16 * ra 15 d, 0]
    ∧ k0_off11 d 4#32 1#32 = ![16 * ra 16 d, 0] ∧ k0_off16 d 0#32 = ![16 * ra 17 d, 0] ∧ k0_off11 d 4#32 2#32 = ![16 * ra 18 d, 0]
    ∧ k0_off16 d 1#32 = ![16 * ra 19 d, 0] ∧ k0_off5 d 4#32 0#32 = ![16 * ra 20 d, 0] ∧ k0_off16 d 2#32 = ![16 * ra 21 d, 0]
    ∧ k0_off5 d 4#32 1#32 = ![16 * ra 22 d, 0] ∧ k0_off2 d 0#32 = ![16 * ra 23 d, 0] ∧ k0_off5 d 4#32 2#32 = ![16 * ra 24 d, 0]
    ∧ k0_off2 d 1#32 = ![16 * ra 25 d, 0] ∧ k0_off17 d = ![16 * ra 26 d, 0] ∧ k0_off2 d 2#32 = ![16 * ra 27 d, 0] := by
  decide +kernel

theorem off_acc : ∀ d : Dev nD, k0_off3 d = ![16 * ra 0 (frm 0 d), 0] ∧ k0_off4 d = ![16 * ra 1 (frm 1 d), 0]
    ∧ k0_off7 d 0#32 = ![16 * ra 2 (frm 2 d), 0] ∧ k0_off8 d 1#32 = ![16 * ra 3 (frm 3 d), 0]
    ∧ k0_off7 d 1#32 = ![16 * ra 4 (frm 4 d), 0] ∧ k0_off8 d 2#32 = ![16 * ra 5 (frm 5 d), 0]
    ∧ k0_off7 d 2#32 = ![16 * ra 6 (frm 6 d), 0] ∧ k0_off10 d 0#32 = ![16 * ra 7 (frm 7 d), 0]
    ∧ k0_off12 d 0#32 = ![16 * ra 8 (frm 8 d), 0] ∧ k0_off10 d 1#32 = ![16 * ra 9 (frm 9 d), 0]
    ∧ k0_off12 d 1#32 = ![16 * ra 10 (frm 10 d), 0] ∧ k0_off10 d 2#32 = ![16 * ra 11 (frm 11 d), 0]
    ∧ k0_off12 d 2#32 = ![16 * ra 12 (frm 12 d), 0] ∧ k0_off14 d = ![16 * ra 13 (frm 13 d), 0] := by decide +kernel

end Cert.KernelIdeal.AR

end
-- ==== Proof.Contents.lean ====
/-
  What the result buffer holds on the way: the partial products `P`, the partial sums of the six reduction rings, and the
  finished sum. All as functions of the whole buffer; a device holds them on some 16-row chunks only.
-/
module

public import proofs.«01_k».proof.Proof.Topo

@[expose] public section

noncomputable section

namespace Cert.KernelIdeal.AR

open Idealize.ShloMosaic Idealize.ShloMosaic.TcCoe

variable {F : FTy → Type} [FloatOps F]

/-- The contents of a 1024 × 1024 buffer. -/
abbrev OB (F : FTy → Type) : Type := S1024x1024.Idx → Elt F .f32

/-- Elementwise sum. -/
def padd (f g : OB F) : OB F := fun i => FloatOps.addf (φ := .f32) (f i) (g i)

variable (P : Dev nD → OB F)

/-- After the exchange across x; the three steps of the y ring and of the z ring on that half. -/
def xa (d : Dev nD) : OB F := padd (P d) (P (nb 0 d))
def ya1 (d : Dev nD) : OB F := padd (xa P d) (xa P (nb 2 d))
def ya2 (d : Dev nD) : OB F := padd (xa P d) (ya1 P (nb 2 d))
def ya3 (d : Dev nD) : OB F := padd (xa P d) (ya2 P (nb 2 d))
def za1 (d : Dev nD) : OB F := padd (ya3 P d) (ya3 P (nb 4 d))
def za2 (d : Dev nD) : OB F := padd (ya3 P d) (za1 P (nb 4 d))
def za3 (d : Dev nD) : OB F := padd (ya3 P d) (za2 P (nb 4 d))
/-- The other half: the z ring, the y ring, and the exchange across x. -/
def zb1 (d : Dev nD) : OB F := padd (P d) (P (nb 3 d))
def zb2 (d : Dev nD) : OB F := padd (P d) (zb1 P (nb 3 d))
def zb3 (d : Dev nD) : OB F := padd (P d) (zb2 P (nb 3 d))
def yb1 (d : Dev nD) : OB F := padd (zb3 P d) (zb3 P (nb 1 d))
def yb2 (d : Dev nD) : OB F := padd (zb3 P d) (yb1 P (nb 1 d))
def yb3 (d : Dev nD) : OB F := padd (zb3 P d) (yb2 P (nb 1 d))
def xb (d : Dev nD) : OB F := padd (yb3 P d) (yb3 P (nb 0 d))

/-- The 16-row chunk an element lies in. -/
def chunk (i : S1024x1024.Idx) : Fin 64 := ⟨(i 0).val / 16, by have : (i 0).val < 1024 := (i 0).isLt; omega⟩
/-- The device that finishes a chunk. -/
def owner (j : Fin 64) : Dev nD :=
  if j.val < 32 then at3 (j.val / 16) (j.val / 4 % 4) (j.val % 4) else at3 (j.val % 2) (j.val / 2 % 4) ((j.val - 32) / 8)
/-- The finished sum. -/
def fin : OB F := fun i => if (chunk i).val < 32 then za3 P (owner (chunk i)) i else xb P (owner (chunk i)) i

/-- What the sender holds on the rows it sends in transfer k. -/
def V (k : Fin 28) : Dev nD → OB F :=
  (![P, P, xa P, zb1 P, ya1 P, zb2 P, ya2 P, zb3 P, ya3 P, yb1 P, za1 P, yb2 P, za2 P, yb3 P,
    fun _ => fin P, fun _ => fin P, fun _ => fin P, fun _ => fin P, fun _ => fin P, fun _ => fin P, fun _ => fin P,
    fun _ => fin P, fun _ => fin P, fun _ => fin P, fun _ => fin P, fun _ => fin P, fun _ => fin P, fun _ => fin P]
    : Fin 28 → Dev nD → OB F) k

/-- The elements of some chunks. -/
def rows (S : Finset (Fin 64)) : Finset S1024x1024.Idx := Finset.univ.filter fun i => chunk i ∈ S
theorem mem_rows {S : Finset (Fin 64)} {i : S1024x1024.Idx} : i ∈ rows S ↔ chunk i ∈ S := by simp [rows]
theorem rows_union (S T : Finset (Fin 64)) : rows (S ∪ T) = rows S ∪ rows T := by
  ext i; simp only [mem_rows, Finset.mem_union]
theorem rows_disjoint {S T : Finset (Fin 64)} (h : Disjoint S T) : Disjoint (rows S) (rows T) :=
  Finset.disjoint_left.mpr fun i hi hj => Finset.disjoint_left.mp h (mem_rows.mp hi) (mem_rows.mp hj)
theorem rows_univ : rows Finset.univ = Finset.univ := by ext i; simp [mem_rows]
theorem rows_mono {S T : Finset (Fin 64)} (h : S ⊆ T) : rows S ⊆ rows T := fun i hi => mem_rows.mpr (h (mem_rows.mp hi))

theorem owner_a : ∀ d : Dev nD, ∀ j ∈ reg 14 d, j.val < 32 ∧ owner j = d := by decide +kernel
theorem owner_b : ∀ d : Dev nD, ∀ j ∈ reg 15 d, ¬ j.val < 32 ∧ owner j = d := by decide +kernel
theorem fin_a (d : Dev nD) : ∀ i ∈ rows (reg 14 d), za3 P d i = fin P i := fun i hi => by
  have h := owner_a d _ (mem_rows.mp hi); unfold fin; rw [if_pos h.1, h.2]
theorem fin_b (d : Dev nD) : ∀ i ∈ rows (reg 15 d), xb P d i = fin P i := fun i hi => by
  have h := owner_b d _ (mem_rows.mp hi); unfold fin; rw [if_neg h.1, h.2]

/-! ## How the regions fit together -/

/-- Where what arrives is added is what the device sends next. -/
theorem reg_acc : ∀ d : Dev nD, reg 0 (frm 0 d) = reg 26 d ∧ reg 1 (frm 1 d) = reg 3 d ∧ reg 3 (frm 3 d) = reg 5 d
    ∧ reg 5 (frm 5 d) = reg 23 d ∧ reg 2 (frm 2 d) = reg 4 d ∧ reg 4 (frm 4 d) = reg 6 d ∧ reg 6 (frm 6 d) = reg 20 d
    ∧ reg 8 (frm 8 d) = reg 10 d ∧ reg 10 (frm 10 d) = reg 12 d ∧ reg 12 (frm 12 d) = reg 14 d
    ∧ reg 7 (frm 7 d) = reg 9 d ∧ reg 9 (frm 9 d) = reg 11 d ∧ reg 11 (frm 11 d) = reg 17 d ∧ reg 13 (frm 13 d) = reg 15 d := by
  decide +kernel
/-- In the second phase what arrives is what the device sends next. -/
theorem reg_next : ∀ d : Dev nD, reg 14 (frm 14 d) = reg 16 d ∧ reg 16 (frm 16 d) = reg 18 d ∧ reg 18 (frm 18 d) = reg 12 d
    ∧ reg 15 (frm 15 d) = reg 13 d ∧ reg 17 (frm 17 d) = reg 19 d ∧ reg 19 (frm 19 d) = reg 21 d ∧ reg 21 (frm 21 d) = reg 11 d
    ∧ reg 20 (frm 20 d) = reg 22 d ∧ reg 22 (frm 22 d) = reg 24 d ∧ reg 24 (frm 24 d) = reg 6 d
    ∧ reg 23 (frm 23 d) = reg 25 d ∧ reg 25 (frm 25 d) = reg 27 d ∧ reg 27 (frm 27 d) = reg 5 d
    ∧ reg 26 (frm 26 d) = reg 0 d := by
  decide +kernel
/-- In the second phase a device writes, on its neighbour, rows the neighbour sent away in the first. -/
theorem reg_back : ∀ d : Dev nD, reg 14 d = reg 8 (tgt 14 d) ∧ reg 16 d = reg 10 (tgt 16 d) ∧ reg 18 d = reg 12 (tgt 18 d)
    ∧ reg 20 d = reg 2 (tgt 20 d) ∧ reg 22 d = reg 4 (tgt 22 d) ∧ reg 24 d = reg 6 (tgt 24 d)
    ∧ reg 17 d = reg 7 (tgt 17 d) ∧ reg 19 d = reg 9 (tgt 19 d) ∧ reg 21 d = reg 11 (tgt 21 d)
    ∧ reg 23 d = reg 1 (tgt 23 d) ∧ reg 25 d = reg 3 (tgt 25 d) ∧ reg 27 d = reg 5 (tgt 27 d)
    ∧ reg 15 d = reg 13 (tgt 15 d) ∧ reg 26 d = reg 0 (tgt 26 d) := by
  decide +kernel

/-- The two halves. -/
def lower : Finset (Fin 64) := run 0 32
def upper : Finset (Fin 64) := run 32 32
theorem cut_all : (Finset.univ : Finset (Fin 64)) = lower ∪ upper ∧ Disjoint lower upper := by decide +kernel
theorem cut_lower : ∀ d : Dev nD, lower = reg 0 d ∪ reg 26 d ∧ Disjoint (reg 0 d) (reg 26 d) := by decide +kernel
theorem cut_half : ∀ d : Dev nD, reg 26 d = reg 2 d ∪ (reg 4 d ∪ (reg 6 d ∪ reg 20 d)) ∧ Disjoint (reg 2 d) (reg 4 d ∪ (reg 6 d ∪ reg 20 d))
    ∧ Disjoint (reg 4 d) (reg 6 d ∪ reg 20 d) ∧ Disjoint (reg 6 d) (reg 20 d) := by decide +kernel
theorem cut_quarter : ∀ d : Dev nD, reg 20 d = reg 8 d ∪ (reg 10 d ∪ (reg 12 d ∪ reg 14 d)) ∧ Disjoint (reg 8 d) (reg 10 d ∪ (reg 12 d ∪ reg 14 d))
    ∧ Disjoint (reg 10 d) (reg 12 d ∪ reg 14 d) ∧ Disjoint (reg 12 d) (reg 14 d) := by decide +kernel
theorem cut_upper : ∀ d : Dev nD, upper = reg 1 d ∪ (reg 3 d ∪ (reg 5 d ∪ reg 23 d)) ∧ Disjoint (reg 1 d) (reg 3 d ∪ (reg 5 d ∪ reg 23 d))
    ∧ Disjoint (reg 3 d) (reg 5 d ∪ reg 23 d) ∧ Disjoint (reg 5 d) (reg 23 d) := by decide +kernel
theorem cut_block : ∀ d : Dev nD, reg 23 d = reg 7 d ∪ (reg 9 d ∪ (reg 11 d ∪ reg 17 d)) ∧ Disjoint (reg 7 d) (reg 9 d ∪ (reg 11 d ∪ reg 17 d))
    ∧ Disjoint (reg 9 d) (reg 11 d ∪ reg 17 d) ∧ Disjoint (reg 11 d) (reg 17 d) := by decide +kernel
theorem cut_pair : ∀ d : Dev nD, reg 17 d = reg 13 d ∪ reg 15 d ∧ Disjoint (reg 13 d) (reg 15 d) := by decide +kernel

/-- The chunks of the same ring positions on the second way round: what the last transfers bring. -/
theorem again : ∀ d : Dev nD, reg 16 d = reg 8 d ∧ reg 18 d = reg 10 d ∧ reg 22 d = reg 2 d ∧ reg 24 d = reg 4 d
    ∧ reg 19 d = reg 7 d ∧ reg 21 d = reg 9 d ∧ reg 25 d = reg 1 d ∧ reg 27 d = reg 3 d := by decide +kernel

end Cert.KernelIdeal.AR

end
-- ==== Proof.Sched.lean ====
/-
  The protocol of the all-reduce: which cells there are, what is paid into them, what a device owes at launch, and the
  levels. Every device signals its five neighbours once, handing each the landing slots it will fill; the 28 transfers then
  run in one order on every device, each with its own send and receive cell, used for one round.
-/
module

public import proofs.«01_k».proof.Proof.Contents
public import Idealize.ShloMosaic.Lib.Rounds
public import Idealize.ShloMosaic.Lib.Tactic
public import Idealize.ShloMosaic.Lib.Pipeline.Regions
public import Idealize.ShloMosaic.Lib.Pipeline.RegionTalk

@[expose] public section

noncomputable section

namespace Cert.KernelIdeal.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UR5 : Type := URounds (GSem nD τ sig) (Fin 5)
abbrev UU : Type := UR sig nD τ × UR5
local notation "𝕄" => MT nD τ sig Unit (Elt F) ℕ UU ℕ
abbrev EP : Emb (UR sig nD τ) (MT nD τ sig Unit (Elt F) ℕ UU ℕ) := embL
abbrev ER : Emb UR5 (MT nD τ sig Unit (Elt F) ℕ UU ℕ) := embR

/-! ## Buffers and cells -/

abbrev oM : Memref sig .tc .vmem S1024x1024 .f32 := Memref.whole cc0_stg5_0
abbrev axM : Memref sig .tc .vmem S256x1024 .f32 := Memref.whole cc0_scratch1
abbrev ayM : Memref sig .tc .vmem S3x64x1024 .f32 := Memref.whole cc0_scratch2
abbrev azM : Memref sig .tc .vmem S3x16x1024 .f32 := Memref.whole cc0_scratch3
abbrev bzM : Memref sig .tc .vmem S3x128x1024 .f32 := Memref.whole cc0_scratch4
abbrev byM : Memref sig .tc .vmem S3x32x1024 .f32 := Memref.whole cc0_scratch5
abbrev bxM : Memref sig .tc .vmem S16x1024 .f32 := Memref.whole cc0_scratch6

abbrev ay0 : Memref sig .tc .vmem S64x1024 .f32 := (ayM.slice (Rect.unit (s := S3x64x1024) ![0, 0, 0] S1x64x1024.size Gen.inb_S3x64x1024_S1x64x1024_0_0_0) (fun _ => rfl)).squeeze S64x1024 Gen.squeezes_S1x64x1024_S64x1024
abbrev ay1 : Memref sig .tc .vmem S64x1024 .f32 := (ayM.slice (Rect.unit (s := S3x64x1024) ![1, 0, 0] S1x64x1024.size Gen.inb_S3x64x1024_S1x64x1024_1_0_0) (fun _ => rfl)).squeeze S64x1024 Gen.squeezes_S1x64x1024_S64x1024
abbrev ay2 : Memref sig .tc .vmem S64x1024 .f32 := (ayM.slice (Rect.unit (s := S3x64x1024) ![2, 0, 0] S1x64x1024.size Gen.inb_S3x64x1024_S1x64x1024_2_0_0) (fun _ => rfl)).squeeze S64x1024 Gen.squeezes_S1x64x1024_S64x1024
abbrev az0 : Memref sig .tc .vmem S16x1024 .f32 := (azM.slice (Rect.unit (s := S3x16x1024) ![0, 0, 0] S1x16x1024.size Gen.inb_S3x16x1024_S1x16x1024_0_0_0) (fun _ => rfl)).squeeze S16x1024 Gen.squeezes_S1x16x1024_S16x1024
abbrev az1 : Memref sig .tc .vmem S16x1024 .f32 := (azM.slice (Rect.unit (s := S3x16x1024) ![1, 0, 0] S1x16x1024.size Gen.inb_S3x16x1024_S1x16x1024_1_0_0) (fun _ => rfl)).squeeze S16x1024 Gen.squeezes_S1x16x1024_S16x1024
abbrev az2 : Memref sig .tc .vmem S16x1024 .f32 := (azM.slice (Rect.unit (s := S3x16x1024) ![2, 0, 0] S1x16x1024.size Gen.inb_S3x16x1024_S1x16x1024_2_0_0) (fun _ => rfl)).squeeze S16x1024 Gen.squeezes_S1x16x1024_S16x1024
abbrev bz0 : Memref sig .tc .vmem S128x1024 .f32 := (bzM.slice (Rect.unit (s := S3x128x1024) ![0, 0, 0] S1x128x1024.size Gen.inb_S3x128x1024_S1x128x1024_0_0_0) (fun _ => rfl)).squeeze S128x1024 Gen.squeezes_S1x128x1024_S128x1024
abbrev bz1 : Memref sig .tc .vmem S128x1024 .f32 := (bzM.slice (Rect.unit (s := S3x128x1024) ![1, 0, 0] S1x128x1024.size Gen.inb_S3x128x1024_S1x128x1024_1_0_0) (fun _ => rfl)).squeeze S128x1024 Gen.squeezes_S1x128x1024_S128x1024
abbrev bz2 : Memref sig .tc .vmem S128x1024 .f32 := (bzM.slice (Rect.unit (s := S3x128x1024) ![2, 0, 0] S1x128x1024.size Gen.inb_S3x128x1024_S1x128x1024_2_0_0) (fun _ => rfl)).squeeze S128x1024 Gen.squeezes_S1x128x1024_S128x1024
abbrev by0 : Memref sig .tc .vmem S32x1024 .f32 := (byM.slice (Rect.unit (s := S3x32x1024) ![0, 0, 0] S1x32x1024.size Gen.inb_S3x32x1024_S1x32x1024_0_0_0) (fun _ => rfl)).squeeze S32x1024 Gen.squeezes_S1x32x1024_S32x1024
abbrev by1 : Memref sig .tc .vmem S32x1024 .f32 := (byM.slice (Rect.unit (s := S3x32x1024) ![1, 0, 0] S1x32x1024.size Gen.inb_S3x32x1024_S1x32x1024_1_0_0) (fun _ => rfl)).squeeze S32x1024 Gen.squeezes_S1x32x1024_S32x1024
abbrev by2 : Memref sig .tc .vmem S32x1024 .f32 := (byM.slice (Rect.unit (s := S3x32x1024) ![2, 0, 0] S1x32x1024.size Gen.inb_S3x32x1024_S1x32x1024_2_0_0) (fun _ => rfl)).squeeze S32x1024 Gen.squeezes_S1x32x1024_S32x1024

abbrev barS : Sem sig := (SemArray.scalar (sig.barrier 0 rfl) : Sems sig S_).sem
abbrev sendS (k : Fin 28) : DmaSem sig := ⟨6 + k.val, by have := k.isLt; show _ < 62; omega⟩
abbrev recvS (k : Fin 28) : DmaSem sig := ⟨34 + k.val, by have := k.isLt; show _ < 62; omega⟩

abbrev barCell (c : Dev nD) : GSem nD τ sig := ((c : Thread nD τ), .reg barS)
abbrev sendCell (k : Fin 28) (c : Dev nD) : GSem nD τ sig := ((c : Thread nD τ), .dma (sendS k))
abbrev recvCell (k : Fin 28) (c : Dev nD) : GSem nD τ sig := ((c : Thread nD τ), .dma (recvS k))

/-- The credit of transfer k. -/
def N (k : Fin 28) : ℕ := 2048 * rl k
theorem N_pos : ∀ k, 0 < N k := by decide

/-! ## Assertions about buffers -/

/-- Some chunks of a device's result buffer. -/
abbrev oPt (c : Dev nD) (S : Finset (Fin 64)) (q : PosShare TreeShare) (f : OB F) : sProp 𝕄 :=
  (c : Thread nD τ).loc cc0_stg5_0 ↦[rows S]{q} (f : Buf (Elt F) ((c : Thread nD τ).loc cc0_stg5_0))
/-- Some chunks, at any contents. -/
def oAny (c : Dev nD) (S : Finset (Fin 64)) : sProp 𝕄 := iprop(∃ f, oPt c S fullShare f)

/-- A landing slot at any contents, and at given words. -/
def slotAny {s : Shape} (M : Memref sig .tc .vmem s .f32) (c : Dev nD) : sProp 𝕄 :=
  iprop(∃ f : Buf (Elt F) (M.view.loc (c : Thread nD τ)), M.view.loc (c : Thread nD τ) ↦[M.view.set]{fullShare} f)
def slotHas {s : Shape} (M : Memref sig .tc .vmem s .f32) (c : Dev nD) (w : s.Idx → Elt F .f32) : sProp 𝕄 :=
  iprop(∃ f : Buf (Elt F) (M.view.loc (c : Thread nD τ)), M.view.loc (c : Thread nD τ) ↦[M.view.set]{fullShare} (M.view.write (Elt F) f w Finset.univ))
theorem slotHas_any {s : Shape} (M : Memref sig .tc .vmem s .f32) (c : Dev nD) (w : s.Idx → Elt F .f32) :
    (slotHas M c w : sProp 𝕄) ⊢ slotAny M c := by
  unfold slotHas slotAny; iintro ⟨%f, H⟩; iexists _; iexact H

/-- The element of the result buffer at row `16 * a + x 0`. -/
def ix {n : ℕ} (a : ℕ) (x : (⟨2, ![n, 1024]⟩ : Shape).Idx) : S1024x1024.Idx :=
  fun b => ⟨(match b with | 0 => 16 * a + (x 0).val | 1 => (x 1).val) % 1024, by
    show _ < (![1024, 1024] : Fin 2 → ℕ) b; fin_cases b <;> exact Nat.mod_lt _ (by decide)⟩

/-- The landing slot of transfer k (nothing for the second phase, which lands in the result buffer). -/
def slotOf (k : Fin 28) (c : Dev nD) : sProp 𝕄 :=
  match k with
  | 0 => slotAny axM c | 1 => slotAny bz0 c | 2 => slotAny ay0 c | 3 => slotAny bz1 c | 4 => slotAny ay1 c | 5 => slotAny bz2 c
  | 6 => slotAny ay2 c | 7 => slotAny by0 c | 8 => slotAny az0 c | 9 => slotAny by1 c | 10 => slotAny az1 c | 11 => slotAny by2 c
  | 12 => slotAny az2 c | 13 => slotAny bxM c | _ => iprop(emp)

variable (P : Dev nD → OB F)

/-- The landing slot of transfer k once it has arrived. -/
def landed {n : ℕ} (M : Memref sig .tc .vmem ⟨2, ![n, 1024]⟩ .f32) (k : Fin 28) (c : Dev nD) : sProp 𝕄 :=
  slotHas M c (fun x => V P k (frm k c) (ix (ra k (frm k c)) x))

/-- The rows device d sent away in transfer k, at any contents. -/
abbrev rel (k : Fin 28) (d : Dev nD) : sProp 𝕄 := oAny d (reg k d)

/-- What a device passes on with transfer k, sent by s, of what earlier senders of the ring gave away. -/
def fwd (k : Fin 28) (s : Dev nD) : sProp 𝕄 :=
  match k with
  | 3 => rel 1 (frm 3 s) | 5 => iprop(rel 1 (frm 5 (frm 5 s)) ∗ rel 3 (frm 5 s))
  | 4 => rel 2 (frm 4 s) | 6 => iprop(rel 2 (frm 6 (frm 6 s)) ∗ rel 4 (frm 6 s))
  | 9 => rel 7 (frm 9 s) | 11 => iprop(rel 7 (frm 11 (frm 11 s)) ∗ rel 9 (frm 11 s))
  | 10 => rel 8 (frm 10 s) | 12 => iprop(rel 8 (frm 12 (frm 12 s)) ∗ rel 10 (frm 12 s))
  | 14 => iprop(rel 10 (frm 14 (frm 14 s)) ∗ rel 12 (frm 14 s)) | 16 => rel 12 (frm 16 (frm 16 s))
  | 17 => iprop(rel 9 (frm 17 (frm 17 s)) ∗ rel 11 (frm 17 s)) | 19 => rel 11 (frm 19 (frm 19 s))
  | 20 => iprop(rel 4 (frm 20 (frm 20 s)) ∗ rel 6 (frm 20 s)) | 22 => rel 6 (frm 22 (frm 22 s))
  | 23 => iprop(rel 3 (frm 23 (frm 23 s)) ∗ rel 5 (frm 23 s)) | 25 => rel 5 (frm 25 (frm 25 s))
  | _ => iprop(emp)

/-- Paid into the receive cell of transfer k, first phase: the slot filled, the sender's rows, what it passes on; -/
def rsPay {n : ℕ} (M : Memref sig .tc .vmem ⟨2, ![n, 1024]⟩ .f32) (k : Fin 28) (c : Dev nD) : sProp 𝕄 :=
  iprop((landed P M k c ∗ fwd k (frm k c)) ∗ rel k (frm k c))
/-- second phase: the rows of the result filled with the finished sum, what the sender passes on. -/
def agPay (k : Fin 28) (c : Dev nD) : sProp 𝕄 := iprop(oPt c (reg k (frm k c)) fullShare (fin P) ∗ fwd k (frm k c))

def recvPay (k : Fin 28) (c : Dev nD) : sProp 𝕄 :=
  match k with
  | 0 => rsPay P axM 0 c | 1 => rsPay P bz0 1 c | 2 => rsPay P ay0 2 c | 3 => rsPay P bz1 3 c | 4 => rsPay P ay1 4 c | 5 => rsPay P bz2 5 c
  | 6 => rsPay P ay2 6 c | 7 => rsPay P by0 7 c | 8 => rsPay P az0 8 c | 9 => rsPay P by1 9 c | 10 => rsPay P az1 10 c | 11 => rsPay P by2 11 c
  | 12 => rsPay P az2 12 c | 13 => rsPay P bxM 13 c
  | 14 => agPay P 14 c | 15 => agPay P 15 c | 16 => agPay P 16 c | 17 => agPay P 17 c | 18 => agPay P 18 c | 19 => agPay P 19 c
  | 20 => agPay P 20 c | 21 => agPay P 21 c | 22 => agPay P 22 c | 23 => agPay P 23 c | 24 => agPay P 24 c | 25 => agPay P 25 c
  | 26 => agPay P 26 c | _ => agPay P 27 c

/-- The share of its rows a device lends to the transfer while it runs, second phase. -/
def lent (k : Fin 28) : PosShare TreeShare :=
  match k with
  | 14 => fullShare.right | 16 => fullShare.right | 18 => fullShare.right
  | 20 => fullShare.left.right | 22 => fullShare.left.right | 24 => fullShare.left.right | 26 => fullShare.left.left
  | 15 => fullShare.right | 17 => fullShare.left.right | 19 => fullShare.left.right | 21 => fullShare.left.right
  | 23 => fullShare.left.left | _ => fullShare
/-- Paid into the send cell of transfer k: in the second phase, the rows lent. -/
def sendPay (k : Fin 28) (c : Dev nD) : sProp 𝕄 :=
  if k.val < 14 then iprop(emp) else oPt c (reg k c) (lent k) (fin P)

/-- Paid into device d's barrier cell by its neighbour e against direction j: the slots d fills on e, and that e's receive
    cells of those transfers are open. -/
def barPay (d : Dev nD) (j : Fin 5) : sProp 𝕄 :=
  bigSep (Finset.univ.filter fun k => dir k = op j) fun k =>
    iprop(reached ER (recvCell k (nb (op j) d)) 0 ∗ slotOf k (nb (op j) d))

/-! ## The schedule -/

/-- The transfer a DMA semaphore belongs to. -/
def sendIx (s : DmaSem sig) : Option (Fin 28) := if h : 6 ≤ s.val ∧ s.val < 34 then some ⟨s.val - 6, by omega⟩ else none
def recvIx (s : DmaSem sig) : Option (Fin 28) := if h : 34 ≤ s.val ∧ s.val < 62 then some ⟨s.val - 34, by omega⟩ else none
theorem sendIx_send : ∀ k, sendIx (sendS k) = some k := by decide
theorem recvIx_recv : ∀ k, recvIx (recvS k) = some k := by decide
theorem sendIx_recv : ∀ k, sendIx (recvS k) = none := by decide

/-- What kind of cell: the barrier, a send cell, a receive cell, or none of the protocol's. -/
inductive Kd | bar | snd (k : Fin 28) | rcv (k : Fin 28) | off
def kd (s : SemLoc sig) : Kd :=
  match s with
  | .reg b => if b = barS then .bar else .off
  | .dma s => match sendIx s with
    | some k => .snd k
    | none => match recvIx s with
      | some k => .rcv k
      | none => .off
theorem kd_bar : kd (.reg barS) = .bar := rfl
theorem kd_send (k : Fin 28) : kd (.dma (sendS k)) = .snd k := by
  simp only [kd, sendIx_send k]
theorem kd_recv (k : Fin 28) : kd (.dma (recvS k)) = .rcv k := by
  simp only [kd, sendIx_recv k, recvIx_recv k]

def dutiesOf (κ : Kd) : Finset (Fin 5) := match κ with | .bar => Finset.univ | .snd _ => {0} | .rcv _ => {0} | .off => ∅
def amountOf (κ : Kd) : ℕ := match κ with | .bar => 1 | .snd k => N k | .rcv k => N k | .off => 1
def payOf (κ : Kd) (c : Dev nD) (j : Fin 5) : sProp 𝕄 :=
  match κ with | .bar => barPay c j | .snd k => sendPay P k c | .rcv k => recvPay P k c | .off => iprop(emp)

/-- One round on every cell of the protocol. -/
def arRd : Rounds.Schedule (GSem nD τ sig) (Fin 5) 𝕄 where
  duties g r := if r = 0 ∧ g.1.2 = .tc then dutiesOf (kd g.2) else ∅
  unitless _ := False
  amount g _ _ := amountOf (kd g.2)
  payload g _ j := payOf P (kd g.2) g.1.1 j
  amount_pos g _ _ _ := by
    show 0 < amountOf (kd g.2)
    cases kd g.2 with
    | bar => exact Nat.one_pos
    | snd k => exact N_pos k
    | rcv k => exact N_pos k
    | off => exact Nat.one_pos

instance oAny_storable (c : Dev nD) (S : Finset (Fin 64)) : BI.Storable (upEmb : UEmb _ 𝕄) (oAny (F := F) c S) := by
  unfold oAny; infer_instance
instance slotAny_storable {s : Shape} (M : Memref sig .tc .vmem s .f32) (c : Dev nD) : BI.Storable (upEmb : UEmb _ 𝕄) (slotAny (F := F) M c) := by
  unfold slotAny; infer_instance
instance slotOf_storable (k : Fin 28) (c : Dev nD) : BI.Storable (upEmb : UEmb _ 𝕄) (slotOf (F := F) k c) := by
  unfold slotOf; split <;> infer_instance
instance fwd_storable (k : Fin 28) (s : Dev nD) : BI.Storable (upEmb : UEmb _ 𝕄) (fwd (F := F) k s) := by
  unfold fwd; split <;> infer_instance
instance rsPay_storable {n : ℕ} (M : Memref sig .tc .vmem ⟨2, ![n, 1024]⟩ .f32) (k : Fin 28) (c : Dev nD) :
    BI.Storable (upEmb : UEmb _ 𝕄) (rsPay P M k c) := by unfold rsPay landed slotHas; infer_instance
instance agPay_storable (k : Fin 28) (c : Dev nD) : BI.Storable (upEmb : UEmb _ 𝕄) (agPay P k c) := by unfold agPay; infer_instance
instance recvPay_storable (k : Fin 28) (c : Dev nD) : BI.Storable (upEmb : UEmb _ 𝕄) (recvPay P k c) := by
  unfold recvPay; split <;> infer_instance
instance sendPay_storable (k : Fin 28) (c : Dev nD) : BI.Storable (upEmb : UEmb _ 𝕄) (sendPay P k c) := by
  unfold sendPay; split <;> infer_instance
instance barPay_storable (d : Dev nD) (j : Fin 5) : BI.Storable (upEmb : UEmb _ 𝕄) (barPay (F := F) d j) := by
  unfold barPay; infer_instance

instance arRd_payload_storable (g : GSem nD τ sig) (r : ℕ) (j : Fin 5) :
    BI.Storable (upEmb : UEmb _ 𝕄) ((arRd P).payload g r j) := by
  show BI.Storable upEmb (payOf P (kd g.2) g.1.1 j)
  unfold payOf; split <;> infer_instance

section Tables
variable (k : Fin 28) (c : Dev nD)

theorem duties_bar : (arRd P).duties (barCell c) 0 = Finset.univ := by
  show (if (0 : ℕ) = 0 ∧ (c : Thread nD τ).2 = .tc then dutiesOf (kd (.reg barS)) else ∅) = _; rw [if_pos ⟨rfl, rfl⟩, kd_bar]; rfl
theorem duties_send : (arRd P).duties (sendCell k c) 0 = {0} := by
  show (if (0 : ℕ) = 0 ∧ (c : Thread nD τ).2 = .tc then dutiesOf (kd (.dma (sendS k))) else ∅) = _; rw [if_pos ⟨rfl, rfl⟩, kd_send]; rfl
theorem duties_recv : (arRd P).duties (recvCell k c) 0 = {0} := by
  show (if (0 : ℕ) = 0 ∧ (c : Thread nD τ).2 = .tc then dutiesOf (kd (.dma (recvS k))) else ∅) = _; rw [if_pos ⟨rfl, rfl⟩, kd_recv]; rfl
theorem duties_later (g : GSem nD τ sig) : ∀ r, 1 ≤ r → (arRd P).duties g r = ∅ := fun r hr => by
  show (if r = 0 ∧ _ then _ else ∅) = _; rw [if_neg (fun h => by omega)]

theorem amount_bar (j : Fin 5) : (arRd P).amount (barCell c) 0 j = 1 := by
  show amountOf (kd (.reg barS)) = _; rw [kd_bar]; rfl
theorem amount_send (j : Fin 5) : (arRd P).amount (sendCell k c) 0 j = N k := by
  show amountOf (kd (.dma (sendS k))) = _; rw [kd_send]; rfl
theorem amount_recv (j : Fin 5) : (arRd P).amount (recvCell k c) 0 j = N k := by
  show amountOf (kd (.dma (recvS k))) = _; rw [kd_recv]; rfl

theorem expect_bar : (arRd P).expect (barCell c) 0 = 5 := by
  unfold Schedule.expect Schedule.amountOf; rw [duties_bar]; simp only [amount_bar]; rfl
theorem expect_send : (arRd P).expect (sendCell k c) 0 = N k := by
  unfold Schedule.expect Schedule.amountOf; rw [duties_send, Finset.sum_singleton, amount_send]
theorem expect_recv : (arRd P).expect (recvCell k c) 0 = N k := by
  unfold Schedule.expect Schedule.amountOf; rw [duties_recv, Finset.sum_singleton, amount_recv]

theorem payload_bar (j : Fin 5) : (arRd P).payload (barCell c) 0 j = barPay c j := by
  show payOf P (kd (.reg barS)) c j = _; rw [kd_bar]; rfl
theorem payload_send (j : Fin 5) : (arRd P).payload (sendCell k c) 0 j = sendPay P k c := by
  show payOf P (kd (.dma (sendS k))) c j = _; rw [kd_send]; rfl
theorem payload_recv (j : Fin 5) : (arRd P).payload (recvCell k c) 0 j = recvPay P k c := by
  show payOf P (kd (.dma (recvS k))) c j = _; rw [kd_recv]; rfl

theorem rest_bar : bigSep ((arRd P).duties (barCell c) 0 \ ∅) (fun j => (arRd P).payload (barCell c) 0 j) = bigSep Finset.univ (barPay (F := F) c) := by
  rw [Finset.sdiff_empty, duties_bar]; exact bigSep_congr fun j _ => payload_bar P c j
theorem rest_send : bigSep ((arRd P).duties (sendCell k c) 0 \ ∅) (fun j => (arRd P).payload (sendCell k c) 0 j) = sendPay P k c := by
  rw [Finset.sdiff_empty, duties_send, bigSep_singleton, payload_send]
theorem rest_recv : bigSep ((arRd P).duties (recvCell k c) 0 \ ∅) (fun j => (arRd P).payload (recvCell k c) 0 j) = recvPay P k c := by
  rw [Finset.sdiff_empty, duties_recv, bigSep_singleton, payload_recv]

theorem close (κ : ℕ) (g : GSem nD τ sig) :
    iprop(cellInv ER (arRd P) κ g ∗ atPos ER g (0 + 1) ∅ 0) ⊢ (|={Set.univ}=> semVal g 0 : sProp 𝕄) :=
  Rounds.cell_close ER (arRd P) (Set.mem_univ κ) id (duties_later P g)

end Tables

/-! ## What a device owes; the levels -/

/-- The receive credits of the transfers from the n-th on. -/
def owed (n : ℕ) (c : Dev nD) : CellTallies nD τ sig Unit :=
  ∑ k ∈ Finset.univ.filter (fun k : Fin 28 => n ≤ k.val), tallyAt (recvCell k (tgt k c)) () (N k)
/-- The barrier units of the neighbours from the n-th on. -/
def owedB (n : ℕ) (c : Dev nD) : CellTallies nD τ sig Unit :=
  ∑ j ∈ Finset.univ.filter (fun j : Fin 5 => n ≤ j.val), tallyAt (barCell (nb j c)) () 1
def O₀ (c : Dev nD) : CellTallies nD τ sig Unit := owed 0 c + owedB 0 c

theorem filter_step {n : ℕ} (k : Fin n) : (Finset.univ.filter fun i : Fin n => k.val ≤ i.val)
    = insert k (Finset.univ.filter fun i : Fin n => k.val + 1 ≤ i.val) := by
  ext i; simp only [Finset.mem_filter, Finset.mem_univ, true_and, Finset.mem_insert, Fin.ext_iff]; omega
theorem filter_notin {n : ℕ} (k : Fin n) : k ∉ (Finset.univ.filter fun i : Fin n => k.val + 1 ≤ i.val) := by simp

theorem owed_step (k : Fin 28) (c : Dev nD) : owed k.val c = owed (k.val + 1) c + tallyAt (recvCell k (tgt k c)) () (N k) := by
  unfold owed; rw [filter_step, Finset.sum_insert (filter_notin k), add_comm]
theorem owedB_step (j : Fin 5) (c : Dev nD) : owedB j.val c = owedB (j.val + 1) c + tallyAt (barCell (nb j c)) () 1 := by
  unfold owedB; rw [filter_step, Finset.sum_insert (filter_notin j), add_comm]
theorem owed_last (c : Dev nD) : owed 28 c = 0 := by
  unfold owed; rw [Finset.filter_false_of_mem (fun k _ => by omega), Finset.sum_empty]
theorem owedB_last (c : Dev nD) : owedB 5 c = 0 := by
  unfold owedB; rw [Finset.filter_false_of_mem (fun k _ => by omega), Finset.sum_empty]

def L (g : GSem nD τ sig) : Finset Unit := if g.1.2 = .tc then {()} else ∅
def lv (g : GSem nD τ sig) (_ : Unit) : ℕ := match kd g.2 with | .bar => 1 | .snd _ => 0 | .rcv k => k.val + 2 | .off => 0
theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [kd_bar]
theorem lv_recv (k : Fin 28) (c : Dev nD) : lv (recvCell k c) () = k.val + 2 := by unfold lv; rw [kd_recv]

theorem sum_tally_pos {I : Type} [DecidableEq I] (s : Finset I) (f : I → CellTallies nD τ sig Unit) (g : GSem nD τ sig) (u : Unit)
    (h : 0 < (∑ i ∈ s, f i) g u) : ∃ i ∈ s, 0 < f i g u := by
  induction s using Finset.induction_on with
  | empty => exact absurd h (Nat.lt_irrefl 0)
  | insert a s ha ih =>
    rw [Finset.sum_insert ha, Pi.add_apply, Finsupp.add_apply] at h
    rcases Nat.add_pos_iff_pos_or_pos.mp h with h | h
    · exact ⟨a, Finset.mem_insert_self _ _, h⟩
    · obtain ⟨i, hi, hp⟩ := ih h; exact ⟨i, Finset.mem_insert_of_mem hi, hp⟩

theorem tally_pos {g g' : GSem nD τ sig} {u : Unit} {n : ℕ} (h : 0 < tallyAt g' () n g u) : g = g' := by
  rw [tallyAt_apply] at h
  by_contra hne
  rw [if_neg (fun hh => hne hh.1)] at h; exact absurd h (Nat.lt_irrefl 0)

theorem owed_pos {n : ℕ} {c : Dev nD} {g : GSem nD τ sig} {u : Unit} (h : 0 < owed n c g u) :
    ∃ k : Fin 28, n ≤ k.val ∧ g = recvCell k (tgt k c) := by
  obtain ⟨k, hk, hp⟩ := sum_tally_pos _ _ g u h
  exact ⟨k, (Finset.mem_filter.mp hk).2, tally_pos hp⟩
theorem owedB_pos {n : ℕ} {c : Dev nD} {g : GSem nD τ sig} {u : Unit} (h : 0 < owedB n c g u) :
    ∃ j : Fin 5, g = barCell (nb j c) := by
  obtain ⟨k, _, hp⟩ := sum_tally_pos _ _ g u h
  exact ⟨k, tally_pos hp⟩

theorem mayWait_bar (c : Dev nD) : (levAts L lv : sProp 𝕄) ⊢ MayWait (c : Thread nD τ) (.reg barS) () (owed 0 c) :=
  MayOwe.of_cut (L := L) (lev := lv) 1 (fun p hp => by rw [Finset.mem_singleton.mp hp, L_tc]; exact Finset.mem_singleton_self _)
    (fun g u hg => by obtain ⟨k, _, rfl⟩ := owed_pos hg; rw [L_tc]; exact Finset.mem_singleton_self _)
    (fun p hp => by rw [Finset.mem_singleton.mp hp]; exact (lv_bar c).le)
    (fun g u hg => by obtain ⟨k, _, rfl⟩ := owed_pos hg; show 1 < lv _ (); rw [lv_recv]; omega)
theorem mayWait_recv (k : Fin 28) (n : ℕ) (hn : k.val < n) (c : Dev nD) :
    (levAts L lv : sProp 𝕄) ⊢ MayWait (c : Thread nD τ) (.dma (recvS k)) () (owed n c) :=
  MayOwe.of_cut (L := L) (lev := lv) (k.val + 2) (fun p hp => by rw [Finset.mem_singleton.mp hp, L_tc]; exact Finset.mem_singleton_self _)
    (fun g u hg => by obtain ⟨k, _, rfl⟩ := owed_pos hg; rw [L_tc]; exact Finset.mem_singleton_self _)
    (fun p hp => by rw [Finset.mem_singleton.mp hp]; exact (lv_recv k c).le)
    (fun g u hg => by obtain ⟨k', h, rfl⟩ := owed_pos hg; show _ < lv _ (); rw [lv_recv]; omega)

end Cert.KernelIdeal.AR

end
-- ==== Proof.Steps.lean ====
/-
  The steps of the all-reduce, each once for any transfer: loads and stores of a run of chunks of the result buffer, loads of a
  landing slot, the two kinds of transfer, the receive wait and the send wait.
-/
module

public import proofs.«01_k».proof.Proof.Sched
public import Idealize.ShloMosaic.Lib.Pipeline.Value
public import Idealize.ShloMosaic.Lib.ViewIndex

@[expose] public section

noncomputable section

namespace Cert.KernelIdeal.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

abbrev 𝒱₀ : Variants := Variants.none
/-- The body of a program on a device. -/
abbrev wpc {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## Views of the result buffer -/

abbrev Sh (n : ℕ) : Shape := ⟨2, ![n, 1024]⟩
/-- A run of rows. -/
abbrev Rw (n : ℕ) (off : Fin 2 → ℕ) (hin : ∀ b, off b + (Sh n).size b ≤ S1024x1024.size b) : Rect S1024x1024 :=
  Rect.unit (s := S1024x1024) off (Sh n).size hin

section Views
variable {n l a : ℕ} (hn : n = 16 * l) {off : Fin 2 → ℕ} (hoff : off = ![16 * a, 0])
  {hin : ∀ b, off b + (Sh n).size b ≤ S1024x1024.size b}
include hoff

theorem emb_rw (x : (Sh n).Idx) : (Rw n off hin).emb x = ix a x := by
  subst hoff
  have h0 := hin 0
  have hx0 : (x 0).val < n := (x 0).isLt
  have hx1 : (x 1).val < 1024 := (x 1).isLt
  have h0' : 16 * a + n ≤ 1024 := h0
  funext b; apply Fin.ext
  rw [Rect.emb_apply]
  fin_cases b
  · show 16 * a + 1 * (x 0).val = (16 * a + (x 0).val) % 1024
    rw [Nat.mod_eq_of_lt (by omega)]; omega
  · show 0 + 1 * (x 1).val = (x 1).val % 1024
    rw [Nat.mod_eq_of_lt (by omega)]; omega

include hn in
theorem set_rw : (Rw n off hin).set = rows (run a l) := by
  subst hoff hn
  ext i
  have h0' : 16 * a + 16 * l ≤ 1024 := hin 0
  have hi1 : (i 1).val < 1024 := (i 1).isLt
  rw [mem_rows, run, Finset.mem_filter, Rect.mem_set_unit]
  simp only [Finset.mem_univ, true_and, chunk]
  constructor
  · intro h
    have h1 : 16 * a ≤ (i 0).val ∧ (i 0).val < 16 * a + 16 * l := h 0
    omega
  · intro h b
    fin_cases b
    · show 16 * a ≤ (i 0).val ∧ (i 0).val < 16 * a + 16 * l
      omega
    · show 0 ≤ (i 1).val ∧ (i 1).val < 0 + 1024
      omega

/-- Every element of the run is one of its indices. -/
theorem rw_cover (hin' : ∀ b, off b + (Sh n).size b ≤ S1024x1024.size b) (i : S1024x1024.Idx) (hi : i ∈ (Rw n off hin').set) : ∃ x : (Sh n).Idx, i = ix a x := by
  rw [← Rect.map_emb_univ] at hi
  obtain ⟨x, -, rfl⟩ := Finset.mem_map.mp hi
  exact ⟨x, emb_rw hoff x⟩

end Views

variable {α : Type} {Q : α → sProp (MT nD τ sig Unit (Elt F) ℕ UU ℕ)}

section Local
variable {c : Dev nD} {n l a : ℕ} (hn : n = 16 * l) {off : Fin 2 → ℕ} (hoff : off = ![16 * a, 0])
  {hin : ∀ b, off b + (Sh n).size b ≤ S1024x1024.size b}
include hn hoff

theorem load_o {hl} {k : ((Sh n).Idx → Elt F .f32) → Prog (TpuEff nD τ sig (Elt F) Λ₀ .tc) α} {q : PosShare TreeShare} {g : OB F} :
    oPt c (run a l) q g ⊢ iprop((oPt c (run a l) q g -∗ wpc c (k fun x => g (ix a x)) Q)
      -∗ wpc c (.op (.load oM (Rw n off hin).toLoadRect hl) k) Q) := by
  have hS : ((oM).access (Rw n off hin)).set ⊆ rows (run a l) := by
    rw [View.set_slice_whole]; exact (set_rw hn hoff).subset
  have hr : ((oM).access (Rw n off hin)).read (Elt F) g = fun x => g (ix a x) := by
    funext x; exact congrArg g (emb_rw hoff x)
  have h := wp_load_rect (defs := defs₀ (F := F)) 𝒱₀ (c : Thread nD τ) none (Γ := .empty) (U := UU) (Lvl := ℕ) (Ix := Unit) (Name := ℕ) Set.univ (hl := hl) (k := k) (Q := Q) (q := q) (f := g) hS
  rw [hr] at h; exact h

theorem store_o {w : (Sh n).Idx → Elt F .f32} {hx hm} {k : PUnit → Prog (TpuEff nD τ sig (Elt F) Λ₀ .tc) α} {g : OB F} (g' : OB F)
    (hg : ∀ x, g' (ix a x) = w x) :
    oPt c (run a l) fullShare g ⊢ iprop((oPt c (run a l) fullShare g' -∗ wpc c (k ⟨⟩) Q)
      -∗ wpc c (.op (.store oM (Rw n off hin) w Finset.univ hx hm) k) Q) := by
  have hS : ((oM).access (Rw n off hin)).setOn Finset.univ ⊆ rows (run a l) := by
    rw [View.setOn_univ, View.set_slice_whole]; exact (set_rw hn hoff).subset
  have h := wp_store (defs := defs₀ (F := F)) 𝒱₀ (c : Thread nD τ) none (Γ := .empty) (U := UU) (Lvl := ℕ) (Ix := Unit) (Name := ℕ) Set.univ (hx := hx) (hm := hm) (k := k) (Q := Q) (f := g) (w := w) hS
  have he : oPt (F := F) c (run a l) fullShare (((oM).access (Rw n off hin)).write (Elt F) g w Finset.univ) = oPt c (run a l) fullShare g' := by
    apply pointsTo_congr
    intro i hi
    rw [← set_rw hn hoff (hin := hin), ← Rect.map_emb_univ] at hi
    obtain ⟨x, -, rfl⟩ := Finset.mem_map.mp hi
    exact (View.write_emb_of_mem _ _ (Finset.mem_univ x)).trans ((hg x).symm.trans (congrArg g' (emb_rw hoff x).symm))
  have h2 := h.trans (wand_mono_left (wand_mono_left (Entails.of_eq he)))
  exact h2

end Local

/-- A load of a whole two-axis landing buffer. -/
theorem load_whole {c : Dev nD} {s : Shape} (b : Ref sig .tc) (B : Memref sig .tc .vmem s .f32) {off : Fin s.rank → ℕ} (hz : off = fun _ => 0)
    {hin : ∀ a, off a + s.size a ≤ s.size a} {hl} {k : (s.Idx → Elt F .f32) → Prog (TpuEff nD τ sig (Elt F) Λ₀ .tc) α}
    (w : s.Idx → Elt F .f32) :
    slotHas B c w ⊢ iprop((slotHas B c w -∗ wpc c (k w) Q) -∗ wpc c (.op (.load B (Rect.unit (s := s) off s.size hin).toLoadRect hl) k) Q) := by
  subst hz
  have he : (Rect.unit (s := s) (fun _ => 0) s.size hin).emb = Function.Embedding.refl _ := by
    ext x a; show 0 + 1 * (x a).val = (x a).val; omega
  have hS : (B.access (Rect.unit (s := s) (fun _ => 0) s.size hin)).set ⊆ B.view.set := View.set_slice_subset _ _
  unfold slotHas
  iintro ⟨%f, H⟩ Hk
  have h := wp_load_rect (defs := defs₀ (F := F)) 𝒱₀ (c : Thread nD τ) none (Γ := .empty) (U := UU) (Lvl := ℕ) (Ix := Unit) (Name := ℕ) Set.univ (hl := hl) (k := k) (Q := Q) (q := fullShare)
    (f := B.view.write (Elt F) f w Finset.univ) hS
  have hr : (B.access (Rect.unit (s := s) (fun _ => 0) s.size hin)).read (Elt F) (B.view.write (Elt F) f w Finset.univ) = w := by
    funext x
    have e : (Rect.unit (s := s) (fun _ => 0) s.size hin).emb x = x := by rw [he]; rfl
    refine Eq.trans ?_ (congrFun (View.read_write_univ (v := B.view) f w) x)
    show cast _ (B.view.write (Elt F) f w Finset.univ (B.view.emb ((Rect.unit (s := s) (fun _ => 0) s.size hin).emb x))) = _
    rw [e]; rfl
  rw [hr] at h
  iapply h $$ H
  iintro H
  iapply Hk
  iexists f; iexact H

/-- A load of a slot of a three-axis landing buffer, as the rectangle it is sliced by. -/
theorem load_slot {c : Dev nD} {s s' : Shape} (B : Memref sig .tc .vmem s .f32) (r : Rect s) (hr : ∀ a, r.stride a = 1) (hq : r.shape.Squeezes s')
    {hl} {k : (r.shape.Idx → Elt F .f32) → Prog (TpuEff nD τ sig (Elt F) Λ₀ .tc) α} (w : s'.Idx → Elt F .f32) :
    slotHas ((B.slice r hr).squeeze s' hq) c w
      ⊢ iprop((slotHas ((B.slice r hr).squeeze s' hq) c w -∗ wpc c (k fun y => w (Shape.reshapeEquiv hq.numel_eq.symm y)) Q)
        -∗ wpc c (.op (.load B r.toLoadRect hl) k) Q) := by
  have hS : (B.access r).set ⊆ ((B.slice r hr).squeeze s' hq).view.set := by
    show (B.view.slice r).set ⊆ ((B.view.slice r).reshape s' hq.numel_eq).set
    rw [View.set_reshape]
  unfold slotHas
  iintro ⟨%f, H⟩ Hk
  have h := wp_load_rect (defs := defs₀ (F := F)) 𝒱₀ (c : Thread nD τ) none (Γ := .empty) (U := UU) (Lvl := ℕ) (Ix := Unit) (Name := ℕ) Set.univ (hl := hl) (k := k) (Q := Q) (q := fullShare)
    (f := ((B.slice r hr).squeeze s' hq).view.write (Elt F) f w Finset.univ) hS
  have hr' : (B.access r).read (Elt F) (((B.slice r hr).squeeze s' hq).view.write (Elt F) f w Finset.univ) = fun y => w (Shape.reshapeEquiv hq.numel_eq.symm y) := by
    funext y
    have := View.read_write_reshape (B.view.slice r) hq.numel_eq f w (Shape.reshapeEquiv hq.numel_eq.symm y)
    rw [Shape.reshapeEquiv_reshapeEquiv, Shape.reshapeEquiv_self] at this
    exact this
  rw [hr'] at h
  iapply h $$ H
  iintro H
  iapply Hk
  iexists f; iexact H

end Cert.KernelIdeal.AR

end
-- ==== Proof.Proto.lean ====
/-
  The protocol's state on a device, and the steps that move it: a transfer of either phase, a receive wait, a send wait.
-/
module

public import proofs.«01_k».proof.Proof.Steps

@[expose] public section

noncomputable section

namespace Cert.KernelIdeal.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-- A device's cells: the barrier's, or a transfer's send (left) or receive (right) cell. -/
abbrev Ck : Type := Option (Fin 28 ⊕ Fin 28)
def gcell (i : Dev nD × Ck) : GSem nD τ sig :=
  match i.2 with | none => barCell i.1 | some (.inl k) => sendCell k i.1 | some (.inr k) => recvCell k i.1

variable (P : Dev nD → OB F) (K : Dev nD × Ck → ℕ)

theorem bs_erase {M : Type} [URA M] {I : Type} [DecidableEq I] [Fintype I] (i : I) (Φ : I → sProp M) :
    bigSep Finset.univ Φ ⊢ iprop(Φ i ∗ bigSep (Finset.univ.erase i) Φ) := Entails.of_eq (BI.bigSep_erase (Finset.mem_univ i))

theorem bs_at {M : Type} [URA M] {I : Type} [DecidableEq I] [Fintype I] (Φ : I → sProp M) (i : I) : bigSep Finset.univ Φ ⊢ Φ i := by
  iintro H
  icases (bs_erase i Φ) $$ H with ⟨H, -⟩
  iexact H

/-- What every device knows: every cell's invariant, that the barrier's rounds are open, the levels. -/
def invs : sProp 𝕄 :=
  iprop((bigSep Finset.univ fun i : Dev nD × Ck => cellInv ER (arRd P) (K i) (gcell i))
    ∗ (bigSep Finset.univ fun d : Dev nD => reached ER (barCell d) 0) ∗ levAts L lv)
/-- What a device knows beside it: that its own cells are open, before the barrier; after it, that its send cells and the
    receive cells it pays into are. -/
def persOwn (c : Dev nD) : sProp 𝕄 :=
  iprop(invs P K ∗ (bigSep Finset.univ fun k : Fin 28 => reached ER (sendCell k c) 0) ∗ (bigSep Finset.univ fun k : Fin 28 => reached ER (recvCell k c) 0))
def pers (c : Dev nD) : sProp 𝕄 :=
  iprop(invs P K ∗ (bigSep Finset.univ fun k : Fin 28 => reached ER (sendCell k c) 0) ∗ (bigSep Finset.univ fun k : Fin 28 => reached ER (recvCell k (tgt k c)) 0))

instance invs_persistent : BI.Persistent (invs P K) := by unfold invs; infer_instance
instance persOwn_persistent (c : Dev nD) : BI.Persistent (persOwn P K c) := by unfold persOwn; infer_instance
instance pers_persistent (c : Dev nD) : BI.Persistent (pers P K c) := by unfold pers; infer_instance

theorem invs_at (i : Dev nD × Ck) : invs P K ⊢ cellInv ER (arRd P) (K i) (gcell i) := by
  unfold invs
  iintro ⟨H, -⟩
  iapply (bs_at (fun i : Dev nD × Ck => (cellInv ER (arRd P) (K i) (gcell i) : sProp 𝕄)) i) $$ H
theorem pers_send (k : Fin 28) (c : Dev nD) : pers P K c ⊢ iprop(cellInv ER (arRd P) (K (c, some (.inl k))) (sendCell k c) ∗ reached ER (sendCell k c) 0) := by
  unfold pers
  iintro ⟨#HI, #HS, -⟩
  isplitr; · iapply (invs_at P K (c, some (.inl k))) $$ HI
  iapply (bs_at (fun k : Fin 28 => (reached ER (sendCell k c) 0 : sProp 𝕄)) k) $$ HS
theorem pers_recv (k : Fin 28) (c : Dev nD) : pers P K c ⊢ cellInv ER (arRd P) (K (c, some (.inr k))) (recvCell k c) := by
  unfold pers
  iintro ⟨#HI, -, -⟩
  iapply (invs_at P K (c, some (.inr k))) $$ HI
theorem pers_tgt (k : Fin 28) (c : Dev nD) : pers P K c ⊢ iprop(cellInv ER (arRd P) (K (tgt k c, some (.inr k))) (recvCell k (tgt k c)) ∗ reached ER (recvCell k (tgt k c)) 0) := by
  unfold pers
  iintro ⟨#HI, -, #HS⟩
  isplitr; · iapply (invs_at P K (tgt k c, some (.inr k))) $$ HI
  iapply (bs_at (fun k : Fin 28 => (reached ER (recvCell k (tgt k c)) 0 : sProp 𝕄)) k) $$ HS
theorem pers_lev (c : Dev nD) : pers P K c ⊢ (levAts L lv : sProp 𝕄) := by
  unfold pers invs; iintro ⟨⟨-, -, H⟩, -, -⟩; iexact H

theorem own_bar (c d : Dev nD) : persOwn P K c ⊢ iprop(cellInv ER (arRd P) (K (d, none)) (barCell d) ∗ reached ER (barCell d) 0) := by
  unfold persOwn
  iintro ⟨#HI, -, -⟩
  isplitr; · iapply (invs_at P K (d, none)) $$ HI
  unfold invs
  icases HI with ⟨-, HS, -⟩
  iapply (bs_at (fun d : Dev nD => (reached ER (barCell d) 0 : sProp 𝕄)) d) $$ HS
theorem own_recv (k : Fin 28) (c : Dev nD) : persOwn P K c ⊢ reached ER (recvCell k c) 0 := by
  unfold persOwn
  iintro ⟨-, -, #HS⟩
  iapply (bs_at (fun k : Fin 28 => (reached ER (recvCell k c) 0 : sProp 𝕄)) k) $$ HS
theorem own_lev (c : Dev nD) : persOwn P K c ⊢ (levAts L lv : sProp 𝕄) := by
  unfold persOwn invs; iintro ⟨⟨-, -, H⟩, -, -⟩; iexact H

/-- A send cell with n transfers made; a receive cell with m receive waits done; a send cell with j send waits done. -/
def sndSt (n : ℕ) (c : Dev nD) (k : Fin 28) : sProp 𝕄 :=
  if k.val < n then iprop(atPos ER (sendCell k c) 0 ∅ 0 ∗ cred (tallyAt (sendCell k c) () (N k)))
  else iprop(atPos ER (sendCell k c) 0 ∅ 0 ∗ dutyTok ER (sendCell k c) 0 0 ∗ dutyTok ER (recvCell k (tgt k c)) 0 0)
def rcvSt (m : ℕ) (c : Dev nD) (k : Fin 28) : sProp 𝕄 :=
  if k.val < m then atPos ER (recvCell k c) 1 ∅ 0
  else iprop(atPos ER (recvCell k c) 0 ∅ 0 ∗ cred (tallyAt (recvCell k c) () (N k)))
def dnSt (j : ℕ) (c : Dev nD) (k : Fin 28) : sProp 𝕄 :=
  if k.val < j then atPos ER (sendCell k c) 1 ∅ 0
  else iprop(atPos ER (sendCell k c) 0 ∅ 0 ∗ cred (tallyAt (sendCell k c) () (N k)))

/-- The protocol after n transfers made and m receive waits done; then after j send waits. -/
def Pr (n m : ℕ) (c : Dev nD) : sProp 𝕄 :=
  iprop((∃ W, owes (c : Thread nD τ) (owed n c) W) ∗ bigSep Finset.univ (sndSt n c) ∗ bigSep Finset.univ (rcvSt m c))
def Pw (j : ℕ) (c : Dev nD) : sProp 𝕄 :=
  iprop((∃ W, owes (c : Thread nD τ) 0 W) ∗ bigSep Finset.univ (dnSt j c) ∗ bigSep Finset.univ (rcvSt 28 c))

omit [FloatOps F] in
theorem Pr_last (c : Dev nD) : (Pr 28 28 c : sProp 𝕄) = Pw 0 c := by
  unfold Pr Pw; rw [owed_last]
  have h : (sndSt (F := F) 28 c) = dnSt 0 c := by
    funext k; unfold sndSt dnSt; rw [if_pos k.isLt, if_neg (Nat.not_lt_zero _)]
  rw [h]

/-- One index changes its state. -/
theorem bigSep_step {M : Type} [URA M] (k : Fin 28) (Φ Ψ : Fin 28 → sProp M) (h : ∀ i, i ≠ k → Φ i = Ψ i) :
    bigSep Finset.univ Φ ⊢ iprop(Φ k ∗ (Ψ k -∗ bigSep Finset.univ Ψ)) := by
  have e : bigSep (Finset.univ.erase k) Φ = bigSep (Finset.univ.erase k) Ψ := bigSep_congr fun i hi => h i (Finset.ne_of_mem_erase hi)
  have e' : bigSep Finset.univ Ψ = iprop(Ψ k ∗ bigSep (Finset.univ.erase k) Ψ) := BI.bigSep_erase (Finset.mem_univ k)
  iintro H
  icases (bs_erase k Φ) $$ H with ⟨Hk, H⟩
  isplitl [Hk]; · iexact Hk
  iintro Hk; rw [e', ← e]; isplitl [Hk] <;> iassumption

omit [FloatOps F] in
theorem snd_step (k : Fin 28) (c : Dev nD) : (bigSep Finset.univ (sndSt k.val c) : sProp 𝕄)
    ⊢ iprop((atPos ER (sendCell k c) 0 ∅ 0 ∗ dutyTok ER (sendCell k c) 0 0 ∗ dutyTok ER (recvCell k (tgt k c)) 0 0)
      ∗ (iprop(atPos ER (sendCell k c) 0 ∅ 0 ∗ cred (tallyAt (sendCell k c) () (N k))) -∗ bigSep Finset.univ (sndSt (k.val + 1) c))) := by
  have h := bigSep_step (M := 𝕄) k (sndSt k.val c) (sndSt (k.val + 1) c) (fun i hi => by
    have hne : i.val ≠ k.val := fun h => hi (Fin.ext h)
    unfold sndSt
    by_cases h1 : i.val < k.val
    · rw [if_pos h1, if_pos (by omega)]
    · rw [if_neg h1, if_neg (by omega)])
  rw [show sndSt (F := F) k.val c k = _ from if_neg (Nat.lt_irrefl _), show sndSt (F := F) (k.val + 1) c k = _ from if_pos (Nat.lt_succ_self _)] at h
  exact h
omit [FloatOps F] in
theorem rcv_step (k : Fin 28) (c : Dev nD) : (bigSep Finset.univ (rcvSt k.val c) : sProp 𝕄)
    ⊢ iprop((atPos ER (recvCell k c) 0 ∅ 0 ∗ cred (tallyAt (recvCell k c) () (N k)))
      ∗ (atPos ER (recvCell k c) 1 ∅ 0 -∗ bigSep Finset.univ (rcvSt (k.val + 1) c))) := by
  have h := bigSep_step (M := 𝕄) k (rcvSt k.val c) (rcvSt (k.val + 1) c) (fun i hi => by
    have hne : i.val ≠ k.val := fun h => hi (Fin.ext h)
    unfold rcvSt
    by_cases h1 : i.val < k.val
    · rw [if_pos h1, if_pos (by omega)]
    · rw [if_neg h1, if_neg (by omega)])
  rw [show rcvSt (F := F) k.val c k = _ from if_neg (Nat.lt_irrefl _), show rcvSt (F := F) (k.val + 1) c k = _ from if_pos (Nat.lt_succ_self _)] at h
  exact h
omit [FloatOps F] in
theorem dn_step (k : Fin 28) (c : Dev nD) : (bigSep Finset.univ (dnSt k.val c) : sProp 𝕄)
    ⊢ iprop((atPos ER (sendCell k c) 0 ∅ 0 ∗ cred (tallyAt (sendCell k c) () (N k)))
      ∗ (atPos ER (sendCell k c) 1 ∅ 0 -∗ bigSep Finset.univ (dnSt (k.val + 1) c))) := by
  have h := bigSep_step (M := 𝕄) k (dnSt k.val c) (dnSt (k.val + 1) c) (fun i hi => by
    have hne : i.val ≠ k.val := fun h => hi (Fin.ext h)
    unfold dnSt
    by_cases h1 : i.val < k.val
    · rw [if_pos h1, if_pos (by omega)]
    · rw [if_neg h1, if_neg (by omega)])
  rw [show dnSt (F := F) k.val c k = _ from if_neg (Nat.lt_irrefl _), show dnSt (F := F) (k.val + 1) c k = _ from if_pos (Nat.lt_succ_self _)] at h
  exact h

variable {α : Type} {Q : α → sProp (MT nD τ sig Unit (Elt F) ℕ UU ℕ)}

/-- The credit of a landing area. -/
theorem credit_o {n : ℕ} (l : ℕ) (hn : n = 16 * l) (M : Memref sig .tc .vmem (Sh n) .f32) (s : DmaSem sig) : M.view.amount (.dma s) = 2048 * l := by
  subst hn
  show RefSig.tileCredit (Sh (16 * l)) .f32 = 2048 * l
  rw [RefSig.tileCredit_eq_bytes _ _ ⟨16 * l, (Nat.one_mul _).symm⟩ ⟨8, rfl⟩]
  show (∏ a ∈ Finset.univ.filter (fun a : Fin 2 => a.val + 2 < 2), (Sh (16 * l)).size a) * (16 * l) * 1024 * 32 / 8 / 32 = 2048 * l
  rw [Finset.filter_false_of_mem (fun a _ => by omega), Finset.prod_empty]
  omega

/-- The receive wait of transfer k: what was paid into its cell arrives. -/
theorem wait_recv (k : Fin 28) (n : ℕ) (hkn : k.val < n) {c : Dev nD} {m : ℕ} (hm : m = 16 * rl k) {src : Memref sig .tc .vmem (Sh m) .f32}
    {dst : Memref sig .tc .vmem (Sh m) .f32} {h₁ h₂} {kt : PUnit → Prog (TpuEff nD τ sig (Elt F) Λ₀ .tc) α} :
    iprop(pers P K c ∗ Pr n k.val c)
      ⊢ iprop(((Pr n (k.val + 1) c ∗ recvPay P k c) -∗ wpc c (kt ⟨⟩) Q)
        -∗ wpc c (.op (.waitDma2 (recvS k) src dst h₁ h₂) kt) Q) := by
  have hN : dst.view.dmaCredit = N k := credit_o (rl k) hm dst (recvS k)
  have hmw := (@pers_lev F _ P K c).trans (mayWait_recv k n hkn c)
  unfold Pr
  iintro ⟨#Hp, ⟨%W, HO⟩, Hs, Hr⟩ Hk
  icases (rcv_step k c) $$ Hr with ⟨⟨Hat, Hc⟩, Hback⟩
  ihave #HI := (pers_recv P K k c) $$ Hp
  iapply (Rounds.wp_wait_rest_token 𝒱₀ ER (arRd P) (c : Thread nD τ) none (κ := K (c, some (.inr k)))
      (wpE_waitDma2_eq 𝒱₀ (c : Thread nD τ) none Set.univ) (Set.mem_univ _) () (O := owed n c) (W := W) (R := 0) (m := 0) (T := ∅)
      (by rw [Nat.zero_add, expect_recv]; exact hN)) $$ [Hc HO Hat]
  · isplitr; · iexact HI
    isplitl [Hc]; · rw [hN]; iexact Hc
    isplitl [HO]; · iexact HO
    isplitr; · iapply hmw; iexact Hp
    iexact Hat
  iintro ⟨HO, Hat, -, Hpay⟩
  ihave Hp := (Entails.of_eq (rest_recv P k c)) $$ Hpay
  iapply Hk
  isplitr [Hp]
  · isplitl [HO]; · iexists _; iexact HO
    isplitl [Hs]; · iexact Hs
    iapply Hback; iexact Hat
  iexact Hp

/-- The send wait of transfer k: what was lent to it comes back. -/
theorem wait_send (k : Fin 28) {c : Dev nD} {m : ℕ} (hm : m = 16 * rl k) {src : Memref sig .tc .vmem (Sh m) .f32}
    {dst : Memref sig .tc .vmem (Sh m) .f32} {h₁ h₂} {kt : PUnit → Prog (TpuEff nD τ sig (Elt F) Λ₀ .tc) α} :
    iprop(pers P K c ∗ Pw k.val c)
      ⊢ iprop(((Pw (k.val + 1) c ∗ sendPay P k c) -∗ wpc c (kt ⟨⟩) Q)
        -∗ wpc c (.op (.waitDma2 (sendS k) src dst h₁ h₂) kt) Q) := by
  have hN : dst.view.dmaCredit = N k := credit_o (rl k) hm dst (sendS k)
  unfold Pw
  iintro ⟨#Hp, ⟨%W, HO⟩, Hs, Hr⟩ Hk
  icases (dn_step k c) $$ Hs with ⟨⟨Hat, Hc⟩, Hback⟩
  icases (pers_send P K k c) $$ Hp with ⟨#HI, -⟩
  iapply (Rounds.wp_wait_rest_token 𝒱₀ ER (arRd P) (c : Thread nD τ) none (κ := K (c, some (.inl k)))
      (wpE_waitDma2_eq 𝒱₀ (c : Thread nD τ) none Set.univ) (Set.mem_univ _) () (O := 0) (W := W) (R := 0) (m := 0) (T := ∅)
      (by rw [Nat.zero_add, expect_send]; exact hN)) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  ihave Hp := (Entails.of_eq (rest_send P k c)) $$ Hpay
  iapply Hk
  isplitr [Hp]
  · isplitl [HO]; · iexists _; iexact HO
    isplitl [Hback Hat]; · iapply Hback; iexact Hat
    iexact Hr
  iexact Hp

/-- A transfer of the first phase: rows of the result buffer into a landing slot; the rows go with it. -/
theorem send_rs (k : Fin 28) (hk : k.val < 14) (m : ℕ) {c dv : Dev nD} (hdv : dv = tgt k c) {n : ℕ} (hn : n = 16 * rl k)
    {off : Fin 2 → ℕ} (hoff : off = ![16 * ra k c, 0]) {hin : ∀ b, off b + (Sh n).size b ≤ S1024x1024.size b} {hs}
    {M : Memref sig .tc .vmem (Sh n) .f32} (hM : ∀ d, recvPay P k d = rsPay P M k d) {hsc hsrc hdst hsem}
    {kt : PUnit → Prog (TpuEff nD τ sig (Elt F) Λ₀ .tc) α} :
    iprop(pers P K c ∗ Pr k.val m c ∗ oPt c (reg k c) fullShare (V P k c) ∗ slotAny M (tgt k c) ∗ fwd k c)
      ⊢ iprop((Pr (k.val + 1) m c -∗ wpc c (kt ⟨⟩) Q)
        -∗ wpc c (.op (.enqueueDma (oM.slice (Rw n off hin) hs) (.remote (Dev.tc dv : Thread nD τ) M (.dma (sendS k)) hsc) (.dma (recvS k)) hsrc hdst hsem) kt) Q) := by
  subst hdv
  have hset : (oM.slice (Rw n off hin) hs).view.set = rows (reg k c) := (View.set_slice_whole _ _).trans (set_rw hn hoff)
  have hrd : (oM.slice (Rw n off hin) hs).view.read (Elt F) (V P k c) = fun x => V P k c (ix (ra k c) x) := by
    funext x; exact congrArg (V P k c) (emb_rw hoff x)
  unfold Pr slotAny
  iintro ⟨#Hp, ⟨⟨%W, HO⟩, Hs, Hr⟩, Hx, ⟨%fd, Hd⟩, Hf⟩ Hk
  icases (snd_step k c) $$ Hs with ⟨⟨Hat, Ht1, Ht2⟩, Hback⟩
  icases (pers_send P K k c) $$ Hp with ⟨#HI1, #Hr1⟩
  icases (pers_tgt P K k c) $$ Hp with ⟨#HI2, #Hr2⟩
  iapply (Rounds.wp_send_landing_pointsTo_with 𝒱₀ ER (arRd P) (c : Thread nD τ) none (κ₁ := K (c, some (.inl k))) (κ₂ := K (tgt k c, some (.inr k)))
    (r₁ := 0) (r₂ := 0) (d₁ := 0) (d₂ := 0) (q := fullShare) (fs := V P k c) (fd := fd) (F := fwd k c)
    (by rw [duties_send]; exact Finset.mem_singleton_self _) (by rw [duties_recv]; exact Finset.mem_singleton_self _)
    () () (N k) (credit_o (rl k) hn M _) (amount_send P k c 0) (amount_recv P k (tgt k c) 0) (owed (k.val + 1) c) (owed_step k c) (W := W)
    (by rw [payload_send]; unfold sendPay; rw [if_pos hk])
    (by
      rw [payload_recv, hM]; unfold rsPay landed slotHas; rw [frm_tgt, hrd]
      iintro ⟨⟨Hd, Hf⟩, Hx⟩
      isplitr [Hx]
      · isplitl [Hd]; · iexists fd; iexact Hd
        iexact Hf
      unfold rel oAny
      iexists (V P k c)
      rw [hset]
      iexact Hx)) $$ [Hx Hd Hf HO Ht1 Ht2]
  · isplitr; · iexact HI1
    isplitr; · iexact HI2
    isplitl [Hx]; · rw [hset]; iexact Hx
    isplitl [Hd Hf]; · isplitl [Hd] <;> iassumption
    isplitl [HO]; · iexact HO
    isplitl [Ht1]; · iexact Ht1
    isplitr; · iexact Hr1
    isplitl [Ht2]; · iexact Ht2
    iexact Hr2
  iintro ⟨Hc, HO⟩
  iapply Hk
  isplitl [HO]; · iexists _; iexact HO
  isplitl [Hback Hat Hc]
  · iapply Hback; isplitl [Hat] <;> iassumption
  iexact Hr

/-- A transfer of the second phase: finished rows into the same rows of the target's result buffer; a share of them is lent. -/
theorem send_ag (k : Fin 28) (hk : 14 ≤ k.val) (m : ℕ) {c dv : Dev nD} (hdv : dv = tgt k c) {n : ℕ} (hn : n = 16 * rl k)
    {off : Fin 2 → ℕ} (hoff : off = ![16 * ra k c, 0]) {hin hin' : ∀ b, off b + (Sh n).size b ≤ S1024x1024.size b} {hs hs'}
    (hM : ∀ d, recvPay P k d = agPay P k d) {hsc hsrc hdst hsem}
    {kt : PUnit → Prog (TpuEff nD τ sig (Elt F) Λ₀ .tc) α} :
    iprop(pers P K c ∗ Pr k.val m c ∗ oPt c (reg k c) (lent k) (fin P) ∗ oAny (tgt k c) (reg k c) ∗ fwd k c)
      ⊢ iprop((Pr (k.val + 1) m c -∗ wpc c (kt ⟨⟩) Q)
        -∗ wpc c (.op (.enqueueDma (oM.slice (Rw n off hin) hs) (.remote (Dev.tc dv : Thread nD τ) (oM.slice (Rw n off hin') hs') (.dma (sendS k)) hsc) (.dma (recvS k)) hsrc hdst hsem) kt) Q) := by
  subst hdv
  have hset : (oM.slice (Rw n off hin) hs).view.set = rows (reg k c) := (View.set_slice_whole _ _).trans (set_rw hn hoff)
  unfold Pr oAny
  iintro ⟨#Hp, ⟨⟨%W, HO⟩, Hs, Hr⟩, Hx, ⟨%fd, Hd⟩, Hf⟩ Hk
  have hwr : oPt (F := F) (tgt k c) (reg k c) fullShare ((oM.slice (Rw n off hin) hs).view.write (Elt F) fd ((oM.slice (Rw n off hin) hs).view.read (Elt F) (fin P)) Finset.univ)
      = oPt (tgt k c) (reg k c) fullShare (fin P) := by
    apply pointsTo_congr
    intro i hi
    rw [← hset] at hi
    obtain ⟨x, -, rfl⟩ := Finset.mem_map.mp hi
    exact View.write_emb_of_mem _ _ (Finset.mem_univ x)
  icases (snd_step k c) $$ Hs with ⟨⟨Hat, Ht1, Ht2⟩, Hback⟩
  icases (pers_send P K k c) $$ Hp with ⟨#HI1, #Hr1⟩
  icases (pers_tgt P K k c) $$ Hp with ⟨#HI2, #Hr2⟩
  iapply (Rounds.wp_send_pointsTo_with 𝒱₀ ER (arRd P) (c : Thread nD τ) none (κ₁ := K (c, some (.inl k))) (κ₂ := K (tgt k c, some (.inr k)))
    (r₁ := 0) (r₂ := 0) (d₁ := 0) (d₂ := 0) (q := lent k) (fs := fin P) (fd := fd) (F := fwd k c)
    (by rw [duties_send]; exact Finset.mem_singleton_self _) (by rw [duties_recv]; exact Finset.mem_singleton_self _)
    () () (N k) (credit_o (rl k) hn (oM.slice (Rw n off hin') hs') _) (amount_send P k c 0) (amount_recv P k (tgt k c) 0) (owed (k.val + 1) c) (owed_step k c) (W := W)
    (by rw [payload_send]; unfold sendPay; rw [if_neg (by omega), hset])
    (by
      rw [payload_recv, hM]; unfold agPay; rw [frm_tgt, hset]
      iintro ⟨Hd, Hf⟩
      isplitl [Hd]; · iapply (Entails.of_eq hwr) $$ Hd
      iexact Hf)) $$ [Hx Hd Hf HO Ht1 Ht2]
  · isplitr; · iexact HI1
    isplitr; · iexact HI2
    isplitl [Hx]; · rw [hset]; iexact Hx
    isplitl [Hd Hf]
    · isplitl [Hd]; · rw [hset]; iexact Hd
      iexact Hf
    isplitl [HO]; · iexact HO
    isplitl [Ht1]; · iexact Ht1
    isplitr; · iexact Hr1
    isplitl [Ht2]; · iexact Ht2
    iexact Hr2
  iintro ⟨Hc, HO⟩
  iapply Hk
  isplitl [HO]; · iexists _; iexact HO
  isplitl [Hback Hat Hc]
  · iapply Hback; isplitl [Hat] <;> iassumption
  iexact Hr

end Cert.KernelIdeal.AR

end
-- ==== Proof.Flow.lean ====
/-
  How ownership moves: what each arrival brings, in the form in which the next step uses it; splitting and joining the rows of
  the result buffer along the regions and along shares.
-/
module

public import proofs.«01_k».proof.Proof.Proto

@[expose] public section

noncomputable section

namespace Cert.KernelIdeal.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-- What transfer k of the second phase needs of its target: the rows it overwrites there, and what is passed on with it. -/
def dst (k : Fin 28) (c : Dev nD) : sProp 𝕄 := iprop(oAny (tgt k c) (reg k c) ∗ fwd k c)

section Glue
variable {A B C D : sProp (MT nD τ sig Unit (Elt F) ℕ UU ℕ)}
omit [FloatOps F]
theorem glue1 : iprop((A ∗ emp) ∗ C) ⊢ iprop(A ∗ C) := by iintro ⟨⟨HA, -⟩, HC⟩; isplitl [HA] <;> iassumption
theorem glue1' : iprop((A ∗ emp) ∗ C) ⊢ iprop(A ∗ C ∗ emp) := by
  iintro ⟨⟨HA, He⟩, HC⟩; isplitl [HA]; · iexact HA
  isplitl [HC] <;> iassumption
theorem glue2 : iprop((A ∗ B) ∗ C) ⊢ iprop(A ∗ B ∗ C) := by
  iintro ⟨⟨HA, He⟩, HC⟩; isplitl [HA]; · iexact HA
  isplitl [He] <;> iassumption
theorem glue3 : iprop((A ∗ B ∗ D) ∗ C) ⊢ iprop(A ∗ B ∗ D ∗ C) := by
  iintro ⟨⟨HA, HB, HD⟩, HC⟩; isplitl [HA]; · iexact HA
  isplitl [HB]; · iexact HB
  isplitl [HD] <;> iassumption
theorem glue0 : iprop(A ∗ B) ⊢ iprop(A ∗ B ∗ emp) := by
  iintro ⟨HA, HB⟩; isplitl [HA]; · iexact HA
  isplitl [HB]; · iexact HB
  iempintro
end Glue

variable (P : Dev nD → OB F) (c : Dev nD)

/-- Three steps back along a ring of four are one step on. -/
theorem back3 : ∀ d : Dev nD, frm 6 (frm 6 (frm 6 d)) = tgt 20 d ∧ frm 12 (frm 12 (frm 12 d)) = tgt 14 d
    ∧ frm 5 (frm 5 (frm 5 d)) = tgt 23 d ∧ frm 11 (frm 11 (frm 11 d)) = tgt 17 d := by decide +kernel
theorem back3_rel (k k' : Fin 28) (d : Dev nD) (h : d = tgt k c) (hr : reg k c = reg k' (tgt k c)) :
    (rel (F := F) k' d) = oAny (tgt k c) (reg k c) := by subst h; rw [hr]

/-- What the arrivals of the first phase bring. -/
theorem in0 : recvPay P 0 c ⊢ iprop(landed P axM 0 c ∗ dst 26 c) := by
  have e := back3_rel (F := F) c 26 0 (frm 0 c) rfl (reg_back c).2.2.2.2.2.2.2.2.2.2.2.2.2
  unfold dst; rw [← e]; exact glue1'
theorem in13 : recvPay P 13 c ⊢ iprop(landed P bxM 13 c ∗ dst 15 c) := by
  have e := back3_rel (F := F) c 15 13 (frm 13 c) rfl (reg_back c).2.2.2.2.2.2.2.2.2.2.2.2.1
  unfold dst; rw [← e]; exact glue1'
theorem in1 : recvPay P 1 c ⊢ iprop(landed P bz0 1 c ∗ fwd 3 c) := glue1
theorem in2 : recvPay P 2 c ⊢ iprop(landed P ay0 2 c ∗ fwd 4 c) := glue1
theorem in7 : recvPay P 7 c ⊢ iprop(landed P by0 7 c ∗ fwd 9 c) := glue1
theorem in8 : recvPay P 8 c ⊢ iprop(landed P az0 8 c ∗ fwd 10 c) := glue1
theorem in3 : recvPay P 3 c ⊢ iprop(landed P bz1 3 c ∗ fwd 5 c) := glue2
theorem in4 : recvPay P 4 c ⊢ iprop(landed P ay1 4 c ∗ fwd 6 c) := glue2
theorem in9 : recvPay P 9 c ⊢ iprop(landed P by1 9 c ∗ fwd 11 c) := glue2
theorem in10 : recvPay P 10 c ⊢ iprop(landed P az1 10 c ∗ fwd 12 c) := glue2
theorem in5 : recvPay P 5 c ⊢ iprop(landed P bz2 5 c ∗ dst 23 c) := by
  have e := back3_rel (F := F) c 23 1 _ (back3 c).2.2.1 (reg_back c).2.2.2.2.2.2.2.2.2.1
  unfold dst; rw [← e]; exact glue3
theorem in6 : recvPay P 6 c ⊢ iprop(landed P ay2 6 c ∗ dst 20 c) := by
  have e := back3_rel (F := F) c 20 2 _ (back3 c).1 (reg_back c).2.2.2.1
  unfold dst; rw [← e]; exact glue3
theorem in11 : recvPay P 11 c ⊢ iprop(landed P by2 11 c ∗ dst 17 c) := by
  have e := back3_rel (F := F) c 17 7 _ (back3 c).2.2.2 (reg_back c).2.2.2.2.2.2.1
  unfold dst; rw [← e]; exact glue3
theorem in12 : recvPay P 12 c ⊢ iprop(landed P az2 12 c ∗ dst 14 c) := by
  have e := back3_rel (F := F) c 14 8 _ (back3 c).2.1 (reg_back c).1
  unfold dst; rw [← e]; exact glue3

/-- What the arrivals of the second phase bring. -/
theorem in14 : recvPay P 14 c ⊢ iprop(oPt c (reg 16 c) fullShare (fin P) ∗ dst 16 c) := by
  have e := back3_rel (F := F) c 16 10 _ (back3 c).2.1 (reg_back c).2.1
  unfold dst; rw [← e, ← (reg_next c).1]; exact .rfl
theorem in16 : recvPay P 16 c ⊢ iprop(oPt c (reg 18 c) fullShare (fin P) ∗ dst 18 c) := by
  have e := back3_rel (F := F) c 18 12 _ (back3 c).2.1 (reg_back c).2.2.1
  unfold dst; rw [← e, ← (reg_next c).2.1]; exact glue0
theorem in17 : recvPay P 17 c ⊢ iprop(oPt c (reg 19 c) fullShare (fin P) ∗ dst 19 c) := by
  have e := back3_rel (F := F) c 19 9 _ (back3 c).2.2.2 (reg_back c).2.2.2.2.2.2.2.1
  unfold dst; rw [← e, ← (reg_next c).2.2.2.2.1]; exact .rfl
theorem in19 : recvPay P 19 c ⊢ iprop(oPt c (reg 21 c) fullShare (fin P) ∗ dst 21 c) := by
  have e := back3_rel (F := F) c 21 11 _ (back3 c).2.2.2 (reg_back c).2.2.2.2.2.2.2.2.1
  unfold dst; rw [← e, ← (reg_next c).2.2.2.2.2.1]; exact glue0
theorem in20 : recvPay P 20 c ⊢ iprop(oPt c (reg 22 c) fullShare (fin P) ∗ dst 22 c) := by
  have e := back3_rel (F := F) c 22 4 _ (back3 c).1 (reg_back c).2.2.2.2.1
  unfold dst; rw [← e, ← (reg_next c).2.2.2.2.2.2.2.1]; exact .rfl
theorem in22 : recvPay P 22 c ⊢ iprop(oPt c (reg 24 c) fullShare (fin P) ∗ dst 24 c) := by
  have e := back3_rel (F := F) c 24 6 _ (back3 c).1 (reg_back c).2.2.2.2.2.1
  unfold dst; rw [← e, ← (reg_next c).2.2.2.2.2.2.2.2.1]; exact glue0
theorem in23 : recvPay P 23 c ⊢ iprop(oPt c (reg 25 c) fullShare (fin P) ∗ dst 25 c) := by
  have e := back3_rel (F := F) c 25 3 _ (back3 c).2.2.1 (reg_back c).2.2.2.2.2.2.2.2.2.2.1
  unfold dst; rw [← e, ← (reg_next c).2.2.2.2.2.2.2.2.2.2.1]; exact .rfl
theorem in25 : recvPay P 25 c ⊢ iprop(oPt c (reg 27 c) fullShare (fin P) ∗ dst 27 c) := by
  have e := back3_rel (F := F) c 27 5 _ (back3 c).2.2.1 (reg_back c).2.2.2.2.2.2.2.2.2.2.2.1
  unfold dst; rw [← e, ← (reg_next c).2.2.2.2.2.2.2.2.2.2.2.1]; exact glue0
/-- The last arrivals of the rings bring rows only. -/
theorem in_last (k k' : Fin 28) (hk : recvPay P k c = agPay P k c) (he : fwd (F := F) k (frm k c) = iprop(emp)) (hr : reg k (frm k c) = reg k' c) :
    recvPay P k c ⊢ oPt c (reg k' c) fullShare (fin P) := by
  rw [hk]; unfold agPay; rw [he, hr]; iintro ⟨H, -⟩; iexact H
theorem in15 : recvPay P 15 c ⊢ oPt c (reg 13 c) fullShare (fin P) := in_last P c 15 13 rfl rfl (reg_next c).2.2.2.1
theorem in18 : recvPay P 18 c ⊢ oPt c (reg 12 c) fullShare (fin P) := in_last P c 18 12 rfl rfl (reg_next c).2.2.1
theorem in21 : recvPay P 21 c ⊢ oPt c (reg 11 c) fullShare (fin P) := in_last P c 21 11 rfl rfl (reg_next c).2.2.2.2.2.2.1
theorem in24 : recvPay P 24 c ⊢ oPt c (reg 6 c) fullShare (fin P) := in_last P c 24 6 rfl rfl (reg_next c).2.2.2.2.2.2.2.2.2.1
theorem in27 : recvPay P 27 c ⊢ oPt c (reg 5 c) fullShare (fin P) := in_last P c 27 5 rfl rfl (reg_next c).2.2.2.2.2.2.2.2.2.2.2.2.1
theorem in26 : recvPay P 26 c ⊢ oPt c (reg 0 c) fullShare (fin P) := in_last P c 26 0 rfl rfl (reg_next c).2.2.2.2.2.2.2.2.2.2.2.2.2

/-! ## Splitting and joining rows -/

section Cut
variable {c} {q : PosShare TreeShare} {f : OB F}
omit [FloatOps F]

theorem o_share (S : Finset (Fin 64)) : (oPt c S q f : sProp 𝕄) ⊣⊢ iprop(oPt c S q.left f ∗ oPt c S q.right f) :=
  pointsTo_share (PosShare.mem_left_op_right q)
theorem o_two {S A B : Finset (Fin 64)} (h : S = A ∪ B ∧ Disjoint A B) :
    (oPt c S q f : sProp 𝕄) ⊣⊢ iprop(oPt c A q f ∗ oPt c B q f) := by
  have := pointsTo_union (Ix := Unit) (Name := ℕ) (U := UU) (Lvl := ℕ) (ℓ := (c : Thread nD τ).loc cc0_stg5_0) (q := q) (f := (f : Buf (Elt F) ((c : Thread nD τ).loc cc0_stg5_0))) (rows_disjoint h.2)
  rw [← rows_union, ← h.1] at this; exact this
theorem o_four {S A B C D : Finset (Fin 64)} (h : S = A ∪ (B ∪ (C ∪ D)) ∧ Disjoint A (B ∪ (C ∪ D)) ∧ Disjoint B (C ∪ D) ∧ Disjoint C D) :
    (oPt c S q f : sProp 𝕄) ⊣⊢ iprop(oPt c A q f ∗ oPt c B q f ∗ oPt c C q f ∗ oPt c D q f) := by
  refine (o_two ⟨h.1, h.2.1⟩).trans ⟨?_, ?_⟩
  · iintro ⟨HA, H⟩
    icases (o_two ⟨rfl, h.2.2.1⟩).1 $$ H with ⟨HB, H⟩
    icases (o_two ⟨rfl, h.2.2.2⟩).1 $$ H with ⟨HC, HD⟩
    isplitl [HA]; · iexact HA
    isplitl [HB]; · iexact HB
    isplitl [HC] <;> iassumption
  · iintro ⟨HA, HB, HC, HD⟩
    isplitl [HA]; · iexact HA
    iapply (o_two ⟨rfl, h.2.2.1⟩).2
    isplitl [HB]; · iexact HB
    iapply (o_two ⟨rfl, h.2.2.2⟩).2
    isplitl [HC] <;> iassumption
end Cut

end Cert.KernelIdeal.AR

end
-- ==== Proof.Acts.lean ====
/-
  The pieces of the body between the barrier and the end, on the buffers the region gives it: the combined steps.
-/
module

public import proofs.«01_k».proof.Proof.Flow
public import proofs.«01_k».proof.Proof.Gen.KernelIdeal.Skeleton

@[expose] public section

noncomputable section

namespace Cert.KernelIdeal.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F]
local notation "𝕄" => MT nD τ sig Unit (Elt F) ℕ UU ℕ

/-- A part of the body on the region's buffers. -/
abbrev onBufs {β : Type _} (f : ∀ (a0 : Memref sig .tc .vmem S1024x1024 .f32) (_ : a0.IsWhole) (a1 : Memref sig .tc .vmem S1024x1024 .f32) (_ : a1.IsWhole)
    (a2 : Memref sig .tc .vmem S1024x1024 .f32) (_ : a2.IsWhole) (a3 : Memref sig .tc .vmem S1024x256 .f32) (_ : a3.IsWhole)
    (a4 : Memref sig .tc .vmem S1024x256 .f32) (_ : a4.IsWhole) (a5 : Memref sig .tc .vmem S1024x1024 .f32) (_ : a5.IsWhole)
    (a6 : Memref sig .tc .vmem S256x1024 .f32) (_ : a6.IsWhole) (a7 : Memref sig .tc .vmem S256x1024 .f32) (_ : a7.IsWhole)
    (a8 : Memref sig .tc .vmem S3x64x1024 .f32) (_ : a8.IsWhole) (a9 : Memref sig .tc .vmem S3x16x1024 .f32) (_ : a9.IsWhole)
    (a10 : Memref sig .tc .vmem S3x128x1024 .f32) (_ : a10.IsWhole) (a11 : Memref sig .tc .vmem S3x32x1024 .f32) (_ : a11.IsWhole)
    (a12 : Memref sig .tc .vmem S16x1024 .f32) (_ : a12.IsWhole) (_ _ : DmaSems sig S28), β) : β :=
  f (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) oM (Memref.isWhole_whole _)
    (Memref.whole cc0_scratch0) (Memref.isWhole_whole _) axM (Memref.isWhole_whole _) ayM (Memref.isWhole_whole _)
    azM (Memref.isWhole_whole _) bzM (Memref.isWhole_whole _) byM (Memref.isWhole_whole _) bxM (Memref.isWhole_whole _)
    cc0_scratch7 cc0_scratch8

variable (P : Dev nD → OB F) (K : Dev nD × Ck → ℕ)
variable {α : Type} {Q : α → sProp (MT nD τ sig Unit (Elt F) ℕ UU ℕ)}

theorem dev_of {n : ℕ} (h : n < nD) {d : Dev nD} (e : n = d.val) : (⟨n, h⟩ : Dev nD) = d := Fin.ext e

/-- A transfer of the first phase that passes something on; -/
theorem send_rs1 (k : Fin 28) (n n' m : ℕ) (h : k.val = n) (h' : n + 1 = n') (hk : n < 14) {c dv : Dev nD} (hdv : dv = tgt k c) {N₀ : ℕ} (hn : N₀ = 16 * rl k)
    {off : Fin 2 → ℕ} (hoff : off = ![16 * ra k c, 0]) {hin : ∀ b, off b + (Sh N₀).size b ≤ S1024x1024.size b} {hs}
    {M : Memref sig .tc .vmem (Sh N₀) .f32} (hM : ∀ d, recvPay P k d = rsPay P M k d) (hsl : ∀ d, slotOf (F := F) k d = slotAny M d)
    {f : OB F} (hf : f = V P k c) {hsc hsrc hdst hsem} {kt : PUnit → Prog (TpuEff nD τ sig (Elt F) Λ₀ .tc) α} :
    pers P K c ⊢ iprop(Pr n m c -∗ oPt c (reg k c) fullShare f -∗ slotOf k (tgt k c) -∗ fwd k c -∗ (Pr n' m c -∗ wpc c (kt ⟨⟩) Q)
        -∗ wpc c (.op (.enqueueDma (oM.slice (Rw N₀ off hin) hs) (.remote (Dev.tc dv : Thread nD τ) M (.dma (sendS k)) hsc) (.dma (recvS k)) hsrc hdst hsem) kt) Q) := by
  subst h h' hf
  rw [hsl]
  iintro #Hp Hpr Ho Hs Hf
  iapply (send_rs P K k hk m hdv hn hoff hM)
  isplitr; · iexact Hp
  isplitl [Hpr]; · iexact Hpr
  isplitl [Ho]; · iexact Ho
  isplitl [Hs] <;> iassumption

/-- and one that passes nothing on. -/
theorem send_rs0 (k : Fin 28) (n n' m : ℕ) (h : k.val = n) (h' : n + 1 = n') (hk : n < 14) {c dv : Dev nD} (hdv : dv = tgt k c) {N₀ : ℕ} (hn : N₀ = 16 * rl k)
    {off : Fin 2 → ℕ} (hoff : off = ![16 * ra k c, 0]) {hin : ∀ b, off b + (Sh N₀).size b ≤ S1024x1024.size b} {hs}
    {M : Memref sig .tc .vmem (Sh N₀) .f32} (hM : ∀ d, recvPay P k d = rsPay P M k d) (hsl : ∀ d, slotOf (F := F) k d = slotAny M d)
    {f : OB F} (hf : f = V P k c) (hfw : fwd (F := F) k c = iprop(emp)) {hsc hsrc hdst hsem} {kt : PUnit → Prog (TpuEff nD τ sig (Elt F) Λ₀ .tc) α} :
    pers P K c ⊢ iprop(Pr n m c -∗ oPt c (reg k c) fullShare f -∗ slotOf k (tgt k c) -∗ (Pr n' m c -∗ wpc c (kt ⟨⟩) Q)
        -∗ wpc c (.op (.enqueueDma (oM.slice (Rw N₀ off hin) hs) (.remote (Dev.tc dv : Thread nD τ) M (.dma (sendS k)) hsc) (.dma (recvS k)) hsrc hdst hsem) kt) Q) := by
  iintro #Hp Hpr Ho Hs
  iapply (send_rs1 P K k n n' m h h' hk hdv hn hoff hM hsl hf) $$ Hp Hpr Ho Hs
  rw [hfw]; iempintro

/-- A transfer of the second phase. -/
theorem send_dst (k : Fin 28) (n n' m : ℕ) (h : k.val = n) (h' : n + 1 = n') (hk : 14 ≤ n) {q : PosShare TreeShare} (hq : lent k = q)
    {c dv : Dev nD} (hdv : dv = tgt k c) {N₀ : ℕ} (hn : N₀ = 16 * rl k)
    {off : Fin 2 → ℕ} (hoff : off = ![16 * ra k c, 0]) {hin hin' : ∀ b, off b + (Sh N₀).size b ≤ S1024x1024.size b} {hs hs'}
    (hM : ∀ d, recvPay P k d = agPay P k d) {hsc hsrc hdst hsem}
    {kt : PUnit → Prog (TpuEff nD τ sig (Elt F) Λ₀ .tc) α} :
    pers P K c ⊢ iprop(Pr n m c -∗ oPt c (reg k c) q (fin P) -∗ dst k c -∗ (Pr n' m c -∗ wpc c (kt ⟨⟩) Q)
        -∗ wpc c (.op (.enqueueDma (oM.slice (Rw N₀ off hin) hs) (.remote (Dev.tc dv : Thread nD τ) (oM.slice (Rw N₀ off hin') hs') (.dma (sendS k)) hsc) (.dma (recvS k)) hsrc hdst hsem) kt) Q) := by
  subst h h' hq
  unfold dst
  iintro #Hp Hpr Ho Hd
  iapply (send_ag P K k hk m hdv hn hoff hM)
  isplitr; · iexact Hp
  isplitl [Hpr]; · iexact Hpr
  isplitl [Ho]; · iexact Ho
  iexact Hd

/-- A receive wait whose payment is taken in another form. -/
theorem wait_as (k : Fin 28) {c : Dev nD} {X : sProp 𝕄} (hX : recvPay P k c ⊢ X) (n m m' : ℕ) (h : k.val = m) (h' : m + 1 = m') (hkn : m < n)
    {N₀ : ℕ} (hm : N₀ = 16 * rl k)
    {src dst : Memref sig .tc .vmem (Sh N₀) .f32} {h₁ h₂} {kt : PUnit → Prog (TpuEff nD τ sig (Elt F) Λ₀ .tc) α} :
    pers P K c ⊢ iprop(Pr n m c -∗ ((Pr n m' c ∗ X) -∗ wpc c (kt ⟨⟩) Q) -∗ wpc c (.op (.waitDma2 (recvS k) src dst h₁ h₂) kt) Q) := by
  subst h h'
  iintro #Hp Hpr Hk
  iapply (wait_recv P K k n hkn hm) $$ [Hpr]
  · isplitr; · iexact Hp
    iexact Hpr
  iintro ⟨HP, HX⟩
  iapply Hk
  isplitl [HP]; · iexact HP
  iapply hX; iexact HX

/-- The state during the send waits, with what has come back so far. -/
def Wt (j : ℕ) (c : Dev nD) : sProp 𝕄 :=
  iprop(Pw j c ∗ bigSep (Finset.univ.filter fun k : Fin 28 => k.val < j) fun k => sendPay P k c)
theorem Wt_start (c : Dev nD) : (Pr 28 28 c : sProp 𝕄) ⊢ Wt P 0 c := by
  unfold Wt; rw [Pr_last, Finset.filter_false_of_mem (fun k _ => Nat.not_lt_zero _), BI.bigSep_empty]
  iintro H; isplitl [H]; · iexact H
  iempintro
theorem wait_back (k : Fin 28) (j j' : ℕ) (h : k.val = j) (h' : j + 1 = j') {c : Dev nD} {N₀ : ℕ} (hm : N₀ = 16 * rl k) {src : Memref sig .tc .vmem (Sh N₀) .f32}
    {dst : Memref sig .tc .vmem (Sh N₀) .f32} {h₁ h₂} {kt : PUnit → Prog (TpuEff nD τ sig (Elt F) Λ₀ .tc) α} :
    pers P K c ⊢ iprop(Wt P j c -∗ (Wt P j' c -∗ wpc c (kt ⟨⟩) Q) -∗ wpc c (.op (.waitDma2 (sendS k) src dst h₁ h₂) kt) Q) := by
  subst h h'
  have e : (Finset.univ.filter fun i : Fin 28 => i.val < k.val + 1) = insert k (Finset.univ.filter fun i : Fin 28 => i.val < k.val) := by
    ext i; simp only [Finset.mem_filter, Finset.mem_univ, true_and, Finset.mem_insert, Fin.ext_iff]; omega
  have e' : (bigSep (Finset.univ.filter fun i : Fin 28 => i.val < k.val + 1) fun k => sendPay P k c)
      = iprop(sendPay P k c ∗ bigSep (Finset.univ.filter fun i : Fin 28 => i.val < k.val) fun k => sendPay P k c) := by
    rw [e, BI.bigSep_insert (by simp)]; rfl
  unfold Wt
  iintro #Hp ⟨Hw, Hb⟩ Hk
  iapply (wait_send P K k hm) $$ [Hw]
  · isplitr; · iexact Hp
    iexact Hw
  iintro ⟨HP, HX⟩
  iapply Hk
  isplitl [HP]; · iexact HP
  rw [e']; isplitl [HX] <;> iassumption

/-- The printed sum of a run of rows and a slot. -/
theorem pay_ok {n : ℕ} {s : Shape} (hq : s.Squeezes (Sh n)) (h₁ : (Sh n).ShapeCasts (Sh n)) (h₂ : s.ShapeCasts (Sh n)) (vO : FVec F (Sh n) .f32) (vC : FVec F s .f32) (x : (Sh n).Idx) :
    addf (shapeCast (Sh n) vO h₁) (shapeCast (Sh n) vC h₂) x = FloatOps.addf (φ := .f32) (vO x) (vC (Shape.reshapeEquiv hq.numel_eq x)) := by
  rw [shapeCast_self]; rfl

/-- Adding what arrived in a slot to the rows it belongs to. -/
theorem acc_slot (k k' : Fin 28) {c : Dev nD} {g g' : OB F} (hreg : reg k (frm k c) = reg k' c) (hval : padd g (V P k (frm k c)) = g') {n : ℕ} (hn : n = 16 * rl k)
    {off : Fin 2 → ℕ} (hoff : off = ![16 * ra k (frm k c), 0])
    {hin : ∀ b, off b + (Sh n).size b ≤ S1024x1024.size b} {s : Shape} (B : Memref sig .tc .vmem s .f32) (r : Rect s) (hr : ∀ a, r.stride a = 1)
    (hq : r.shape.Squeezes (Sh n)) (pay : ((Sh n).Idx → Elt F .f32) → (r.shape.Idx → Elt F .f32) → (Sh n).Idx → Elt F .f32)
    (hpay : ∀ (vO : (Sh n).Idx → Elt F .f32) (vC : r.shape.Idx → Elt F .f32) x,
      pay vO vC x = FloatOps.addf (φ := .f32) (vO x) (vC (Shape.reshapeEquiv hq.numel_eq x)))
    {hl₁ hl₂ hl₃ hx hm} {kt : PUnit → Prog (TpuEff nD τ sig (Elt F) Λ₀ .tc) α} :
    oPt c (reg k' c) fullShare g ⊢ iprop(landed P ((B.slice r hr).squeeze (Sh n) hq) k c
      -∗ ((oPt c (reg k' c) fullShare g' ∗ landed P ((B.slice r hr).squeeze (Sh n) hq) k c) -∗ wpc c (kt ⟨⟩) Q)
        -∗ wpc c (.op (.load oM (Rw n off hin).toLoadRect hl₁) fun v => .op (.load B r.toLoadRect hl₂) fun w =>
          .op (.load oM (Rw n off hin).toLoadRect hl₃) fun _ => .op (.store oM (Rw n off hin) (pay v w) Finset.univ hx hm) kt) Q) := by
  subst hval
  rw [← hreg]
  unfold landed reg
  iintro Ho Hs Hk
  iapply (load_o hn hoff) $$ Ho
  iintro Ho
  iapply (load_slot B r hr hq _) $$ Hs
  iintro Hs
  iapply (load_o hn hoff) $$ Ho
  iintro Ho
  iapply (store_o hn hoff (padd g (V P k (frm k c))) (fun x => by
    rw [hpay]; unfold padd; rw [Shape.reshapeEquiv_reshapeEquiv, Shape.reshapeEquiv_self])) $$ Ho
  iintro Ho
  iapply Hk
  isplitl [Ho] <;> iassumption

/-- The same for a landing buffer that is one slot. -/
theorem acc_whole (k k' : Fin 28) {c : Dev nD} {g g' : OB F} (hreg : reg k (frm k c) = reg k' c) (hval : padd g (V P k (frm k c)) = g') {n : ℕ} (hn : n = 16 * rl k)
    {off : Fin 2 → ℕ} (hoff : off = ![16 * ra k (frm k c), 0])
    {hin : ∀ b, off b + (Sh n).size b ≤ S1024x1024.size b} (b : Ref sig .tc) (B : Memref sig .tc .vmem (Sh n) .f32)
    {off' : Fin 2 → ℕ} (hz : off' = fun _ => 0) {hin' : ∀ a, off' a + (Sh n).size a ≤ (Sh n).size a}
    (pay : ((Sh n).Idx → Elt F .f32) → ((Sh n).Idx → Elt F .f32) → (Sh n).Idx → Elt F .f32)
    (hpay : ∀ (vO vC : (Sh n).Idx → Elt F .f32) x, pay vO vC x = FloatOps.addf (φ := .f32) (vO x) (vC x))
    {hl₁ hl₂ hl₃ hx hm} {kt : PUnit → Prog (TpuEff nD τ sig (Elt F) Λ₀ .tc) α} :
    oPt c (reg k' c) fullShare g ⊢ iprop(landed P B k c
      -∗ ((oPt c (reg k' c) fullShare g' ∗ landed P B k c) -∗ wpc c (kt ⟨⟩) Q)
        -∗ wpc c (.op (.load oM (Rw n off hin).toLoadRect hl₁) fun v => .op (.load B (Rect.unit (s := Sh n) off' (Sh n).size hin').toLoadRect hl₂) fun w =>
          .op (.load oM (Rw n off hin).toLoadRect hl₃) fun _ => .op (.store oM (Rw n off hin) (pay v w) Finset.univ hx hm) kt) Q) := by
  subst hval
  rw [← hreg]
  unfold landed reg
  iintro Ho Hs Hk
  iapply (load_o hn hoff) $$ Ho
  iintro Ho
  iapply (load_whole b B hz _) $$ Hs
  iintro Hs
  iapply (load_o hn hoff) $$ Ho
  iintro Ho
  iapply (store_o hn hoff (padd g (V P k (frm k c))) (fun x => by rw [hpay]; rfl)) $$ Ho
  iintro Ho
  iapply Hk
  isplitl [Ho] <;> iassumption

/-- Its two halves: the read, -/
theorem acc_read (k k' : Fin 28) {c : Dev nD} {g : OB F} (hreg : reg k (frm k c) = reg k' c) {n : ℕ} (hn : n = 16 * rl k)
    {off : Fin 2 → ℕ} (hoff : off = ![16 * ra k (frm k c), 0]) {hin : ∀ b, off b + (Sh n).size b ≤ S1024x1024.size b} {hl₁}
    {kt : ((Sh n).Idx → Elt F .f32) → Prog (TpuEff nD τ sig (Elt F) Λ₀ .tc) α} :
    oPt c (reg k' c) fullShare g ⊢ iprop((oPt c (reg k' c) fullShare g -∗ wpc c (kt fun x => g (ix (ra k (frm k c)) x)) Q)
        -∗ wpc c (.op (.load oM (Rw n off hin).toLoadRect hl₁) kt) Q) := by
  rw [← hreg]
  exact load_o hn hoff

/-- and the write. -/
theorem acc_write (k k' : Fin 28) {c : Dev nD} {g g' : OB F} (hreg : reg k (frm k c) = reg k' c) {n : ℕ} (hn : n = 16 * rl k)
    {off : Fin 2 → ℕ} (hoff : off = ![16 * ra k (frm k c), 0]) {hin : ∀ b, off b + (Sh n).size b ≤ S1024x1024.size b} {w : (Sh n).Idx → Elt F .f32}
    (hw : ∀ x, g' (ix (ra k (frm k c)) x) = w x) {hl₃ hx hm}
    {kt : PUnit → Prog (TpuEff nD τ sig (Elt F) Λ₀ .tc) α} :
    oPt c (reg k' c) fullShare g ⊢ iprop((oPt c (reg k' c) fullShare g' -∗ wpc c (kt ⟨⟩) Q)
        -∗ wpc c (.op (.load oM (Rw n off hin).toLoadRect hl₃) fun _ => .op (.store oM (Rw n off hin) w Finset.univ hx hm) kt) Q) := by
  rw [← hreg]
  unfold reg
  iintro Ho Hk
  iapply (load_o hn hoff) $$ Ho
  iintro Ho
  iapply (store_o hn hoff g' hw) $$ Ho
  iexact Hk

theorem read_self (f : S256x1024.Idx → Elt F .f32) (x : S256x1024.Idx) : k0_pay84 f x = f x := by
  unfold k0_pay84; exact congrFun (shapeCast_self _ _) x
theorem sum_self (f : S16x1024.Idx → Elt F .f32) (g : S16x1024.Idx → Elt F .f32) (x : S16x1024.Idx) :
    FloatOps.addf (φ := .f32) (f x) (g x)
      = k0_pay94 (k0_pay93 f) (fun y => g (Shape.reshapeEquiv squeezes_S1x16x1024_S16x1024.numel_eq.symm y)) x := by
  unfold k0_pay94 k0_pay93
  dsimp only
  rw [shapeCast_self]
  show _ = FloatOps.addf (φ := .f32) (f x) (g (Shape.reshapeEquiv _ (Shape.reshapeEquiv _ x)))
  rw [Shape.reshapeEquiv_reshapeEquiv, Shape.reshapeEquiv_self]

theorem wpc_ret (c : Dev nD) (a : α) : Q a ⊢ wpc c (.ret a : Prog (TpuEff nD τ sig (Elt F) Λ₀ .tc) α) Q := by
  show _ ⊢ wp frame _ _ _ _
  rw [wp_ret]; iintro H; imodintro; iexact H

/-- The rows finished by this device, as rows of the finished sum. -/
theorem done14 (c : Dev nD) : (oPt c (reg 14 c) fullShare (za3 P c) : sProp 𝕄) = oPt c (reg 14 c) fullShare (fin P) := pointsTo_congr (fin_a P c)
theorem done15 (c : Dev nD) : (oPt c (reg 15 c) fullShare (xb P c) : sProp 𝕄) = oPt c (reg 15 c) fullShare (fin P) := pointsTo_congr (fin_b P c)

end Cert.KernelIdeal.AR

end
-- ==== Proof.Compute.lean ====
/-
  What a device computes before the all-reduce: attention over its own heads, batch row by batch row, and the partial output
  projection; and the local steps of it.
-/
module

public import proofs.«01_k».proof.Proof.Acts

@[expose] public section

noncomputable section

namespace Cert.KernelIdeal.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F]
local notation "𝕄" => MT nD τ sig Unit (Elt F) ℕ UU ℕ

/-- What the region reads on a device: x, and its shares of the four weights. -/
structure Blk (F : FTy → Type) where
  x : S1024x1024.Idx → Elt F .f32
  wq : S1024x1024.Idx → Elt F .f32
  wo : S1024x1024.Idx → Elt F .f32
  wk : S1024x256.Idx → Elt F .f32
  wv : S1024x256.Idx → Elt F .f32

variable (D : Blk F)

/-- Rows of batch b. -/
def xr (b : ℕ) : FVec F S256x1024 .f32 := fun y => D.x (ix (16 * b) y)
/-- One head. -/
def headOut (q k v : FVec F S256x128 .f32) : FVec F S256x128 .f32 :=
  let s := mulf (matmul dot_S256x128_S256x128_S256x256_1_1_0_0_n_n none q k (constant S256x256 .f32 0x00000000#32))
    (broadcast S256x256 (Scalar.ofBits .f32 0x3DB504F3#32 : F .f32))
  let m := multiReduction .maximumf [1] S256 s 0xFF800000#32 reduces_S256x256_S256 (.inl rfl) rfl
  let p := exp (subf s (broadcastTo S256x256 (shapeCast S256x1 m shapeCasts_S256_S256x1) broadcasts_S256x1_S256x256))
  let l := multiReduction .add [1] S256 p 0x00000000#32 reduces_S256x256_S256 (.inl rfl) rfl
  divf (matmul dot_S256x256_S256x128_S256x128_1_0_0_1_n_n none p v (constant S256x128 .f32 0x00000000#32))
    (broadcastTo S256x128 (shapeCast S256x1 l shapeCasts_S256_S256x1) broadcasts_S256x1_S256x128)
/-- The heads of a batch, from its projections. -/
def heads (Q : FVec F S256x1024 .f32) (K V : FVec F S256x256 .f32) (h : Fin 8) : FVec F S256x128 .f32 :=
  let k0 := extractStridedSlice S256x128 ![0, 0] K slices_S256x256_o0_0_S256x128
  let k1 := extractStridedSlice S256x128 ![0, 128] K slices_S256x256_o0_128_S256x128
  let v0 := extractStridedSlice S256x128 ![0, 0] V slices_S256x256_o0_0_S256x128
  let v1 := extractStridedSlice S256x128 ![0, 128] V slices_S256x256_o0_128_S256x128
  shapeCast S256x128 (match h with
  | 0 => headOut (extractStridedSlice S256x128 ![0, 0] Q slices_S256x1024_o0_0_S256x128) k0 v0
  | 1 => headOut (extractStridedSlice S256x128 ![0, 128] Q slices_S256x1024_o0_128_S256x128) k0 v0
  | 2 => headOut (extractStridedSlice S256x128 ![0, 256] Q slices_S256x1024_o0_256_S256x128) k0 v0
  | 3 => headOut (extractStridedSlice S256x128 ![0, 384] Q slices_S256x1024_o0_384_S256x128) k0 v0
  | 4 => headOut (extractStridedSlice S256x128 ![0, 512] Q slices_S256x1024_o0_512_S256x128) k1 v1
  | 5 => headOut (extractStridedSlice S256x128 ![0, 640] Q slices_S256x1024_o0_640_S256x128) k1 v1
  | 6 => headOut (extractStridedSlice S256x128 ![0, 768] Q slices_S256x1024_o0_768_S256x128) k1 v1
  | 7 => headOut (extractStridedSlice S256x128 ![0, 896] Q slices_S256x1024_o0_896_S256x128) k1 v1) shapeCasts_S256x128_S256x128
def Qb (b : ℕ) : FVec F S256x1024 .f32 := k0_pay2 (xr D b) D.wq
def Kb (b : ℕ) : FVec F S256x256 .f32 := k0_pay3 (xr D b) D.wk
def Vb (b : ℕ) : FVec F S256x256 .f32 := k0_pay4 (xr D b) D.wv
/-- The heads side by side. -/
def attn (Q : FVec F S256x1024 .f32) (K V : FVec F S256x256 .f32) : FVec F S256x1024 .f32 := fun i =>
  heads Q K V ⟨(i 1).val / 128 % 8, Nat.mod_lt _ (by decide)⟩ (fun b => ⟨(match b with | 0 => (i 0).val % 256 | 1 => (i 1).val % 128), by
    fin_cases b <;> exact Nat.mod_lt _ (by decide)⟩)
/-- A batch's rows of the partial product. -/
def outB (b : ℕ) : FVec F S256x1024 .f32 := k0_pay20 (attn (Qb D b) (Kb D b) (Vb D b)) D.wo
/-- The partial product. -/
def partialOut : OB F := fun i => outB D ((i 0).val / 256) (fun b => ⟨(match b with | 0 => (i 0).val % 256 | 1 => (i 1).val % 1024), by
    fin_cases b <;> exact Nat.mod_lt _ (by decide)⟩)

/-- An element of a block of columns. -/
def cx (h : ℕ) (x : S256x128.Idx) : S256x1024.Idx :=
  fun b => ⟨(match b with | 0 => (x 0).val % 256 | 1 => (128 * h + (x 1).val) % 1024), by fin_cases b <;> exact Nat.mod_lt _ (by decide)⟩

theorem attn_at (Q : FVec F S256x1024 .f32) (K V : FVec F S256x256 .f32) (h : Fin 8) (x : S256x128.Idx) : attn Q K V (cx h.val x) = heads Q K V h x := by
  have h0 : (x 0).val < 256 := (x 0).isLt
  have h1 : (x 1).val < 128 := (x 1).isLt
  have hh := h.isLt
  have e : (128 * h.val + (x 1).val) % 1024 = 128 * h.val + (x 1).val := Nat.mod_eq_of_lt (by omega)
  unfold attn
  congr 1
  · congr 1
    show ((128 * h.val + (x 1).val) % 1024) / 128 % 8 = h.val
    omega
  · funext b; apply Fin.ext
    fin_cases b
    · show (x 0).val % 256 % 256 = (x 0).val; omega
    · show (128 * h.val + (x 1).val) % 1024 % 128 = (x 1).val; omega

theorem partial_at (b : ℕ) (hb : b < 4) (x : S256x1024.Idx) : partialOut D (ix (16 * b) x) = outB D b x := by
  have h0 : (x 0).val < 256 := (x 0).isLt
  have h1 : (x 1).val < 1024 := (x 1).isLt
  unfold partialOut
  congr 1
  · show (16 * (16 * b) + (x 0).val) % 1024 / 256 = b
    omega
  · funext a; apply Fin.ext
    fin_cases a
    · show (16 * (16 * b) + (x 0).val) % 1024 % 256 = (x 0).val; omega
    · show (x 1).val % 1024 % 1024 = (x 1).val; omega

/-! ## The steps -/

variable {α : Type} {Q : α → sProp (MT nD τ sig Unit (Elt F) ℕ UU ℕ)} {c : Dev nD}

/-- The region's five input blocks. -/
def Ins (c : Dev nD) : sProp 𝕄 :=
  iprop(((c : Thread nD τ).loc cc0_stg0_0 ↦{fullShare} (D.x : Buf (Elt F) ((c : Thread nD τ).loc cc0_stg0_0)))
    ∗ ((c : Thread nD τ).loc cc0_stg1_0 ↦{fullShare} (D.wq : Buf (Elt F) ((c : Thread nD τ).loc cc0_stg1_0)))
    ∗ ((c : Thread nD τ).loc cc0_stg2_0 ↦{fullShare} (D.wo : Buf (Elt F) ((c : Thread nD τ).loc cc0_stg2_0)))
    ∗ ((c : Thread nD τ).loc cc0_stg3_0 ↦{fullShare} (D.wk : Buf (Elt F) ((c : Thread nD τ).loc cc0_stg3_0)))
    ∗ ((c : Thread nD τ).loc cc0_stg4_0 ↦{fullShare} (D.wv : Buf (Elt F) ((c : Thread nD τ).loc cc0_stg4_0))))

theorem emb_full {s : Shape} {off : Fin s.rank → ℕ} (hz : off = fun _ => 0) {hin : ∀ a, off a + s.size a ≤ s.size a} (x : s.Idx) :
    (Rect.unit (s := s) off s.size hin).emb x = x := by
  subst hz; funext a; apply Fin.ext; show 0 + 1 * (x a).val = (x a).val; omega

/-- A load from a whole buffer, what it reads named. -/
theorem load_ref {s : Shape} {b : Ref sig .tc} (B : Memref sig .tc .vmem s .f32) {q : PosShare TreeShare} (r : Rect s)
    {f : Buf (Elt F) (B.view.loc (c : Thread nD τ))} {hl} {k : (r.shape.Idx → Elt F .f32) → Prog (TpuEff nD τ sig (Elt F) Λ₀ .tc) α} {w : r.shape.Idx → Elt F .f32}
    (hw : (B.access r).read (Elt F) f = w) :
    (B.view.loc (c : Thread nD τ) ↦{q} f) ⊢ iprop(((B.view.loc (c : Thread nD τ) ↦{q} f) -∗ wpc c (k w) Q) -∗ wpc c (.op (.load B r.toLoadRect hl) k) Q) := by
  have h := wp_load_rect (defs := defs₀ (F := F)) 𝒱₀ (c : Thread nD τ) none (Γ := .empty) (U := UU) (Lvl := ℕ) (Ix := Unit) (Name := ℕ) Set.univ (m := B) (r := r) (hl := hl) (k := k) (Q := Q) (q := q) (f := f) (S := Finset.univ) (Finset.subset_univ _)
  rw [hw] at h; exact h

section Whole
variable {off : Fin 2 → ℕ} (hz : off = fun _ => 0)
include hz
theorem load_q {hin : ∀ a, off a + S1024x1024.size a ≤ S1024x1024.size a} {hl} {k : (S1024x1024.Idx → Elt F .f32) → Prog (TpuEff nD τ sig (Elt F) Λ₀ .tc) α} :
    Ins D c ⊢ iprop((Ins D c -∗ wpc c (k D.wq) Q) -∗ wpc c (.op (.load (Memref.whole cc0_stg1_0) (Rect.unit (s := S1024x1024) off S1024x1024.size hin).toLoadRect hl) k) Q) := by
  unfold Ins; iintro ⟨H0, H1, H2, H3, H4⟩ Hk
  iapply (load_ref (b := cc0_stg1_0) (Memref.whole cc0_stg1_0) (Rect.unit (s := S1024x1024) off S1024x1024.size hin) (w := D.wq) (by funext x; exact congrArg D.wq (emb_full hz x))) $$ H1
  iintro H1; iapply Hk; iframe
theorem load_wo {hin : ∀ a, off a + S1024x1024.size a ≤ S1024x1024.size a} {hl} {k : (S1024x1024.Idx → Elt F .f32) → Prog (TpuEff nD τ sig (Elt F) Λ₀ .tc) α} :
    Ins D c ⊢ iprop((Ins D c -∗ wpc c (k D.wo) Q) -∗ wpc c (.op (.load (Memref.whole cc0_stg2_0) (Rect.unit (s := S1024x1024) off S1024x1024.size hin).toLoadRect hl) k) Q) := by
  unfold Ins; iintro ⟨H0, H1, H2, H3, H4⟩ Hk
  iapply (load_ref (b := cc0_stg2_0) (Memref.whole cc0_stg2_0) (Rect.unit (s := S1024x1024) off S1024x1024.size hin) (w := D.wo) (by funext x; exact congrArg D.wo (emb_full hz x))) $$ H2
  iintro H2; iapply Hk; iframe
theorem load_k {hin : ∀ a, off a + S1024x256.size a ≤ S1024x256.size a} {hl} {k : (S1024x256.Idx → Elt F .f32) → Prog (TpuEff nD τ sig (Elt F) Λ₀ .tc) α} :
    Ins D c ⊢ iprop((Ins D c -∗ wpc c (k D.wk) Q) -∗ wpc c (.op (.load (Memref.whole cc0_stg3_0) (Rect.unit (s := S1024x256) off S1024x256.size hin).toLoadRect hl) k) Q) := by
  unfold Ins; iintro ⟨H0, H1, H2, H3, H4⟩ Hk
  iapply (load_ref (b := cc0_stg3_0) (Memref.whole cc0_stg3_0) (Rect.unit (s := S1024x256) off S1024x256.size hin) (w := D.wk) (by funext x; exact congrArg D.wk (emb_full hz x))) $$ H3
  iintro H3; iapply Hk; iframe
theorem load_v {hin : ∀ a, off a + S1024x256.size a ≤ S1024x256.size a} {hl} {k : (S1024x256.Idx → Elt F .f32) → Prog (TpuEff nD τ sig (Elt F) Λ₀ .tc) α} :
    Ins D c ⊢ iprop((Ins D c -∗ wpc c (k D.wv) Q) -∗ wpc c (.op (.load (Memref.whole cc0_stg4_0) (Rect.unit (s := S1024x256) off S1024x256.size hin).toLoadRect hl) k) Q) := by
  unfold Ins; iintro ⟨H0, H1, H2, H3, H4⟩ Hk
  iapply (load_ref (b := cc0_stg4_0) (Memref.whole cc0_stg4_0) (Rect.unit (s := S1024x256) off S1024x256.size hin) (w := D.wv) (by funext x; exact congrArg D.wv (emb_full hz x))) $$ H4
  iintro H4; iapply Hk; iframe
end Whole

theorem load_x (b : ℕ) {off : Fin 2 → ℕ} (hoff : off = ![16 * (16 * b), 0]) {hin : ∀ a, off a + S256x1024.size a ≤ S1024x1024.size a} {hl}
    {k : (S256x1024.Idx → Elt F .f32) → Prog (TpuEff nD τ sig (Elt F) Λ₀ .tc) α} :
    Ins D c ⊢ iprop((Ins D c -∗ wpc c (k (xr D b)) Q) -∗ wpc c (.op (.load (Memref.whole cc0_stg0_0) (Rect.unit (s := S1024x1024) off S256x1024.size hin).toLoadRect hl) k) Q) := by
  unfold Ins; iintro ⟨H0, H1, H2, H3, H4⟩ Hk
  iapply (load_ref (b := cc0_stg0_0) (Memref.whole cc0_stg0_0) (Rect.unit (s := S1024x1024) off S256x1024.size hin) (w := xr D b) (by funext x; exact congrArg D.x (emb_rw hoff x))) $$ H0
  iintro H0; iapply Hk; iframe

/-- The heads' buffer with the first j heads done. -/
def Cols (A : FVec F S256x1024 .f32) (j : ℕ) (c : Dev nD) : sProp 𝕄 :=
  iprop(∃ f : Buf (Elt F) ((c : Thread nD τ).loc cc0_scratch0), ⌜∀ i : S256x1024.Idx, (i 1).val < 128 * j → f i = A i⌝ ∗ ((c : Thread nD τ).loc cc0_scratch0 ↦{fullShare} f))
theorem cols_reset (A B : FVec F S256x1024 .f32) (j : ℕ) : Cols A j c ⊢ Cols B 0 c := by
  unfold Cols; iintro ⟨%f, -, H⟩; iexists f
  isplitr; · ipureintro; intro i hi; omega
  iexact H

theorem col_step (A : FVec F S256x1024 .f32) (j j' : ℕ) (h' : j + 1 = j') {off : Fin 2 → ℕ} (hoff : off = ![0, 128 * j]) {w : S256x128.Idx → Elt F .f32}
    {hin : ∀ a, off a + S256x128.size a ≤ S256x1024.size a} (hw : ∀ x, A (cx j x) = w x) {hl hx hm} {k : PUnit → Prog (TpuEff nD τ sig (Elt F) Λ₀ .tc) α} :
    Cols A j c ⊢ iprop((Cols A j' c -∗ wpc c (k ⟨⟩) Q)
      -∗ wpc c (.op (.load (Memref.whole cc0_scratch0) (Rect.unit (s := S256x1024) off S256x128.size hin).toLoadRect hl) fun _ =>
          .op (.store (Memref.whole cc0_scratch0) (Rect.unit (s := S256x1024) off S256x128.size hin) w Finset.univ hx hm) k) Q) := by
  subst h' hoff
  have he : ∀ x : S256x128.Idx, (Rect.unit (s := S256x1024) ![0, 128 * j] S256x128.size hin).emb x = cx j x := fun x => by
    have h0 : (x 0).val < 256 := (x 0).isLt
    have h1 : (x 1).val < 128 := (x 1).isLt
    have hj : 128 * j + 128 ≤ 1024 := hin 1
    funext b; apply Fin.ext; rw [Rect.emb_apply]; fin_cases b
    · show 0 + 1 * (x 0).val = (x 0).val % 256; omega
    · show 128 * j + 1 * (x 1).val = (128 * j + (x 1).val) % 1024; omega
  unfold Cols
  iintro ⟨%f, %hf, H⟩ Hk
  iapply (load_ref (b := cc0_scratch0) (Memref.whole cc0_scratch0) (Rect.unit (s := S256x1024) ![0, 128 * j] S256x128.size hin) rfl) $$ H
  iintro H
  have h := wp_store (defs := defs₀ (F := F)) 𝒱₀ (c : Thread nD τ) none (Γ := .empty) (U := UU) (Lvl := ℕ) (Ix := Unit) (Name := ℕ) Set.univ (m := Memref.whole cc0_scratch0)
    (r := Rect.unit (s := S256x1024) ![0, 128 * j] S256x128.size hin) (hx := hx) (hm := hm) (k := k) (Q := Q) (f := f) (w := w) (Finset.subset_univ _)
  iapply h $$ H
  iintro H
  iapply Hk
  iexists _
  isplitr
  swap
  · iexact H
  ipureintro
  intro i hi
  by_cases hm' : ∃ x : S256x128.Idx, (Rect.unit (s := S256x1024) ![0, 128 * j] S256x128.size hin).emb x = i
  · obtain ⟨x, rfl⟩ := hm'
    refine (View.write_emb_of_mem _ _ (Finset.mem_univ x)).trans ?_
    refine (hw x).symm.trans (congrArg A (he x).symm)
  · have hlt : (i 1).val < 128 * j := by
      by_contra hge
      have hi0 : (i 0).val < 256 := (i 0).isLt
      refine hm' ⟨fun b => ⟨(match b with | 0 => (i 0).val | 1 => (i 1).val - 128 * j), by
        fin_cases b
        · exact hi0
        · show (i 1).val - 128 * j < 128; omega⟩, ?_⟩
      rw [he]
      have hj : 128 * j + 128 ≤ 1024 := hin 1
      funext b; apply Fin.ext; fin_cases b
      · show (i 0).val % 256 = (i 0).val; omega
      · show (128 * j + ((i 1).val - 128 * j)) % 1024 = (i 1).val; omega
    refine Eq.trans ?_ (hf i hlt)
    refine View.write_of_not_mem _ _ _ ?_
    rw [View.setOn_univ, View.set_slice_whole]
    intro hmem
    rw [← Rect.map_emb_univ] at hmem
    obtain ⟨x, -, hx'⟩ := Finset.mem_map.mp hmem
    exact hm' ⟨x, hx'⟩

theorem col_load (A : FVec F S256x1024 .f32) {off : Fin 2 → ℕ} (hz : off = fun _ => 0)
    {hin : ∀ a, off a + S256x1024.size a ≤ S256x1024.size a} {hl} {k : (S256x1024.Idx → Elt F .f32) → Prog (TpuEff nD τ sig (Elt F) Λ₀ .tc) α} :
    Cols A 8 c ⊢ iprop((Cols A 8 c -∗ wpc c (k A) Q)
      -∗ wpc c (.op (.load (Memref.whole cc0_scratch0) (Rect.unit (s := S256x1024) off S256x1024.size hin).toLoadRect hl) k) Q) := by
  unfold Cols
  iintro ⟨%f, %hf, H⟩ Hk
  iapply (load_ref (b := cc0_scratch0) (Memref.whole cc0_scratch0) (Rect.unit (s := S256x1024) off S256x1024.size hin) (w := A) (by
    funext x; exact (congrArg f (emb_full hz x)).trans (hf x (show (x 1).val < 1024 from (x 1).isLt)))) $$ H
  iintro H; iapply Hk
  iexists f; isplitr
  · ipureintro; exact hf
  iexact H

/-- A batch's rows of the partial product are written. -/
theorem out_step (b : ℕ) (hb : b < 4) {P : Dev nD → OB F} (hP : P c = partialOut D) {off : Fin 2 → ℕ} (hoff : off = ![16 * (16 * b), 0])
    {hin : ∀ a, off a + (Sh 256).size a ≤ S1024x1024.size a} {w : (Sh 256).Idx → Elt F .f32} (hw : outB D b = w) {hl hx hm}
    {k : PUnit → Prog (TpuEff nD τ sig (Elt F) Λ₀ .tc) α} :
    oAny c (run (16 * b) 16) ⊢ iprop((oPt c (run (16 * b) 16) fullShare (P c) -∗ wpc c (k ⟨⟩) Q)
      -∗ wpc c (.op (.load oM (Rw 256 off hin).toLoadRect hl) fun _ => .op (.store oM (Rw 256 off hin) w Finset.univ hx hm) k) Q) := by
  subst hw
  unfold oAny
  iintro ⟨%f, H⟩ Hk
  iapply (load_o (l := 16) rfl hoff) $$ H
  iintro H
  iapply (store_o (l := 16) rfl hoff (P c) (fun x => by rw [hP]; exact partial_at D b hb x)) $$ H
  iexact Hk

theorem cut_low : lower = run (16 * 0) 16 ∪ run (16 * 1) 16 ∧ Disjoint (run (16 * 0) 16) (run (16 * 1) 16) := by decide +kernel
theorem cut_upp : upper = run (16 * 2) 16 ∪ run (16 * 3) 16 ∧ Disjoint (run (16 * 2) 16) (run (16 * 3) 16) := by decide +kernel

end Cert.KernelIdeal.AR

end
-- ==== Proof.Barrier.lean ====
/-
  The start of the protocol: the five signals to the neighbours, each giving a neighbour the landing slots it will write, and the
  wait for theirs.
-/
module

public import proofs.«01_k».proof.Proof.Compute
public import Idealize.ShloMosaic.Lib.Pipeline.Launch

@[expose] public section

noncomputable section

namespace Cert.KernelIdeal.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F]
local notation "𝕄" => MT nD τ sig Unit (Elt F) ℕ UU ℕ
variable (P : Dev nD → OB F) (K : Dev nD × Ck → ℕ)

/-- With the first n signals made. -/
def Sg (n : ℕ) (c : Dev nD) : sProp 𝕄 :=
  iprop((∃ W, owes (c : Thread nD τ) (owed 0 c + owedB n c) W)
    ∗ (bigSep (Finset.univ.filter fun j : Fin 5 => n ≤ j.val) fun j => dutyTok ER (barCell (nb j c)) 0 j)
    ∗ (bigSep (Finset.univ.filter fun k : Fin 28 => n ≤ (op (dir k)).val) fun k => slotOf k c))
/-- The rest of a device's state until the wait is done. -/
def Rs (c : Dev nD) : sProp 𝕄 :=
  iprop(atPos ER (barCell c) 0 ∅ 0 ∗ cred (tallyAt (barCell c) () 5) ∗ bigSep Finset.univ (sndSt 0 c) ∗ bigSep Finset.univ (rcvSt 0 c))

variable {α : Type} {Q : α → sProp (MT nD τ sig Unit (Elt F) ℕ UU ℕ)} {c : Dev nD}

/-- A signal. -/
theorem sig_step (j : Fin 5) (n n' : ℕ) (h : j.val = n) (h' : n + 1 = n') {dv : Dev nD} (hdv : dv = nb j c) {w : BitVec 32} (hw : w = 1#32)
    {kt : PUnit → Prog (TpuEff nD τ sig (Elt F) Λ₀ .tc) α} :
    persOwn P K c ⊢ iprop(Sg n c -∗ (Sg n' c -∗ wpc c (kt ⟨⟩) Q)
      -∗ wpc c (.op (.semSignal (Dev.tc dv : Thread nD τ) barS w.toInt) kt) Q) := by
  subst h h' hdv hw
  have e1 : (Finset.univ.filter fun i : Fin 5 => j.val ≤ i.val) = insert j (Finset.univ.filter fun i : Fin 5 => j.val + 1 ≤ i.val) := filter_step j
  have e2 : (bigSep (Finset.univ.filter fun i : Fin 5 => j.val ≤ i.val) fun j => dutyTok ER (barCell (nb j c)) 0 j : sProp 𝕄)
      = iprop(dutyTok ER (barCell (nb j c)) 0 j ∗ bigSep (Finset.univ.filter fun i : Fin 5 => j.val + 1 ≤ i.val) fun j => dutyTok ER (barCell (nb j c)) 0 j) := by
    rw [e1, BI.bigSep_insert (filter_notin j)]; rfl
  have hsub : (Finset.univ.filter fun k : Fin 28 => dir k = op j) ⊆ Finset.univ.filter fun k : Fin 28 => j.val ≤ (op (dir k)).val := by
    intro k hk
    rw [Finset.mem_filter] at hk ⊢
    refine ⟨Finset.mem_univ _, ?_⟩
    rw [hk.2, op_op]
  have hsd : (Finset.univ.filter fun k : Fin 28 => j.val ≤ (op (dir k)).val) \ (Finset.univ.filter fun k : Fin 28 => dir k = op j)
      = Finset.univ.filter fun k : Fin 28 => j.val + 1 ≤ (op (dir k)).val := by
    ext k; simp only [Finset.mem_sdiff, Finset.mem_filter, Finset.mem_univ, true_and]
    constructor
    · rintro ⟨h1, h2⟩
      have : (op (dir k)).val ≠ j.val := fun h => h2 (by rw [← op_op (dir k), Fin.ext h])
      omega
    · intro h1
      refine ⟨by omega, fun h2 => ?_⟩
      rw [h2, op_op] at h1; omega
  have e3 : (bigSep (Finset.univ.filter fun k : Fin 28 => j.val ≤ (op (dir k)).val) fun k => slotOf k c : sProp 𝕄)
      = iprop((bigSep (Finset.univ.filter fun k : Fin 28 => dir k = op j) fun k => slotOf k c)
        ∗ bigSep (Finset.univ.filter fun k : Fin 28 => j.val + 1 ≤ (op (dir k)).val) fun k => slotOf k c) := by
    rw [BI.bigSep_sdiff_split hsub, hsd]; rfl
  have hpay : iprop(persOwn P K c ∗ bigSep (Finset.univ.filter fun k : Fin 28 => dir k = op j) fun k => slotOf k c) ⊢ barPay (F := F) (nb j c) j := by
    unfold barPay
    rw [nb_op]
    refine bigSep_with_persistent (R := persOwn P K c) (fun k _ => ?_)
    iintro ⟨#Hp, Hs⟩
    ihave #Hr := (own_recv P K k c) $$ Hp
    isplitr; · iexact Hr
    iexact Hs
  have hO : owed 0 c + owedB j.val c = owed 0 c + owedB (j.val + 1) c + tallyAt ((nb j c : Thread nD τ), SemLoc.reg barS) () (1#32).toNat := by
    rw [owedB_step j c, add_assoc]; rfl
  unfold Sg
  rw [e2, e3]
  iintro #Hp ⟨⟨%W, HO⟩, ⟨Ht, Hts⟩, Hs, Hss⟩ Hk
  icases (own_bar P K c (nb j c)) $$ Hp with ⟨#HI, #Hr⟩
  iapply (Rounds.wp_signal 𝒱₀ ER (arRd P) (c : Thread nD τ) none (dst := (nb j c : Thread nD τ)) (κ := K (nb j c, none))
      (by rw [duties_bar]; exact Finset.mem_univ j) ((amount_bar P (nb j c) j).trans (by decide)) () (owed 0 c + owedB (j.val + 1) c) hO (W := W))
    $$ [HO Ht Hs]
  · isplitr; · iexact HI
    isplitl [HO]; · iexact HO
    isplitl [Ht]; · iexact Ht
    isplitl [Hs]
    · rw [payload_bar]; iapply hpay; isplitr; · iexact Hp
      iexact Hs
    · iexact Hr
  iintro HO
  iapply Hk
  isplitl [HO]; · iexists W; iexact HO
  isplitl [Hts]; · iexact Hts
  iexact Hss

/-- What the neighbours paid, sorted by transfer: their slots, and that their receive cells are open. -/
theorem slots_of : (bigSep Finset.univ (barPay (F := F) c) : sProp 𝕄)
    ⊢ iprop((bigSep Finset.univ fun k : Fin 28 => reached ER (recvCell k (tgt k c)) 0) ∗ bigSep Finset.univ fun k : Fin 28 => slotOf k (tgt k c)) := by
  have e : (Finset.univ : Finset (Fin 28)) = Finset.univ.biUnion fun j : Fin 5 => Finset.univ.filter fun k : Fin 28 => dir k = op j := by decide
  rw [← bigSep_sep', e, BI.bigSep_biUnion_eq _ _ _ (fun j _ j' _ hne => Finset.disjoint_left.mpr fun k hk hk' => hne (by
    have h1 := (Finset.mem_filter.mp hk).2.symm.trans (Finset.mem_filter.mp hk').2
    rw [← op_op j, h1, op_op]))]
  refine BI.bigSep_mono fun j _ => ?_
  unfold barPay
  refine BI.bigSep_mono fun k hk => ?_
  show iprop(reached ER (recvCell k (nb (op j) c)) 0 ∗ slotOf k (nb (op j) c)) ⊢ iprop(reached ER (recvCell k (nb (dir k) c)) 0 ∗ slotOf k (nb (dir k) c))
  rw [(Finset.mem_filter.mp hk).2]

/-- The wait. -/
theorem bar_wait {w : BitVec 32} (hw : w = 5#32) {kt : PUnit → Prog (TpuEff nD τ sig (Elt F) Λ₀ .tc) α} :
    persOwn P K c ⊢ iprop(Sg 5 c -∗ Rs c
      -∗ ((pers P K c ∗ Pr 0 0 c ∗ atPos ER (barCell c) 1 ∅ 0 ∗ bigSep Finset.univ fun k : Fin 28 => slotOf k (tgt k c)) -∗ wpc c (kt ⟨⟩) Q)
      -∗ wpc c (.op (.semWait barS w.toInt) kt) Q) := by
  subst hw
  have hmw := (@own_lev F _ P K c).trans (mayWait_bar c)
  unfold Sg Rs Pr
  rw [owedB_last, add_zero]
  iintro #Hp ⟨⟨%W, HO⟩, -, -⟩ ⟨Hat, Hc, Hs, Hr⟩ Hk
  icases (own_bar P K c c) $$ Hp with ⟨#HI, -⟩
  iapply (Rounds.wp_wait_rest_token 𝒱₀ ER (arRd P) (c : Thread nD τ) none (κ := K (c, none))
      (wpE_semWait_eq 𝒱₀ (c : Thread nD τ) none Set.univ) (Set.mem_univ _) () (O := owed 0 c) (W := W) (R := 0) (m := 0) (T := ∅)
      (by rw [Nat.zero_add, expect_bar]; decide)) $$ [Hc HO Hat]
  · isplitr; · iexact HI
    isplitl [Hc]; · iexact Hc
    isplitl [HO]; · iexact HO
    isplitr; · iapply hmw; iexact Hp
    iexact Hat
  iintro ⟨HO, Hat, -, Hpay⟩
  ihave Hb := (Entails.of_eq (rest_bar P c)) $$ Hpay
  icases slots_of $$ Hb with ⟨#HR, Hb'⟩
  iapply Hk
  isplitr
  · unfold persOwn pers
    icases Hp with ⟨#H1, #H2, -⟩
    isplitr; · iexact H1
    isplitr; · iexact H2
    iexact HR
  isplitl [HO Hs Hr]
  · isplitl [HO]; · iexists _; iexact HO
    isplitl [Hs] <;> iassumption
  isplitl [Hat] <;> iassumption

variable (c : Dev nD) (D : Blk F)

theorem part1 {Q : (Σ' (d0 : Dev nD) (v19 : BitVec 32) (v20 : BitVec 32) (v37 : BitVec 32), BitVec 1) → sProp 𝕄} :
    iprop(∀ a b d e, Q ⟨c, a, b, d, e⟩) ⊢ wpc c (onBufs (k0_part1 (F := F))) Q := by
  simp only [k0_part1_eq_skeleton]; unfold onBufs k0_part1_skel
  simp only [Prog.lift, Prog.bind_op, Prog.bind_ret, Prog.pure_eq_ret, Prog.bind_assoc, wp_deviceId]
  iintro Hk
  iapply wpc_ret
  iapply Hk
theorem part2 (v19 v20 v37 : BitVec 32) (v39 : BitVec 1) {Q : (Σ' (v43 : BitVec 32) (v52 : BitVec 32) (v62 : BitVec 32) (v72 : BitVec 32), BitVec 32) → sProp 𝕄} :
    iprop(∀ r, Q r) ⊢ wpc c (onBufs (k0_part2 (F := F)) v19 v20 v37 v39) Q := by
  simp only [k0_part2_eq_skeleton]; unfold onBufs k0_part2_skel
  simp only [Prog.lift, Prog.bind_op, Prog.bind_ret, Prog.pure_eq_ret, Prog.bind_assoc]
  iintro Hk
  iapply wpc_ret
  iapply Hk
theorem part3 (v19 v37 v43 v52 v62 v72 v74 : BitVec 32) {Q : (Σ' (v82 : BitVec 32) (v92 : BitVec 32), Sems sig S_) → sProp 𝕄} :
    persOwn P K c ⊢ iprop(Sg 0 c -∗ (∀ a b, Sg 4 c -∗ Q ⟨a, b, SemArray.scalar (sig.barrier 0 rfl)⟩)
      -∗ wpc c (onBufs (k0_part3 (F := F)) c v19 v37 v43 v52 v62 v72 v74) Q) := by
  simp only [k0_part3_eq_skeleton]; unfold onBufs k0_part3_skel
  simp only [semSignalWord, Prog.lift, Prog.bind_op, Prog.bind_ret, Prog.pure_eq_ret, Prog.bind_assoc]
  iintro #Hp HS Hk
  iapply (sig_step P K 0 0 1 rfl rfl (dev_of (k0_dev1_lt c) (sig_dev c).1) rfl) $$ Hp HS
  iintro HS
  iapply (sig_step P K 1 1 2 rfl rfl (dev_of (k0_dev2_lt c) (sig_dev c).2.1) rfl) $$ Hp HS
  iintro HS
  iapply (sig_step P K 2 2 3 rfl rfl (dev_of (k0_dev3_lt c) (sig_dev c).2.2.1) rfl) $$ Hp HS
  iintro HS
  iapply (sig_step P K 3 3 4 rfl rfl (dev_of (k0_dev4_lt c) (sig_dev c).2.2.2.1) rfl) $$ Hp HS
  iintro HS
  iapply wpc_ret
  iapply Hk; iexact HS
theorem part4 (v19 v37 v43 : BitVec 32) {Q : (Σ' (v104 : BitVec 32) (v106 : BitVec 32) (v108 : BitVec 32) (v110 : BitVec 32) (v115 : FVec F S256x1024 .f32) (v118 : FVec F S256x256 .f32) (v121 : FVec F S256x256 .f32), FVec F S256x128 .f32) → sProp 𝕄} :
    persOwn P K c ⊢ iprop(Sg 4 c -∗ Rs c -∗ Ins D c
      -∗ (∀ a b d e, (pers P K c ∗ Pr 0 0 c ∗ atPos ER (barCell c) 1 ∅ 0 ∗ (bigSep Finset.univ fun k : Fin 28 => slotOf k (tgt k c)) ∗ Ins D c)
          -∗ Q ⟨a, b, d, e, Qb D 0, Kb D 0, Vb D 0, k0_pay5 (xr D 0) D.wq D.wk D.wv⟩)
      -∗ wpc c (onBufs (k0_part4 (F := F)) c v19 v37 v43 (SemArray.scalar (sig.barrier 0 rfl))) Q) := by
  simp only [k0_part4_eq_skeleton]; unfold onBufs k0_part4_skel
  simp only [semSignalWord, semWaitWord, Prog.lift, Prog.bind_op, Prog.bind_ret, Prog.pure_eq_ret, Prog.bind_assoc]
  iintro #Hp HS HR HI Hk
  iapply (sig_step P K 4 4 5 rfl rfl (dev_of (k0_dev5_lt c) (sig_dev c).2.2.2.2) rfl) $$ Hp HS
  iintro HS
  iapply (bar_wait P K rfl) $$ Hp HS HR
  iintro ⟨#Hq, HP, Hat, Hsl⟩
  iapply (load_x D 0 rfl) $$ HI
  iintro HI
  iapply (load_q D (by funext a; fin_cases a <;> rfl)) $$ HI
  iintro HI
  iapply (load_k D (by funext a; fin_cases a <;> rfl)) $$ HI
  iintro HI
  iapply (load_v D (by funext a; fin_cases a <;> rfl)) $$ HI
  iintro HI
  iapply wpc_ret
  rw [show k0_pay2 (xr D 0) D.wq = Qb D 0 from rfl, show k0_pay3 (xr D 0) D.wk = Kb D 0 from rfl, show k0_pay4 (xr D 0) D.wv = Vb D 0 from rfl]
  iapply Hk
  isplitr; · iexact Hq
  isplitl [HP]; · iexact HP
  isplitl [Hat]; · iexact Hat
  isplitl [Hsl] <;> iassumption

end Cert.KernelIdeal.AR

end
-- ==== Proof.PartsA.lean ====
/-
  The first phase, part by part.
-/
module

public import proofs.«01_k».proof.Proof.Acts

@[expose] public section

noncomputable section

namespace Cert.KernelIdeal.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F]
local notation "𝕄" => MT nD τ sig Unit (Elt F) ℕ UU ℕ
variable (P : Dev nD → OB F) (K : Dev nD × Ck → ℕ) (c : Dev nD)

theorem part22 (v19 : BitVec 32) (v37 : BitVec 32) (v62 : BitVec 32) (v92 : BitVec 32) (v104 : BitVec 32) (v812 : FVec F S256x1024 .f32) (hv : ∀ x, v812 x = P c (ix (ra 0 (frm 0 c)) x)) {Q : (PUnit) → sProp 𝕄} :
    pers P K c ⊢ iprop(Pr 2 1 c -∗ oPt c (reg 26 c) fullShare (P c) -∗ landed P axM 0 c -∗ oPt c (reg 3 c) fullShare (P c)
      -∗ (∀ r, (Pr 2 2 c ∗ landed P axM 0 c ∗ oPt c (reg 2 c) fullShare (xa P c) ∗ oPt c (reg 4 c) fullShare (xa P c) ∗ oPt c (reg 6 c) fullShare (xa P c) ∗ oPt c (reg 20 c) fullShare (xa P c) ∗ fwd 3 c ∗ oPt c (reg 3 c) fullShare (zb1 P c) ∗ landed P bz0 1 c) -∗ Q r)
      -∗ wpc c (onBufs (k0_part22 (F := F)) c v19 v37 v62 v92 v104 v812) Q) := by
  simp only [k0_part22_eq_skeleton]; unfold onBufs k0_part22_skel
  simp only [Prog.lift, Prog.bind_op, Prog.bind_ret, Prog.pure_eq_ret, Prog.bind_assoc]
  iintro #Hp Hpr HO26P HG0 HO3P Hk
  icases (show landed P axM 0 c ⊢ slotHas axM c (fun x => V P 0 (frm 0 c) (ix (ra 0 (frm 0 c)) x)) from .rfl) $$ HG0 with HS
  iapply (load_whole cc0_scratch1 axM (by funext a; fin_cases a <;> rfl) _) $$ HS
  iintro HS
  ihave HG0 := (show slotHas axM c (fun x => V P 0 (frm 0 c) (ix (ra 0 (frm 0 c)) x)) ⊢ landed P axM 0 c from .rfl) $$ HS
  iapply (acc_write 0 26 (g' := xa P c) (reg_acc c).1 rfl (off_acc c).1 (fun x => (congrArg (fun v => FloatOps.addf (φ := .f32) v _) (hv x)).symm)) $$ HO26P
  iintro HO26xa
  icases (o_four (cut_half c)).1 $$ HO26xa with ⟨HO2xa, HO4xa, HO6xa, HO20xa⟩
  iapply (wait_as P K 1 (in1 P c) 2 1 2 rfl rfl (by decide) rfl) $$ Hp Hpr
  iintro ⟨Hpr, HG1, HF3⟩
  iapply (acc_slot P 1 3 (n := 128) (g' := (zb1 P c)) (reg_acc c).2.1 rfl rfl (off_acc c).2.1 bzM (Rect.unit (s := S3x128x1024) ![0, 0, 0] S1x128x1024.size Gen.inb_S3x128x1024_S1x128x1024_0_0_0) (fun _ => rfl) Gen.squeezes_S1x128x1024_S128x1024 k0_pay86 (pay_ok Gen.squeezes_S1x128x1024_S128x1024 _ _)) $$ HO3P HG1
  iintro ⟨HO3zb1, HG1⟩
  iapply wpc_ret
  iapply Hk
  isplitl [Hpr]; · iexact Hpr
  isplitl [HG0]; · iexact HG0
  isplitl [HO2xa]; · iexact HO2xa
  isplitl [HO4xa]; · iexact HO4xa
  isplitl [HO6xa]; · iexact HO6xa
  isplitl [HO20xa]; · iexact HO20xa
  isplitl [HF3]; · iexact HF3
  isplitl [HO3zb1]; · iexact HO3zb1
  iexact HG1

theorem part23 (v19 : BitVec 32) (v37 : BitVec 32) (v92 : BitVec 32) (v104 : BitVec 32) {Q : (Σ' (v854 : BitVec 32), BitVec 32) → sProp 𝕄} :
    pers P K c ⊢ iprop(Pr 2 2 c -∗ oPt c (reg 2 c) fullShare (xa P c) -∗ slotOf 2 (tgt 2 c) -∗ oPt c (reg 3 c) fullShare (zb1 P c) -∗ slotOf 3 (tgt 3 c) -∗ fwd 3 c
      -∗ (∀ r, (Pr 4 2 c) -∗ Q r)
      -∗ wpc c (onBufs (k0_part23 (F := F)) c v19 v37 v92 v104) Q) := by
  simp only [k0_part23_eq_skeleton]; unfold onBufs k0_part23_skel
  simp only [Prog.lift, Prog.bind_op, Prog.bind_ret, Prog.pure_eq_ret, Prog.bind_assoc]
  iintro #Hp Hpr HO2xa HL2 HO3zb1 HL3 HF3 Hk
  iapply (send_rs0 P K 2 2 3 2 rfl rfl (by decide) (dev_of (k0_dev8_lt c) (send_dev_a c).2.2.1) rfl (off_src_a c).2.2.1 (fun _ => rfl) (fun _ => rfl) (f := (xa P c)) rfl rfl) $$ Hp Hpr HO2xa HL2
  iintro Hpr
  iapply (send_rs1 P K 3 3 4 2 rfl rfl (by decide) (dev_of (k0_dev9_lt c) (send_dev_a c).2.2.2.1) rfl (off_src_a c).2.2.2.1 (fun _ => rfl) (fun _ => rfl) (f := (zb1 P c)) rfl) $$ Hp Hpr HO3zb1 HL3 HF3
  iintro Hpr
  iapply wpc_ret
  iapply Hk
  iexact Hpr

theorem part24 (v37 : BitVec 32) (v62 : BitVec 32) (v92 : BitVec 32) (v854 : BitVec 32) (v873 : BitVec 32) {Q : (BitVec 32) → sProp 𝕄} :
    pers P K c ⊢ iprop(Pr 4 2 c -∗ oPt c (reg 4 c) fullShare (xa P c) -∗ oPt c (reg 5 c) fullShare (P c)
      -∗ (∀ r, (Pr 4 4 c ∗ fwd 4 c ∗ oPt c (reg 4 c) fullShare (ya1 P c) ∗ landed P ay0 2 c ∗ fwd 5 c ∗ oPt c (reg 5 c) fullShare (zb2 P c) ∗ landed P bz1 3 c) -∗ Q r)
      -∗ wpc c (onBufs (k0_part24 (F := F)) c v37 v62 v92 v854 v873) Q) := by
  simp only [k0_part24_eq_skeleton]; unfold onBufs k0_part24_skel
  simp only [Prog.lift, Prog.bind_op, Prog.bind_ret, Prog.pure_eq_ret, Prog.bind_assoc]
  iintro #Hp Hpr HO4xa HO5P Hk
  iapply (wait_as P K 2 (in2 P c) 4 2 3 rfl rfl (by decide) rfl) $$ Hp Hpr
  iintro ⟨Hpr, HG2, HF4⟩
  iapply (acc_slot P 2 4 (n := 64) (g' := (ya1 P c)) (reg_acc c).2.2.2.2.1 rfl rfl (off_acc c).2.2.1 ayM (Rect.unit (s := S3x64x1024) ![0, 0, 0] S1x64x1024.size Gen.inb_S3x64x1024_S1x64x1024_0_0_0) (fun _ => rfl) Gen.squeezes_S1x64x1024_S64x1024 k0_pay87 (pay_ok Gen.squeezes_S1x64x1024_S64x1024 _ _)) $$ HO4xa HG2
  iintro ⟨HO4ya1, HG2⟩
  iapply (wait_as P K 3 (in3 P c) 4 3 4 rfl rfl (by decide) rfl) $$ Hp Hpr
  iintro ⟨Hpr, HG3, HF5⟩
  iapply (acc_slot P 3 5 (n := 128) (g' := (zb2 P c)) (reg_acc c).2.2.1 rfl rfl (off_acc c).2.2.2.1 bzM (Rect.unit (s := S3x128x1024) ![1, 0, 0] S1x128x1024.size Gen.inb_S3x128x1024_S1x128x1024_1_0_0) (fun _ => rfl) Gen.squeezes_S1x128x1024_S128x1024 k0_pay88 (pay_ok Gen.squeezes_S1x128x1024_S128x1024 _ _)) $$ HO5P HG3
  iintro ⟨HO5zb2, HG3⟩
  iapply wpc_ret
  iapply Hk
  isplitl [Hpr]; · iexact Hpr
  isplitl [HF4]; · iexact HF4
  isplitl [HO4ya1]; · iexact HO4ya1
  isplitl [HG2]; · iexact HG2
  isplitl [HF5]; · iexact HF5
  isplitl [HO5zb2]; · iexact HO5zb2
  iexact HG3

theorem part25 (v19 : BitVec 32) (v37 : BitVec 32) (v62 : BitVec 32) (v92 : BitVec 32) (v104 : BitVec 32) (v904 : BitVec 32) {Q : (BitVec 32) → sProp 𝕄} :
    pers P K c ⊢ iprop(Pr 4 4 c -∗ oPt c (reg 4 c) fullShare (ya1 P c) -∗ slotOf 4 (tgt 4 c) -∗ fwd 4 c
      -∗ (∀ r, (Pr 5 4 c) -∗ Q r)
      -∗ wpc c (onBufs (k0_part25 (F := F)) c v19 v37 v62 v92 v104 v904) Q) := by
  simp only [k0_part25_eq_skeleton]; unfold onBufs k0_part25_skel
  simp only [Prog.lift, Prog.bind_op, Prog.bind_ret, Prog.pure_eq_ret, Prog.bind_assoc]
  iintro #Hp Hpr HO4ya1 HL4 HF4 Hk
  iapply (send_rs1 P K 4 4 5 4 rfl rfl (by decide) (dev_of (k0_dev10_lt c) (send_dev_a c).2.2.2.2.1) rfl (off_src_a c).2.2.2.2.1 (fun _ => rfl) (fun _ => rfl) (f := (ya1 P c)) rfl) $$ Hp Hpr HO4ya1 HL4 HF4
  iintro Hpr
  iapply wpc_ret
  iapply Hk
  iexact Hpr

theorem part26 (v19 : BitVec 32) (v62 : BitVec 32) (v92 : BitVec 32) (v922 : BitVec 32) {Q : (BitVec 32) → sProp 𝕄} :
    pers P K c ⊢ iprop(Pr 5 4 c -∗ oPt c (reg 5 c) fullShare (zb2 P c) -∗ slotOf 5 (tgt 5 c) -∗ fwd 5 c -∗ oPt c (reg 6 c) fullShare (xa P c)
      -∗ (∀ r, (Pr 6 6 c ∗ fwd 6 c ∗ oPt c (reg 6 c) fullShare (ya2 P c) ∗ landed P ay1 4 c ∗ landed P bz2 5 c ∗ dst 23 c) -∗ Q r)
      -∗ wpc c (onBufs (k0_part26 (F := F)) c v19 v62 v92 v922) Q) := by
  simp only [k0_part26_eq_skeleton]; unfold onBufs k0_part26_skel
  simp only [Prog.lift, Prog.bind_op, Prog.bind_ret, Prog.pure_eq_ret, Prog.bind_assoc]
  iintro #Hp Hpr HO5zb2 HL5 HF5 HO6xa Hk
  iapply (send_rs1 P K 5 5 6 4 rfl rfl (by decide) (dev_of (k0_dev11_lt c) (send_dev_a c).2.2.2.2.2.1) rfl (off_src_a c).2.2.2.2.2.1 (fun _ => rfl) (fun _ => rfl) (f := (zb2 P c)) rfl) $$ Hp Hpr HO5zb2 HL5 HF5
  iintro Hpr
  iapply (wait_as P K 4 (in4 P c) 6 4 5 rfl rfl (by decide) rfl) $$ Hp Hpr
  iintro ⟨Hpr, HG4, HF6⟩
  iapply (acc_slot P 4 6 (n := 64) (g' := (ya2 P c)) (reg_acc c).2.2.2.2.2.1 rfl rfl (off_acc c).2.2.2.2.1 ayM (Rect.unit (s := S3x64x1024) ![1, 0, 0] S1x64x1024.size Gen.inb_S3x64x1024_S1x64x1024_1_0_0) (fun _ => rfl) Gen.squeezes_S1x64x1024_S64x1024 k0_pay89 (pay_ok Gen.squeezes_S1x64x1024_S64x1024 _ _)) $$ HO6xa HG4
  iintro ⟨HO6ya2, HG4⟩
  iapply (wait_as P K 5 (in5 P c) 6 5 6 rfl rfl (by decide) rfl) $$ Hp Hpr
  iintro ⟨Hpr, HG5, HD23⟩
  iapply wpc_ret
  iapply Hk
  isplitl [Hpr]; · iexact Hpr
  isplitl [HF6]; · iexact HF6
  isplitl [HO6ya2]; · iexact HO6ya2
  isplitl [HG4]; · iexact HG4
  isplitl [HG5]; · iexact HG5
  iexact HD23

theorem part27 (v37 : BitVec 32) (v62 : BitVec 32) (v104 : BitVec 32) (v108 : BitVec 32) (v941 : BitVec 32) {Q : (BitVec 32) → sProp 𝕄} :
    pers P K c ⊢ iprop(Pr 6 6 c -∗ oPt c (reg 23 c) fullShare (P c) -∗ landed P bz2 5 c -∗ oPt c (reg 6 c) fullShare (ya2 P c) -∗ slotOf 6 (tgt 6 c) -∗ fwd 6 c
      -∗ (∀ r, (Pr 7 6 c ∗ landed P bz2 5 c ∗ oPt c (reg 7 c) fullShare (zb3 P c) ∗ oPt c (reg 9 c) fullShare (zb3 P c) ∗ oPt c (reg 11 c) fullShare (zb3 P c) ∗ oPt c (reg 17 c) fullShare (zb3 P c)) -∗ Q r)
      -∗ wpc c (onBufs (k0_part27 (F := F)) c v37 v62 v104 v108 v941) Q) := by
  simp only [k0_part27_eq_skeleton]; unfold onBufs k0_part27_skel
  simp only [Prog.lift, Prog.bind_op, Prog.bind_ret, Prog.pure_eq_ret, Prog.bind_assoc]
  iintro #Hp Hpr HO23P HG5 HO6ya2 HL6 HF6 Hk
  iapply (acc_slot P 5 23 (n := 128) (g' := (zb3 P c)) (reg_acc c).2.2.2.1 rfl rfl (off_acc c).2.2.2.2.2.1 bzM (Rect.unit (s := S3x128x1024) ![2, 0, 0] S1x128x1024.size Gen.inb_S3x128x1024_S1x128x1024_2_0_0) (fun _ => rfl) Gen.squeezes_S1x128x1024_S128x1024 k0_pay90 (pay_ok Gen.squeezes_S1x128x1024_S128x1024 _ _)) $$ HO23P HG5
  iintro ⟨HO23zb3, HG5⟩
  icases (o_four (cut_block c)).1 $$ HO23zb3 with ⟨HO7zb3, HO9zb3, HO11zb3, HO17zb3⟩
  iapply (send_rs1 P K 6 6 7 6 rfl rfl (by decide) (dev_of (k0_dev12_lt c) (send_dev_a c).2.2.2.2.2.2.1) rfl (off_src_a c).2.2.2.2.2.2.1 (fun _ => rfl) (fun _ => rfl) (f := (ya2 P c)) rfl) $$ Hp Hpr HO6ya2 HL6 HF6
  iintro Hpr
  iapply wpc_ret
  iapply Hk
  isplitl [Hpr]; · iexact Hpr
  isplitl [HG5]; · iexact HG5
  isplitl [HO7zb3]; · iexact HO7zb3
  isplitl [HO9zb3]; · iexact HO9zb3
  isplitl [HO11zb3]; · iexact HO11zb3
  iexact HO17zb3

theorem part28 (v37 : BitVec 32) (v62 : BitVec 32) (v72 : BitVec 32) (v108 : BitVec 32) (v990 : BitVec 32) {Q : (Σ' (v1009 : BitVec 32) (v1025 : BitVec 32), BitVec 32) → sProp 𝕄} :
    pers P K c ⊢ iprop(Pr 7 6 c -∗ oPt c (reg 7 c) fullShare (zb3 P c) -∗ slotOf 7 (tgt 7 c) -∗ oPt c (reg 20 c) fullShare (xa P c)
      -∗ (∀ r, (Pr 8 7 c ∗ dst 20 c ∗ landed P ay2 6 c ∗ oPt c (reg 8 c) fullShare (ya3 P c) ∗ oPt c (reg 10 c) fullShare (ya3 P c) ∗ oPt c (reg 12 c) fullShare (ya3 P c) ∗ oPt c (reg 14 c) fullShare (ya3 P c)) -∗ Q r)
      -∗ wpc c (onBufs (k0_part28 (F := F)) c v37 v62 v72 v108 v990) Q) := by
  simp only [k0_part28_eq_skeleton]; unfold onBufs k0_part28_skel
  simp only [Prog.lift, Prog.bind_op, Prog.bind_ret, Prog.pure_eq_ret, Prog.bind_assoc]
  iintro #Hp Hpr HO7zb3 HL7 HO20xa Hk
  iapply (send_rs0 P K 7 7 8 6 rfl rfl (by decide) (dev_of (k0_dev13_lt c) (send_dev_a c).2.2.2.2.2.2.2.1) rfl (off_src_a c).2.2.2.2.2.2.2.1 (fun _ => rfl) (fun _ => rfl) (f := (zb3 P c)) rfl rfl) $$ Hp Hpr HO7zb3 HL7
  iintro Hpr
  iapply (wait_as P K 6 (in6 P c) 8 6 7 rfl rfl (by decide) rfl) $$ Hp Hpr
  iintro ⟨Hpr, HG6, HD20⟩
  iapply (acc_slot P 6 20 (n := 64) (g' := (ya3 P c)) (reg_acc c).2.2.2.2.2.2.1 rfl rfl (off_acc c).2.2.2.2.2.2.1 ayM (Rect.unit (s := S3x64x1024) ![2, 0, 0] S1x64x1024.size Gen.inb_S3x64x1024_S1x64x1024_2_0_0) (fun _ => rfl) Gen.squeezes_S1x64x1024_S64x1024 k0_pay91 (pay_ok Gen.squeezes_S1x64x1024_S64x1024 _ _)) $$ HO20xa HG6
  iintro ⟨HO20ya3, HG6⟩
  icases (o_four (cut_quarter c)).1 $$ HO20ya3 with ⟨HO8ya3, HO10ya3, HO12ya3, HO14ya3⟩
  iapply wpc_ret
  iapply Hk
  isplitl [Hpr]; · iexact Hpr
  isplitl [HD20]; · iexact HD20
  isplitl [HG6]; · iexact HG6
  isplitl [HO8ya3]; · iexact HO8ya3
  isplitl [HO10ya3]; · iexact HO10ya3
  isplitl [HO12ya3]; · iexact HO12ya3
  iexact HO14ya3

theorem part29 (v19 : BitVec 32) (v82 : BitVec 32) (v106 : BitVec 32) (v1009 : BitVec 32) (v1025 : BitVec 32) (c0_i32_562 : BitVec 32) {Q : (BitVec 32) → sProp 𝕄} :
    pers P K c ⊢ iprop(Pr 8 7 c -∗ oPt c (reg 9 c) fullShare (zb3 P c) -∗ oPt c (reg 8 c) fullShare (ya3 P c) -∗ slotOf 8 (tgt 8 c)
      -∗ (∀ r, (Pr 9 8 c ∗ fwd 9 c ∗ oPt c (reg 9 c) fullShare (yb1 P c) ∗ landed P by0 7 c) -∗ Q r)
      -∗ wpc c (onBufs (k0_part29 (F := F)) c v19 v82 v106 v1009 v1025 c0_i32_562) Q) := by
  simp only [k0_part29_eq_skeleton]; unfold onBufs k0_part29_skel
  simp only [Prog.lift, Prog.bind_op, Prog.bind_ret, Prog.pure_eq_ret, Prog.bind_assoc]
  iintro #Hp Hpr HO9zb3 HO8ya3 HL8 Hk
  iapply (wait_as P K 7 (in7 P c) 8 7 8 rfl rfl (by decide) rfl) $$ Hp Hpr
  iintro ⟨Hpr, HG7, HF9⟩
  iapply (acc_slot P 7 9 (n := 32) (g' := (yb1 P c)) (reg_acc c).2.2.2.2.2.2.2.2.2.2.1 rfl rfl (off_acc c).2.2.2.2.2.2.2.1 byM (Rect.unit (s := S3x32x1024) ![0, 0, 0] S1x32x1024.size Gen.inb_S3x32x1024_S1x32x1024_0_0_0) (fun _ => rfl) Gen.squeezes_S1x32x1024_S32x1024 k0_pay92 (pay_ok Gen.squeezes_S1x32x1024_S32x1024 _ _)) $$ HO9zb3 HG7
  iintro ⟨HO9yb1, HG7⟩
  iapply (send_rs0 P K 8 8 9 8 rfl rfl (by decide) (dev_of (k0_dev14_lt c) (send_dev_a c).2.2.2.2.2.2.2.2.1) rfl (off_src_a c).2.2.2.2.2.2.2.2.1 (fun _ => rfl) (fun _ => rfl) (f := (ya3 P c)) rfl rfl) $$ Hp Hpr HO8ya3 HL8
  iintro Hpr
  iapply wpc_ret
  iapply Hk
  isplitl [Hpr]; · iexact Hpr
  isplitl [HF9]; · iexact HF9
  isplitl [HO9yb1]; · iexact HO9yb1
  iexact HG7

theorem part30 (v37 : BitVec 32) (v72 : BitVec 32) (v82 : BitVec 32) (v108 : BitVec 32) (v1058 : BitVec 32) {Q : (Σ' (v1077 : BitVec 32) (v1087 : FVec F S16x1024 .f32), Vec F S1x16x1024 .f32) → sProp 𝕄} :
    pers P K c ⊢ iprop(Pr 9 8 c -∗ oPt c (reg 9 c) fullShare (yb1 P c) -∗ slotOf 9 (tgt 9 c) -∗ fwd 9 c -∗ oPt c (reg 10 c) fullShare (ya3 P c)
      -∗ (∀ v r s, (⌜∀ x, za1 P c (ix (ra 8 (frm 8 c)) x) = k0_pay94 r s x⌝ ∗ Pr 10 9 c ∗ fwd 10 c ∗ oPt c (reg 10 c) fullShare (ya3 P c) ∗ landed P az0 8 c) -∗ Q ⟨v, r, s⟩)
      -∗ wpc c (onBufs (k0_part30 (F := F)) c v37 v72 v82 v108 v1058) Q) := by
  simp only [k0_part30_eq_skeleton]; unfold onBufs k0_part30_skel
  simp only [Prog.lift, Prog.bind_op, Prog.bind_ret, Prog.pure_eq_ret, Prog.bind_assoc]
  iintro #Hp Hpr HO9yb1 HL9 HF9 HO10ya3 Hk
  iapply (send_rs1 P K 9 9 10 8 rfl rfl (by decide) (dev_of (k0_dev15_lt c) (send_dev_a c).2.2.2.2.2.2.2.2.2.1) rfl (off_src_a c).2.2.2.2.2.2.2.2.2.1 (fun _ => rfl) (fun _ => rfl) (f := (yb1 P c)) rfl) $$ Hp Hpr HO9yb1 HL9 HF9
  iintro Hpr
  iapply (wait_as P K 8 (in8 P c) 10 8 9 rfl rfl (by decide) rfl) $$ Hp Hpr
  iintro ⟨Hpr, HG8, HF10⟩
  iapply (acc_read 8 10 (reg_acc c).2.2.2.2.2.2.2.1 rfl (off_acc c).2.2.2.2.2.2.2.2.1) $$ HO10ya3
  iintro HO10ya3
  icases (show landed P az0 8 c ⊢ slotHas az0 c (fun x => V P 8 (frm 8 c) (ix (ra 8 (frm 8 c)) x)) from .rfl) $$ HG8 with HS
  iapply (load_slot azM (Rect.unit (s := S3x16x1024) ![0, 0, 0] S1x16x1024.size Gen.inb_S3x16x1024_S1x16x1024_0_0_0) (fun _ => rfl) Gen.squeezes_S1x16x1024_S16x1024 _) $$ HS
  iintro HS
  ihave HG8 := (show slotHas az0 c (fun x => V P 8 (frm 8 c) (ix (ra 8 (frm 8 c)) x)) ⊢ landed P az0 8 c from .rfl) $$ HS
  iapply wpc_ret
  iapply Hk
  isplitr; · ipureintro; exact fun x => sum_self (fun x => ya3 P c (ix (ra 8 (frm 8 c)) x)) (fun x => ya3 P (nb 4 c) (ix (ra 8 (frm 8 c)) x)) x
  isplitl [Hpr]; · iexact Hpr
  isplitl [HF10]; · iexact HF10
  isplitl [HO10ya3]; · iexact HO10ya3
  iexact HG8

theorem part31 (v19 : BitVec 32) (v72 : BitVec 32) (v82 : BitVec 32) (v106 : BitVec 32) (v1058 : BitVec 32) (v1077 : BitVec 32) (v1087 : FVec F S16x1024 .f32) (v1088 : Vec F S1x16x1024 .f32) (hv : ∀ x, za1 P c (ix (ra 8 (frm 8 c)) x) = k0_pay94 v1087 v1088 x) {Q : (PUnit) → sProp 𝕄} :
    pers P K c ⊢ iprop(Pr 10 9 c -∗ oPt c (reg 10 c) fullShare (ya3 P c) -∗ oPt c (reg 11 c) fullShare (zb3 P c)
      -∗ (∀ r, (Pr 10 10 c ∗ oPt c (reg 10 c) fullShare (za1 P c) ∗ fwd 11 c ∗ oPt c (reg 11 c) fullShare (yb2 P c) ∗ landed P by1 9 c) -∗ Q r)
      -∗ wpc c (onBufs (k0_part31 (F := F)) c v19 v72 v82 v106 v1058 v1077 v1087 v1088) Q) := by
  simp only [k0_part31_eq_skeleton]; unfold onBufs k0_part31_skel
  simp only [Prog.lift, Prog.bind_op, Prog.bind_ret, Prog.pure_eq_ret, Prog.bind_assoc]
  iintro #Hp Hpr HO10ya3 HO11zb3 Hk
  iapply (acc_write 8 10 (g' := za1 P c) (reg_acc c).2.2.2.2.2.2.2.1 rfl (off_acc c).2.2.2.2.2.2.2.2.1 hv) $$ HO10ya3
  iintro HO10za1
  iapply (wait_as P K 9 (in9 P c) 10 9 10 rfl rfl (by decide) rfl) $$ Hp Hpr
  iintro ⟨Hpr, HG9, HF11⟩
  iapply (acc_slot P 9 11 (n := 32) (g' := (yb2 P c)) (reg_acc c).2.2.2.2.2.2.2.2.2.2.2.1 rfl rfl (off_acc c).2.2.2.2.2.2.2.2.2.1 byM (Rect.unit (s := S3x32x1024) ![1, 0, 0] S1x32x1024.size Gen.inb_S3x32x1024_S1x32x1024_1_0_0) (fun _ => rfl) Gen.squeezes_S1x32x1024_S32x1024 k0_pay95 (pay_ok Gen.squeezes_S1x32x1024_S32x1024 _ _)) $$ HO11zb3 HG9
  iintro ⟨HO11yb2, HG9⟩
  iapply wpc_ret
  iapply Hk
  isplitl [Hpr]; · iexact Hpr
  isplitl [HO10za1]; · iexact HO10za1
  isplitl [HF11]; · iexact HF11
  isplitl [HO11yb2]; · iexact HO11yb2
  iexact HG9

theorem part32 (v19 : BitVec 32) (v37 : BitVec 32) (v72 : BitVec 32) (v82 : BitVec 32) (v106 : BitVec 32) (v108 : BitVec 32) {Q : (Σ' (v1126 : BitVec 32), BitVec 32) → sProp 𝕄} :
    pers P K c ⊢ iprop(Pr 10 10 c -∗ oPt c (reg 10 c) fullShare (za1 P c) -∗ slotOf 10 (tgt 10 c) -∗ fwd 10 c -∗ oPt c (reg 11 c) fullShare (yb2 P c) -∗ slotOf 11 (tgt 11 c) -∗ fwd 11 c
      -∗ (∀ r, (Pr 12 10 c) -∗ Q r)
      -∗ wpc c (onBufs (k0_part32 (F := F)) c v19 v37 v72 v82 v106 v108) Q) := by
  simp only [k0_part32_eq_skeleton]; unfold onBufs k0_part32_skel
  simp only [Prog.lift, Prog.bind_op, Prog.bind_ret, Prog.pure_eq_ret, Prog.bind_assoc]
  iintro #Hp Hpr HO10za1 HL10 HF10 HO11yb2 HL11 HF11 Hk
  iapply (send_rs1 P K 10 10 11 10 rfl rfl (by decide) (dev_of (k0_dev16_lt c) (send_dev_a c).2.2.2.2.2.2.2.2.2.2.1) rfl (off_src_a c).2.2.2.2.2.2.2.2.2.2.1 (fun _ => rfl) (fun _ => rfl) (f := (za1 P c)) rfl) $$ Hp Hpr HO10za1 HL10 HF10
  iintro Hpr
  iapply (send_rs1 P K 11 11 12 10 rfl rfl (by decide) (dev_of (k0_dev17_lt c) (send_dev_a c).2.2.2.2.2.2.2.2.2.2.2.1) rfl (off_src_a c).2.2.2.2.2.2.2.2.2.2.2.1 (fun _ => rfl) (fun _ => rfl) (f := (yb2 P c)) rfl) $$ Hp Hpr HO11yb2 HL11 HF11
  iintro Hpr
  iapply wpc_ret
  iapply Hk
  iexact Hpr

theorem part33 (v19 : BitVec 32) (v72 : BitVec 32) (v106 : BitVec 32) (v1126 : BitVec 32) (v1145 : BitVec 32) {Q : (PUnit) → sProp 𝕄} :
    pers P K c ⊢ iprop(Pr 12 10 c -∗ oPt c (reg 12 c) fullShare (ya3 P c) -∗ oPt c (reg 17 c) fullShare (zb3 P c)
      -∗ (∀ r, (Pr 12 12 c ∗ fwd 12 c ∗ oPt c (reg 12 c) fullShare (za2 P c) ∗ landed P az1 10 c ∗ dst 17 c ∗ landed P by2 11 c ∗ oPt c (reg 13 c) fullShare (yb3 P c) ∗ oPt c (reg 15 c) fullShare (yb3 P c)) -∗ Q r)
      -∗ wpc c (onBufs (k0_part33 (F := F)) c v19 v72 v106 v1126 v1145) Q) := by
  simp only [k0_part33_eq_skeleton]; unfold onBufs k0_part33_skel
  simp only [Prog.lift, Prog.bind_op, Prog.bind_ret, Prog.pure_eq_ret, Prog.bind_assoc]
  iintro #Hp Hpr HO12ya3 HO17zb3 Hk
  iapply (wait_as P K 10 (in10 P c) 12 10 11 rfl rfl (by decide) rfl) $$ Hp Hpr
  iintro ⟨Hpr, HG10, HF12⟩
  iapply (acc_slot P 10 12 (n := 16) (g' := (za2 P c)) (reg_acc c).2.2.2.2.2.2.2.2.1 rfl rfl (off_acc c).2.2.2.2.2.2.2.2.2.2.1 azM (Rect.unit (s := S3x16x1024) ![1, 0, 0] S1x16x1024.size Gen.inb_S3x16x1024_S1x16x1024_1_0_0) (fun _ => rfl) Gen.squeezes_S1x16x1024_S16x1024 k0_pay96 (pay_ok Gen.squeezes_S1x16x1024_S16x1024 _ _)) $$ HO12ya3 HG10
  iintro ⟨HO12za2, HG10⟩
  iapply (wait_as P K 11 (in11 P c) 12 11 12 rfl rfl (by decide) rfl) $$ Hp Hpr
  iintro ⟨Hpr, HG11, HD17⟩
  iapply (acc_slot P 11 17 (n := 32) (g' := (yb3 P c)) (reg_acc c).2.2.2.2.2.2.2.2.2.2.2.2.1 rfl rfl (off_acc c).2.2.2.2.2.2.2.2.2.2.2.1 byM (Rect.unit (s := S3x32x1024) ![2, 0, 0] S1x32x1024.size Gen.inb_S3x32x1024_S1x32x1024_2_0_0) (fun _ => rfl) Gen.squeezes_S1x32x1024_S32x1024 k0_pay97 (pay_ok Gen.squeezes_S1x32x1024_S32x1024 _ _)) $$ HO17zb3 HG11
  iintro ⟨HO17yb3, HG11⟩
  icases (o_two (cut_pair c)).1 $$ HO17yb3 with ⟨HO13yb3, HO15yb3⟩
  iapply wpc_ret
  iapply Hk
  isplitl [Hpr]; · iexact Hpr
  isplitl [HF12]; · iexact HF12
  isplitl [HO12za2]; · iexact HO12za2
  isplitl [HG10]; · iexact HG10
  isplitl [HD17]; · iexact HD17
  isplitl [HG11]; · iexact HG11
  isplitl [HO13yb3]; · iexact HO13yb3
  iexact HO15yb3

theorem part34 (v19 : BitVec 32) (v43 : BitVec 32) (v52 : BitVec 32) (v82 : BitVec 32) (v106 : BitVec 32) (v110 : BitVec 32) {Q : (Σ' (v1194 : BitVec 32), BitVec 32) → sProp 𝕄} :
    pers P K c ⊢ iprop(Pr 12 12 c -∗ oPt c (reg 12 c) fullShare (za2 P c) -∗ slotOf 12 (tgt 12 c) -∗ fwd 12 c -∗ oPt c (reg 13 c) fullShare (yb3 P c) -∗ slotOf 13 (tgt 13 c)
      -∗ (∀ r, (Pr 14 12 c) -∗ Q r)
      -∗ wpc c (onBufs (k0_part34 (F := F)) c v19 v43 v52 v82 v106 v110) Q) := by
  simp only [k0_part34_eq_skeleton]; unfold onBufs k0_part34_skel
  simp only [Prog.lift, Prog.bind_op, Prog.bind_ret, Prog.pure_eq_ret, Prog.bind_assoc]
  iintro #Hp Hpr HO12za2 HL12 HF12 HO13yb3 HL13 Hk
  iapply (send_rs1 P K 12 12 13 12 rfl rfl (by decide) (dev_of (k0_dev18_lt c) (send_dev_a c).2.2.2.2.2.2.2.2.2.2.2.2.1) rfl (off_src_a c).2.2.2.2.2.2.2.2.2.2.2.2.1 (fun _ => rfl) (fun _ => rfl) (f := (za2 P c)) rfl) $$ Hp Hpr HO12za2 HL12 HF12
  iintro Hpr
  iapply (send_rs0 P K 13 13 14 12 rfl rfl (by decide) (dev_of (k0_dev19_lt c) (send_dev_a c).2.2.2.2.2.2.2.2.2.2.2.2.2) rfl (off_src_a c).2.2.2.2.2.2.2.2.2.2.2.2.2 (fun _ => rfl) (fun _ => rfl) (f := (yb3 P c)) rfl rfl) $$ Hp Hpr HO13yb3 HL13
  iintro Hpr
  iapply wpc_ret
  iapply Hk
  iexact Hpr

theorem part35 (v19 : BitVec 32) (v52 : BitVec 32) (v82 : BitVec 32) (v106 : BitVec 32) (v1194 : BitVec 32) (v1206 : BitVec 32) {Q : (PUnit) → sProp 𝕄} :
    pers P K c ⊢ iprop(Pr 14 12 c -∗ oPt c (reg 14 c) fullShare (ya3 P c) -∗ oPt c (reg 15 c) fullShare (yb3 P c)
      -∗ (∀ r, (Pr 14 14 c ∗ dst 14 c ∗ landed P az2 12 c ∗ oPt c (reg 14 c) fullShare (fin P) ∗ dst 15 c ∗ landed P bxM 13 c ∗ oPt c (reg 15 c) fullShare (fin P)) -∗ Q r)
      -∗ wpc c (onBufs (k0_part35 (F := F)) c v19 v52 v82 v106 v1194 v1206) Q) := by
  simp only [k0_part35_eq_skeleton]; unfold onBufs k0_part35_skel
  simp only [Prog.lift, Prog.bind_op, Prog.bind_ret, Prog.pure_eq_ret, Prog.bind_assoc]
  iintro #Hp Hpr HO14ya3 HO15yb3 Hk
  iapply (wait_as P K 12 (in12 P c) 14 12 13 rfl rfl (by decide) rfl) $$ Hp Hpr
  iintro ⟨Hpr, HG12, HD14⟩
  iapply (acc_slot P 12 14 (n := 16) (g' := (za3 P c)) (reg_acc c).2.2.2.2.2.2.2.2.2.1 rfl rfl (off_acc c).2.2.2.2.2.2.2.2.2.2.2.2.1 azM (Rect.unit (s := S3x16x1024) ![2, 0, 0] S1x16x1024.size Gen.inb_S3x16x1024_S1x16x1024_2_0_0) (fun _ => rfl) Gen.squeezes_S1x16x1024_S16x1024 k0_pay98 (pay_ok Gen.squeezes_S1x16x1024_S16x1024 _ _)) $$ HO14ya3 HG12
  iintro ⟨HO14za3, HG12⟩
  ihave HA14f := (Entails.of_eq (done14 P c)) $$ HO14za3
  iapply (wait_as P K 13 (in13 P c) 14 13 14 rfl rfl (by decide) rfl) $$ Hp Hpr
  iintro ⟨Hpr, HG13, HD15⟩
  iapply (acc_whole P 13 15 (n := 16) (g' := (xb P c)) (reg_acc c).2.2.2.2.2.2.2.2.2.2.2.2.2 rfl rfl (off_acc c).2.2.2.2.2.2.2.2.2.2.2.2.2 cc0_scratch6 bxM (by funext a; fin_cases a <;> rfl) k0_pay99 (fun vO vC x => by unfold k0_pay99; rw [shapeCast_self]; rfl)) $$ HO15yb3 HG13
  iintro ⟨HO15xb, HG13⟩
  ihave HA15f := (Entails.of_eq (done15 P c)) $$ HO15xb
  iapply wpc_ret
  iapply Hk
  isplitl [Hpr]; · iexact Hpr
  isplitl [HD14]; · iexact HD14
  isplitl [HG12]; · iexact HG12
  isplitl [HA14f]; · iexact HA14f
  isplitl [HD15]; · iexact HD15
  isplitl [HG13]; · iexact HG13
  iexact HA15f

end Cert.KernelIdeal.AR

end
-- ==== Proof.PartsB.lean ====
/-
  The second phase, part by part.
-/
module

public import proofs.«01_k».proof.Proof.Acts

@[expose] public section

noncomputable section

namespace Cert.KernelIdeal.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F]
local notation "𝕄" => MT nD τ sig Unit (Elt F) ℕ UU ℕ
variable (P : Dev nD → OB F) (K : Dev nD × Ck → ℕ) (c : Dev nD)

theorem part36 (v19 : BitVec 32) (v43 : BitVec 32) (v52 : BitVec 32) (v82 : BitVec 32) (v106 : BitVec 32) (v110 : BitVec 32) {Q : (Σ' (v1274 : BitVec 32), BitVec 32) → sProp 𝕄} :
    pers P K c ⊢ iprop(Pr 14 14 c -∗ oPt c (reg 14 c) fullShare (fin P) -∗ dst 14 c -∗ oPt c (reg 15 c) fullShare (fin P) -∗ dst 15 c
      -∗ (∀ r, (Pr 16 16 c ∗ oPt c (reg 14 c) fullShare.left (fin P) ∗ oPt c (reg 15 c) fullShare.left (fin P) ∗ oPt c (reg 16 c) fullShare (fin P) ∗ dst 16 c ∗ oPt c (reg 13 c) fullShare (fin P)) -∗ Q r)
      -∗ wpc c (onBufs (k0_part36 (F := F)) c v19 v43 v52 v82 v106 v110) Q) := by
  simp only [k0_part36_eq_skeleton]; unfold onBufs k0_part36_skel
  simp only [Prog.lift, Prog.bind_op, Prog.bind_ret, Prog.pure_eq_ret, Prog.bind_assoc]
  iintro #Hp Hpr HA14f HD14 HA15f HD15 Hk
  icases (o_share (reg 14 c)).1 $$ HA14f with ⟨HA14L, HA14R⟩
  iapply (send_dst P K 14 14 15 14 rfl rfl (by decide) (q := fullShare.right) rfl (dev_of (k0_dev20_lt c) (send_dev_b c).1) rfl (off_src_b c).1 (fun _ => rfl)) $$ Hp Hpr HA14R HD14
  iintro Hpr
  icases (o_share (reg 15 c)).1 $$ HA15f with ⟨HA15L, HA15R⟩
  iapply (send_dst P K 15 15 16 14 rfl rfl (by decide) (q := fullShare.right) rfl (dev_of (k0_dev21_lt c) (send_dev_b c).2.1) rfl (off_src_b c).2.1 (fun _ => rfl)) $$ Hp Hpr HA15R HD15
  iintro Hpr
  iapply (wait_as P K 14 (in14 P c) 16 14 15 rfl rfl (by decide) rfl) $$ Hp Hpr
  iintro ⟨Hpr, HA16f, HD16⟩
  iapply (wait_as P K 15 (in15 P c) 16 15 16 rfl rfl (by decide) rfl) $$ Hp Hpr
  iintro ⟨Hpr, HA13f⟩
  iapply wpc_ret
  iapply Hk
  isplitl [Hpr]; · iexact Hpr
  isplitl [HA14L]; · iexact HA14L
  isplitl [HA15L]; · iexact HA15L
  isplitl [HA16f]; · iexact HA16f
  isplitl [HD16]; · iexact HD16
  iexact HA13f

theorem part37 (v19 : BitVec 32) (v37 : BitVec 32) (v72 : BitVec 32) (v82 : BitVec 32) (v108 : BitVec 32) (v1274 : BitVec 32) (c0_i32_761 : BitVec 32) {Q : (BitVec 32) → sProp 𝕄} :
    pers P K c ⊢ iprop(Pr 16 16 c -∗ oPt c (reg 16 c) fullShare (fin P) -∗ dst 16 c -∗ oPt c (reg 13 c) fullShare (fin P) -∗ oPt c (reg 15 c) fullShare.left (fin P) -∗ dst 17 c
      -∗ (∀ r, (Pr 18 18 c ∗ oPt c (reg 16 c) fullShare.left (fin P) ∗ oPt c (reg 13 c) fullShare.right (fin P) ∗ oPt c (reg 17 c) fullShare.left.left (fin P) ∗ oPt c (reg 18 c) fullShare (fin P) ∗ dst 18 c ∗ oPt c (reg 19 c) fullShare (fin P) ∗ dst 19 c) -∗ Q r)
      -∗ wpc c (onBufs (k0_part37 (F := F)) c v19 v37 v72 v82 v108 v1274 c0_i32_761) Q) := by
  simp only [k0_part37_eq_skeleton]; unfold onBufs k0_part37_skel
  simp only [Prog.lift, Prog.bind_op, Prog.bind_ret, Prog.pure_eq_ret, Prog.bind_assoc]
  iintro #Hp Hpr HA16f HD16 HA13f HA15L HD17 Hk
  icases (o_share (reg 16 c)).1 $$ HA16f with ⟨HA16L, HA16R⟩
  iapply (send_dst P K 16 16 17 16 rfl rfl (by decide) (q := fullShare.right) rfl (dev_of (k0_dev22_lt c) (send_dev_b c).2.2.1) rfl (off_src_b c).2.2.1 (fun _ => rfl)) $$ Hp Hpr HA16R HD16
  iintro Hpr
  icases (o_share (reg 13 c)).1 $$ HA13f with ⟨HA13L, HA13R⟩
  ihave HA17L := (o_two (cut_pair c)).2 $$ [HA13L HA15L]
  · isplitl [HA13L]; · iexact HA13L
    iexact HA15L
  icases (o_share (reg 17 c)).1 $$ HA17L with ⟨HA17LL, HA17LR⟩
  iapply (send_dst P K 17 17 18 16 rfl rfl (by decide) (q := fullShare.left.right) rfl (dev_of (k0_dev23_lt c) (send_dev_b c).2.2.2.1) rfl (off_src_b c).2.2.2.1 (fun _ => rfl)) $$ Hp Hpr HA17LR HD17
  iintro Hpr
  iapply (wait_as P K 16 (in16 P c) 18 16 17 rfl rfl (by decide) rfl) $$ Hp Hpr
  iintro ⟨Hpr, HA18f, HD18⟩
  iapply (wait_as P K 17 (in17 P c) 18 17 18 rfl rfl (by decide) rfl) $$ Hp Hpr
  iintro ⟨Hpr, HA19f, HD19⟩
  iapply wpc_ret
  iapply Hk
  isplitl [Hpr]; · iexact Hpr
  isplitl [HA16L]; · iexact HA16L
  isplitl [HA13R]; · iexact HA13R
  isplitl [HA17LL]; · iexact HA17LL
  isplitl [HA18f]; · iexact HA18f
  isplitl [HD18]; · iexact HD18
  isplitl [HA19f]; · iexact HA19f
  iexact HD19

theorem part38 (v37 : BitVec 32) (v72 : BitVec 32) (v82 : BitVec 32) (v106 : BitVec 32) (v108 : BitVec 32) (v1306 : BitVec 32) {Q : (BitVec 32) → sProp 𝕄} :
    pers P K c ⊢ iprop(Pr 18 18 c -∗ oPt c (reg 18 c) fullShare (fin P) -∗ dst 18 c -∗ oPt c (reg 19 c) fullShare (fin P) -∗ dst 19 c
      -∗ (∀ r, (Pr 20 19 c ∗ oPt c (reg 18 c) fullShare.left (fin P) ∗ oPt c (reg 19 c) fullShare.right (fin P) ∗ oPt c (reg 19 c) fullShare.left.left (fin P) ∗ oPt c (reg 12 c) fullShare (fin P)) -∗ Q r)
      -∗ wpc c (onBufs (k0_part38 (F := F)) c v37 v72 v82 v106 v108 v1306) Q) := by
  simp only [k0_part38_eq_skeleton]; unfold onBufs k0_part38_skel
  simp only [Prog.lift, Prog.bind_op, Prog.bind_ret, Prog.pure_eq_ret, Prog.bind_assoc]
  iintro #Hp Hpr HA18f HD18 HA19f HD19 Hk
  icases (o_share (reg 18 c)).1 $$ HA18f with ⟨HA18L, HA18R⟩
  iapply (send_dst P K 18 18 19 18 rfl rfl (by decide) (q := fullShare.right) rfl (dev_of (k0_dev24_lt c) (send_dev_b c).2.2.2.2.1) rfl (off_src_b c).2.2.2.2.1 (fun _ => rfl)) $$ Hp Hpr HA18R HD18
  iintro Hpr
  icases (o_share (reg 19 c)).1 $$ HA19f with ⟨HA19L, HA19R⟩
  icases (o_share (reg 19 c)).1 $$ HA19L with ⟨HA19LL, HA19LR⟩
  iapply (send_dst P K 19 19 20 18 rfl rfl (by decide) (q := fullShare.left.right) rfl (dev_of (k0_dev25_lt c) (send_dev_b c).2.2.2.2.2.1) rfl (off_src_b c).2.2.2.2.2.1 (fun _ => rfl)) $$ Hp Hpr HA19LR HD19
  iintro Hpr
  iapply (wait_as P K 18 (in18 P c) 20 18 19 rfl rfl (by decide) rfl) $$ Hp Hpr
  iintro ⟨Hpr, HA12f⟩
  iapply wpc_ret
  iapply Hk
  isplitl [Hpr]; · iexact Hpr
  isplitl [HA18L]; · iexact HA18L
  isplitl [HA19R]; · iexact HA19R
  isplitl [HA19LL]; · iexact HA19LL
  iexact HA12f

theorem part39 (v37 : BitVec 32) (v62 : BitVec 32) (v72 : BitVec 32) (v104 : BitVec 32) (v108 : BitVec 32) (c1_i32_809 : BitVec 32) {Q : (BitVec 32) → sProp 𝕄} :
    pers P K c ⊢ iprop(Pr 20 19 c -∗ oPt c (reg 12 c) fullShare (fin P) -∗ oPt c (reg 16 c) fullShare.left (fin P) -∗ oPt c (reg 18 c) fullShare.left (fin P) -∗ oPt c (reg 14 c) fullShare.left (fin P) -∗ dst 20 c
      -∗ (∀ r, (Pr 22 20 c ∗ oPt c (reg 12 c) fullShare.right (fin P) ∗ oPt c (reg 20 c) fullShare.left.left (fin P) ∗ oPt c (reg 21 c) fullShare.right (fin P) ∗ oPt c (reg 21 c) fullShare.left.left (fin P)) -∗ Q r)
      -∗ wpc c (onBufs (k0_part39 (F := F)) c v37 v62 v72 v104 v108 c1_i32_809) Q) := by
  simp only [k0_part39_eq_skeleton]; unfold onBufs k0_part39_skel
  simp only [Prog.lift, Prog.bind_op, Prog.bind_ret, Prog.pure_eq_ret, Prog.bind_assoc]
  iintro #Hp Hpr HA12f HA16L HA18L HA14L HD20 Hk
  iapply (wait_as P K 19 (in19 P c) 20 19 20 rfl rfl (by decide) rfl) $$ Hp Hpr
  iintro ⟨Hpr, HA21f, HD21⟩
  icases (o_share (reg 12 c)).1 $$ HA12f with ⟨HA12L, HA12R⟩
  ihave HA8L := (Entails.of_eq (congrArg (fun S => oPt (F := F) c S fullShare.left (fin P)) (again c).1)) $$ HA16L
  ihave HA10L := (Entails.of_eq (congrArg (fun S => oPt (F := F) c S fullShare.left (fin P)) (again c).2.1)) $$ HA18L
  ihave HA20L := (o_four (cut_quarter c)).2 $$ [HA8L HA10L HA12L HA14L]
  · isplitl [HA8L]; · iexact HA8L
    isplitl [HA10L]; · iexact HA10L
    isplitl [HA12L]; · iexact HA12L
    iexact HA14L
  icases (o_share (reg 20 c)).1 $$ HA20L with ⟨HA20LL, HA20LR⟩
  iapply (send_dst P K 20 20 21 20 rfl rfl (by decide) (q := fullShare.left.right) rfl (dev_of (k0_dev26_lt c) (send_dev_b c).2.2.2.2.2.2.1) rfl (off_src_b c).2.2.2.2.2.2.1 (fun _ => rfl)) $$ Hp Hpr HA20LR HD20
  iintro Hpr
  icases (o_share (reg 21 c)).1 $$ HA21f with ⟨HA21L, HA21R⟩
  icases (o_share (reg 21 c)).1 $$ HA21L with ⟨HA21LL, HA21LR⟩
  iapply (send_dst P K 21 21 22 20 rfl rfl (by decide) (q := fullShare.left.right) rfl (dev_of (k0_dev27_lt c) (send_dev_b c).2.2.2.2.2.2.2.1) rfl (off_src_b c).2.2.2.2.2.2.2.1 (fun _ => rfl)) $$ Hp Hpr HA21LR HD21
  iintro Hpr
  iapply wpc_ret
  iapply Hk
  isplitl [Hpr]; · iexact Hpr
  isplitl [HA12R]; · iexact HA12R
  isplitl [HA20LL]; · iexact HA20LL
  isplitl [HA21R]; · iexact HA21R
  iexact HA21LL

theorem part40 (v19 : BitVec 32) (v37 : BitVec 32) (v62 : BitVec 32) (v72 : BitVec 32) (v92 : BitVec 32) (v104 : BitVec 32) (v1368 : BitVec 32) {Q : (PUnit) → sProp 𝕄} :
    pers P K c ⊢ iprop(Pr 22 20 c
      -∗ (∀ r, (Pr 23 22 c ∗ oPt c (reg 11 c) fullShare (fin P) ∗ oPt c (reg 22 c) fullShare.right (fin P) ∗ oPt c (reg 22 c) fullShare.left.left (fin P)) -∗ Q r)
      -∗ wpc c (onBufs (k0_part40 (F := F)) c v19 v37 v62 v72 v92 v104 v1368) Q) := by
  simp only [k0_part40_eq_skeleton]; unfold onBufs k0_part40_skel
  simp only [Prog.lift, Prog.bind_op, Prog.bind_ret, Prog.pure_eq_ret, Prog.bind_assoc]
  iintro #Hp Hpr Hk
  iapply (wait_as P K 20 (in20 P c) 22 20 21 rfl rfl (by decide) rfl) $$ Hp Hpr
  iintro ⟨Hpr, HA22f, HD22⟩
  iapply (wait_as P K 21 (in21 P c) 22 21 22 rfl rfl (by decide) rfl) $$ Hp Hpr
  iintro ⟨Hpr, HA11f⟩
  icases (o_share (reg 22 c)).1 $$ HA22f with ⟨HA22L, HA22R⟩
  icases (o_share (reg 22 c)).1 $$ HA22L with ⟨HA22LL, HA22LR⟩
  iapply (send_dst P K 22 22 23 22 rfl rfl (by decide) (q := fullShare.left.right) rfl (dev_of (k0_dev28_lt c) (send_dev_b c).2.2.2.2.2.2.2.2.1) rfl (off_src_b c).2.2.2.2.2.2.2.2.1 (fun _ => rfl)) $$ Hp Hpr HA22LR HD22
  iintro Hpr
  iapply wpc_ret
  iapply Hk
  isplitl [Hpr]; · iexact Hpr
  isplitl [HA11f]; · iexact HA11f
  isplitl [HA22R]; · iexact HA22R
  iexact HA22LL

theorem part41 (v37 : BitVec 32) (v62 : BitVec 32) (v92 : BitVec 32) (v104 : BitVec 32) {Q : (BitVec 32) → sProp 𝕄} :
    pers P K c ⊢ iprop(Pr 23 22 c -∗ oPt c (reg 11 c) fullShare (fin P) -∗ oPt c (reg 19 c) fullShare.left.left (fin P) -∗ oPt c (reg 21 c) fullShare.left.left (fin P) -∗ oPt c (reg 17 c) fullShare.left.left (fin P) -∗ dst 23 c
      -∗ (∀ r, (Pr 25 24 c ∗ oPt c (reg 11 c) fullShare.right (fin P) ∗ oPt c (reg 11 c) fullShare.left.right (fin P) ∗ oPt c (reg 25 c) fullShare (fin P) ∗ dst 25 c ∗ oPt c (reg 24 c) fullShare.right (fin P) ∗ oPt c (reg 24 c) fullShare.left.left (fin P)) -∗ Q r)
      -∗ wpc c (onBufs (k0_part41 (F := F)) c v37 v62 v92 v104) Q) := by
  simp only [k0_part41_eq_skeleton]; unfold onBufs k0_part41_skel
  simp only [Prog.lift, Prog.bind_op, Prog.bind_ret, Prog.pure_eq_ret, Prog.bind_assoc]
  iintro #Hp Hpr HA11f HA19LL HA21LL HA17LL HD23 Hk
  icases (o_share (reg 11 c)).1 $$ HA11f with ⟨HA11L, HA11R⟩
  icases (o_share (reg 11 c)).1 $$ HA11L with ⟨HA11LL, HA11LR⟩
  ihave HA7LL := (Entails.of_eq (congrArg (fun S => oPt (F := F) c S fullShare.left.left (fin P)) (again c).2.2.2.2.1)) $$ HA19LL
  ihave HA9LL := (Entails.of_eq (congrArg (fun S => oPt (F := F) c S fullShare.left.left (fin P)) (again c).2.2.2.2.2.1)) $$ HA21LL
  ihave HA23LL := (o_four (cut_block c)).2 $$ [HA7LL HA9LL HA11LL HA17LL]
  · isplitl [HA7LL]; · iexact HA7LL
    isplitl [HA9LL]; · iexact HA9LL
    isplitl [HA11LL]; · iexact HA11LL
    iexact HA17LL
  iapply (send_dst P K 23 23 24 22 rfl rfl (by decide) (q := fullShare.left.left) rfl (dev_of (k0_dev29_lt c) (send_dev_b c).2.2.2.2.2.2.2.2.2.1) rfl (off_src_b c).2.2.2.2.2.2.2.2.2.1 (fun _ => rfl)) $$ Hp Hpr HA23LL HD23
  iintro Hpr
  iapply (wait_as P K 22 (in22 P c) 24 22 23 rfl rfl (by decide) rfl) $$ Hp Hpr
  iintro ⟨Hpr, HA24f, HD24⟩
  iapply (wait_as P K 23 (in23 P c) 24 23 24 rfl rfl (by decide) rfl) $$ Hp Hpr
  iintro ⟨Hpr, HA25f, HD25⟩
  icases (o_share (reg 24 c)).1 $$ HA24f with ⟨HA24L, HA24R⟩
  icases (o_share (reg 24 c)).1 $$ HA24L with ⟨HA24LL, HA24LR⟩
  iapply (send_dst P K 24 24 25 24 rfl rfl (by decide) (q := fullShare.left.right) rfl (dev_of (k0_dev30_lt c) (send_dev_b c).2.2.2.2.2.2.2.2.2.2.1) rfl (off_src_b c).2.2.2.2.2.2.2.2.2.2.1 (fun _ => rfl)) $$ Hp Hpr HA24LR HD24
  iintro Hpr
  iapply wpc_ret
  iapply Hk
  isplitl [Hpr]; · iexact Hpr
  isplitl [HA11R]; · iexact HA11R
  isplitl [HA11LR]; · iexact HA11LR
  isplitl [HA25f]; · iexact HA25f
  isplitl [HD25]; · iexact HD25
  isplitl [HA24R]; · iexact HA24R
  iexact HA24LL

theorem part42 (v19 : BitVec 32) (v52 : BitVec 32) (v62 : BitVec 32) (v92 : BitVec 32) (c1_i32_881 : BitVec 32) {Q : (PUnit) → sProp 𝕄} :
    pers P K c ⊢ iprop(Pr 25 24 c -∗ oPt c (reg 25 c) fullShare (fin P) -∗ dst 25 c
      -∗ (∀ r, (Pr 26 26 c ∗ oPt c (reg 6 c) fullShare (fin P) ∗ oPt c (reg 27 c) fullShare (fin P) ∗ dst 27 c) -∗ Q r)
      -∗ wpc c (onBufs (k0_part42 (F := F)) c v19 v52 v62 v92 c1_i32_881) Q) := by
  simp only [k0_part42_eq_skeleton]; unfold onBufs k0_part42_skel
  simp only [Prog.lift, Prog.bind_op, Prog.bind_ret, Prog.pure_eq_ret, Prog.bind_assoc]
  iintro #Hp Hpr HA25f HD25 Hk
  iapply (send_dst P K 25 25 26 24 rfl rfl (by decide) (q := fullShare) rfl (dev_of (k0_dev31_lt c) (send_dev_b c).2.2.2.2.2.2.2.2.2.2.2.1) rfl (off_src_b c).2.2.2.2.2.2.2.2.2.2.2.1 (fun _ => rfl)) $$ Hp Hpr HA25f HD25
  iintro Hpr
  iapply (wait_as P K 24 (in24 P c) 26 24 25 rfl rfl (by decide) rfl) $$ Hp Hpr
  iintro ⟨Hpr, HA6f⟩
  iapply (wait_as P K 25 (in25 P c) 26 25 26 rfl rfl (by decide) rfl) $$ Hp Hpr
  iintro ⟨Hpr, HA27f, HD27⟩
  iapply wpc_ret
  iapply Hk
  isplitl [Hpr]; · iexact Hpr
  isplitl [HA6f]; · iexact HA6f
  isplitl [HA27f]; · iexact HA27f
  iexact HD27

theorem part43 (v19 : BitVec 32) (v52 : BitVec 32) (v92 : BitVec 32) {Q : (PUnit) → sProp 𝕄} :
    pers P K c ⊢ iprop(Pr 26 26 c -∗ oPt c (reg 6 c) fullShare (fin P) -∗ oPt c (reg 22 c) fullShare.left.left (fin P) -∗ oPt c (reg 24 c) fullShare.left.left (fin P) -∗ oPt c (reg 20 c) fullShare.left.left (fin P) -∗ dst 26 c -∗ oPt c (reg 27 c) fullShare (fin P) -∗ dst 27 c
      -∗ (∀ r, (Wt P 1 c ∗ oPt c (reg 6 c) fullShare.right (fin P) ∗ oPt c (reg 6 c) fullShare.left.right (fin P) ∗ oPt c (reg 0 c) fullShare (fin P) ∗ oPt c (reg 5 c) fullShare (fin P)) -∗ Q r)
      -∗ wpc c (onBufs (k0_part43 (F := F)) c v19 v52 v92) Q) := by
  simp only [k0_part43_eq_skeleton]; unfold onBufs k0_part43_skel
  simp only [Prog.lift, Prog.bind_op, Prog.bind_ret, Prog.pure_eq_ret, Prog.bind_assoc]
  iintro #Hp Hpr HA6f HA22LL HA24LL HA20LL HD26 HA27f HD27 Hk
  icases (o_share (reg 6 c)).1 $$ HA6f with ⟨HA6L, HA6R⟩
  icases (o_share (reg 6 c)).1 $$ HA6L with ⟨HA6LL, HA6LR⟩
  ihave HA2LL := (Entails.of_eq (congrArg (fun S => oPt (F := F) c S fullShare.left.left (fin P)) (again c).2.2.1)) $$ HA22LL
  ihave HA4LL := (Entails.of_eq (congrArg (fun S => oPt (F := F) c S fullShare.left.left (fin P)) (again c).2.2.2.1)) $$ HA24LL
  ihave HA26LL := (o_four (cut_half c)).2 $$ [HA2LL HA4LL HA6LL HA20LL]
  · isplitl [HA2LL]; · iexact HA2LL
    isplitl [HA4LL]; · iexact HA4LL
    isplitl [HA6LL]; · iexact HA6LL
    iexact HA20LL
  iapply (send_dst P K 26 26 27 26 rfl rfl (by decide) (q := fullShare.left.left) rfl (dev_of (k0_dev32_lt c) (send_dev_b c).2.2.2.2.2.2.2.2.2.2.2.2.1) rfl (off_src_b c).2.2.2.2.2.2.2.2.2.2.2.2.1 (fun _ => rfl)) $$ Hp Hpr HA26LL HD26
  iintro Hpr
  iapply (send_dst P K 27 27 28 26 rfl rfl (by decide) (q := fullShare) rfl (dev_of (k0_dev33_lt c) (send_dev_b c).2.2.2.2.2.2.2.2.2.2.2.2.2) rfl (off_src_b c).2.2.2.2.2.2.2.2.2.2.2.2.2 (fun _ => rfl)) $$ Hp Hpr HA27f HD27
  iintro Hpr
  iapply (wait_as P K 26 (in26 P c) 28 26 27 rfl rfl (by decide) rfl) $$ Hp Hpr
  iintro ⟨Hpr, HA0f⟩
  iapply (wait_as P K 27 (in27 P c) 28 27 28 rfl rfl (by decide) rfl) $$ Hp Hpr
  iintro ⟨Hpr, HA5f⟩
  ihave Hpr := (Wt_start P c) $$ Hpr
  iapply (wait_back P K 0 0 1 rfl rfl rfl) $$ Hp Hpr
  iintro Hpr
  iapply wpc_ret
  iapply Hk
  isplitl [Hpr]; · iexact Hpr
  isplitl [HA6R]; · iexact HA6R
  isplitl [HA6LR]; · iexact HA6LR
  isplitl [HA0f]; · iexact HA0f
  iexact HA5f

theorem part44  {Q : (PUnit) → sProp 𝕄} :
    pers P K c ⊢ iprop(Wt P 1 c
      -∗ (∀ r, (Wt P 5 c) -∗ Q r)
      -∗ wpc c (onBufs (k0_part44 (F := F)) c ) Q) := by
  simp only [k0_part44_eq_skeleton]; unfold onBufs k0_part44_skel
  simp only [Prog.lift, Prog.bind_op, Prog.bind_ret, Prog.pure_eq_ret, Prog.bind_assoc]
  iintro #Hp Hpr Hk
  iapply (wait_back P K 1 1 2 rfl rfl rfl) $$ Hp Hpr
  iintro Hpr
  iapply (wait_back P K 2 2 3 rfl rfl rfl) $$ Hp Hpr
  iintro Hpr
  iapply (wait_back P K 3 3 4 rfl rfl rfl) $$ Hp Hpr
  iintro Hpr
  iapply (wait_back P K 4 4 5 rfl rfl rfl) $$ Hp Hpr
  iintro Hpr
  iapply wpc_ret
  iapply Hk
  iexact Hpr

theorem part45  {Q : (PUnit) → sProp 𝕄} :
    pers P K c ⊢ iprop(Wt P 5 c
      -∗ (∀ r, (Wt P 10 c) -∗ Q r)
      -∗ wpc c (onBufs (k0_part45 (F := F)) c ) Q) := by
  simp only [k0_part45_eq_skeleton]; unfold onBufs k0_part45_skel
  simp only [Prog.lift, Prog.bind_op, Prog.bind_ret, Prog.pure_eq_ret, Prog.bind_assoc]
  iintro #Hp Hpr Hk
  iapply (wait_back P K 5 5 6 rfl rfl rfl) $$ Hp Hpr
  iintro Hpr
  iapply (wait_back P K 6 6 7 rfl rfl rfl) $$ Hp Hpr
  iintro Hpr
  iapply (wait_back P K 7 7 8 rfl rfl rfl) $$ Hp Hpr
  iintro Hpr
  iapply (wait_back P K 8 8 9 rfl rfl rfl) $$ Hp Hpr
  iintro Hpr
  iapply (wait_back P K 9 9 10 rfl rfl rfl) $$ Hp Hpr
  iintro Hpr
  iapply wpc_ret
  iapply Hk
  iexact Hpr

theorem part46  {Q : (PUnit) → sProp 𝕄} :
    pers P K c ⊢ iprop(Wt P 10 c
      -∗ (∀ r, (Wt P 15 c) -∗ Q r)
      -∗ wpc c (onBufs (k0_part46 (F := F)) c ) Q) := by
  simp only [k0_part46_eq_skeleton]; unfold onBufs k0_part46_skel
  simp only [Prog.lift, Prog.bind_op, Prog.bind_ret, Prog.pure_eq_ret, Prog.bind_assoc]
  iintro #Hp Hpr Hk
  iapply (wait_back P K 10 10 11 rfl rfl rfl) $$ Hp Hpr
  iintro Hpr
  iapply (wait_back P K 11 11 12 rfl rfl rfl) $$ Hp Hpr
  iintro Hpr
  iapply (wait_back P K 12 12 13 rfl rfl rfl) $$ Hp Hpr
  iintro Hpr
  iapply (wait_back P K 13 13 14 rfl rfl rfl) $$ Hp Hpr
  iintro Hpr
  iapply (wait_back P K 14 14 15 rfl rfl rfl) $$ Hp Hpr
  iintro Hpr
  iapply wpc_ret
  iapply Hk
  iexact Hpr

theorem part47  {Q : (PUnit) → sProp 𝕄} :
    pers P K c ⊢ iprop(Wt P 15 c
      -∗ (∀ r, (Wt P 21 c) -∗ Q r)
      -∗ wpc c (onBufs (k0_part47 (F := F)) c ) Q) := by
  simp only [k0_part47_eq_skeleton]; unfold onBufs k0_part47_skel
  simp only [Prog.lift, Prog.bind_op, Prog.bind_ret, Prog.pure_eq_ret, Prog.bind_assoc]
  iintro #Hp Hpr Hk
  iapply (wait_back P K 15 15 16 rfl rfl rfl) $$ Hp Hpr
  iintro Hpr
  iapply (wait_back P K 16 16 17 rfl rfl rfl) $$ Hp Hpr
  iintro Hpr
  iapply (wait_back P K 17 17 18 rfl rfl rfl) $$ Hp Hpr
  iintro Hpr
  iapply (wait_back P K 18 18 19 rfl rfl rfl) $$ Hp Hpr
  iintro Hpr
  iapply (wait_back P K 19 19 20 rfl rfl rfl) $$ Hp Hpr
  iintro Hpr
  iapply (wait_back P K 20 20 21 rfl rfl rfl) $$ Hp Hpr
  iintro Hpr
  iapply wpc_ret
  iapply Hk
  iexact Hpr

theorem part48  {Q : (PUnit) → sProp 𝕄} :
    pers P K c ⊢ iprop(Wt P 21 c
      -∗ (∀ r, (Wt P 27 c) -∗ Q r)
      -∗ wpc c (onBufs (k0_part48 (F := F)) c ) Q) := by
  simp only [k0_part48_eq_skeleton]; unfold onBufs k0_part48_skel
  simp only [Prog.lift, Prog.bind_op, Prog.bind_ret, Prog.pure_eq_ret, Prog.bind_assoc]
  iintro #Hp Hpr Hk
  iapply (wait_back P K 21 21 22 rfl rfl rfl) $$ Hp Hpr
  iintro Hpr
  iapply (wait_back P K 22 22 23 rfl rfl rfl) $$ Hp Hpr
  iintro Hpr
  iapply (wait_back P K 23 23 24 rfl rfl rfl) $$ Hp Hpr
  iintro Hpr
  iapply (wait_back P K 24 24 25 rfl rfl rfl) $$ Hp Hpr
  iintro Hpr
  iapply (wait_back P K 25 25 26 rfl rfl rfl) $$ Hp Hpr
  iintro Hpr
  iapply (wait_back P K 26 26 27 rfl rfl rfl) $$ Hp Hpr
  iintro Hpr
  iapply wpc_ret
  iapply Hk
  iexact Hpr

end Cert.KernelIdeal.AR

end
-- ==== Proof.PartsC.lean ====
/-
  The computation, part by part, with the first two transfers.
-/
module

public import proofs.«01_k».proof.Proof.Compute

@[expose] public section

noncomputable section

namespace Cert.KernelIdeal.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F]
local notation "𝕄" => MT nD τ sig Unit (Elt F) ℕ UU ℕ
variable (P : Dev nD → OB F) (K : Dev nD × Ck → ℕ) (c : Dev nD) (D : Blk F)

theorem part5 {Q : (FVec F S256x128 .f32) → sProp 𝕄} :
    Cols (attn (Qb D 0) (Kb D 0) (Vb D 0)) 0 c ⊢ iprop(((Cols (attn (Qb D 0) (Kb D 0) (Vb D 0)) 3 c) -∗ Q (k0_pay9 (Qb D 0)))
      -∗ wpc c (onBufs (k0_part5 (F := F)) (Qb D 0) (Kb D 0) (Vb D 0) (k0_pay5 (xr D 0) D.wq D.wk D.wv)) Q) := by
  simp only [k0_part5_eq_skeleton]; unfold onBufs k0_part5_skel
  simp only [Prog.lift, Prog.bind_op, Prog.bind_ret, Prog.pure_eq_ret, Prog.bind_assoc]
  iintro HC Hk
  iapply (col_step (attn (Qb D 0) (Kb D 0) (Vb D 0)) 0 1 rfl rfl (fun x => attn_at (Qb D 0) (Kb D 0) (Vb D 0) 0 x)) $$ HC
  iintro HC
  iapply (col_step (attn (Qb D 0) (Kb D 0) (Vb D 0)) 1 2 rfl rfl (fun x => attn_at (Qb D 0) (Kb D 0) (Vb D 0) 1 x)) $$ HC
  iintro HC
  iapply (col_step (attn (Qb D 0) (Kb D 0) (Vb D 0)) 2 3 rfl rfl (fun x => attn_at (Qb D 0) (Kb D 0) (Vb D 0) 2 x)) $$ HC
  iintro HC
  iapply wpc_ret
  iapply Hk
  iexact HC

theorem part6 {Q : (Σ' (v219 : FVec F S256x128 .f32) (v220 : FVec F S256x256 .f32), FVec F S256x256 .f32) → sProp 𝕄} :
    Cols (attn (Qb D 0) (Kb D 0) (Vb D 0)) 3 c ⊢ iprop(((Cols (attn (Qb D 0) (Kb D 0) (Vb D 0)) 5 c) -∗ Q ⟨k0_pay12 (Vb D 0), k0_pay13 (Qb D 0) (Kb D 0), k0_pay14 (F := F)⟩)
      -∗ wpc c (onBufs (k0_part6 (F := F)) (Qb D 0) (Kb D 0) (Vb D 0) (k0_pay9 (Qb D 0))) Q) := by
  simp only [k0_part6_eq_skeleton]; unfold onBufs k0_part6_skel
  simp only [Prog.lift, Prog.bind_op, Prog.bind_ret, Prog.pure_eq_ret, Prog.bind_assoc]
  iintro HC Hk
  iapply (col_step (attn (Qb D 0) (Kb D 0) (Vb D 0)) 3 4 rfl rfl (fun x => attn_at (Qb D 0) (Kb D 0) (Vb D 0) 3 x)) $$ HC
  iintro HC
  iapply (col_step (attn (Qb D 0) (Kb D 0) (Vb D 0)) 4 5 rfl rfl (fun x => attn_at (Qb D 0) (Kb D 0) (Vb D 0) 4 x)) $$ HC
  iintro HC
  iapply wpc_ret
  iapply Hk
  iexact HC

theorem part7 {Q : (Σ' (v257 : FVec F S256x128 .f32), FVec F S256x256 .f32) → sProp 𝕄} :
    Cols (attn (Qb D 0) (Kb D 0) (Vb D 0)) 5 c ⊢ iprop(((Cols (attn (Qb D 0) (Kb D 0) (Vb D 0)) 7 c) -∗ Q ⟨k0_pay17 (Vb D 0), k0_pay18 (Qb D 0) (Kb D 0)⟩)
      -∗ wpc c (onBufs (k0_part7 (F := F)) (Qb D 0) (Kb D 0) (Vb D 0) (k0_pay12 (Vb D 0)) (k0_pay13 (Qb D 0) (Kb D 0)) (k0_pay14 (F := F))) Q) := by
  simp only [k0_part7_eq_skeleton]; unfold onBufs k0_part7_skel
  simp only [Prog.lift, Prog.bind_op, Prog.bind_ret, Prog.pure_eq_ret, Prog.bind_assoc]
  iintro HC Hk
  iapply (col_step (attn (Qb D 0) (Kb D 0) (Vb D 0)) 5 6 rfl rfl (fun x => attn_at (Qb D 0) (Kb D 0) (Vb D 0) 5 x)) $$ HC
  iintro HC
  iapply (col_step (attn (Qb D 0) (Kb D 0) (Vb D 0)) 6 7 rfl rfl (fun x => attn_at (Qb D 0) (Kb D 0) (Vb D 0) 6 x)) $$ HC
  iintro HC
  iapply wpc_ret
  iapply Hk
  iexact HC

theorem part8 (hP : P c = partialOut D) {Q : (Σ' (v283 : FVec F S256x1024 .f32) (v286 : FVec F S256x256 .f32) (v289 : FVec F S256x256 .f32) (v292 : FVec F S256x128 .f32) (v295 : FVec F S256x256 .f32), FVec F S256x1 .f32) → sProp 𝕄} :
    Cols (attn (Qb D 0) (Kb D 0) (Vb D 0)) 7 c ⊢ iprop(Ins D c -∗ oAny c (run (16 * 0) 16)
      -∗ ((Cols (attn (Qb D 0) (Kb D 0) (Vb D 0)) 8 c ∗ oPt c (run (16 * 0) 16) fullShare (P c) ∗ Ins D c) -∗ Q ⟨(Qb D 1), (Kb D 1), (Vb D 1), k0_pay25 (xr D 1) D.wv, k0_pay26 (xr D 1) D.wq D.wk, k0_pay27 (xr D 1) D.wq D.wk⟩)
      -∗ wpc c (onBufs (k0_part8 (F := F)) (k0_pay17 (Vb D 0)) (k0_pay18 (Qb D 0) (Kb D 0))) Q) := by
  simp only [k0_part8_eq_skeleton]; unfold onBufs k0_part8_skel
  simp only [Prog.lift, Prog.bind_op, Prog.bind_ret, Prog.pure_eq_ret, Prog.bind_assoc]
  iintro HC HI HB0 Hk
  iapply (col_step (attn (Qb D 0) (Kb D 0) (Vb D 0)) 7 8 rfl rfl (fun x => attn_at (Qb D 0) (Kb D 0) (Vb D 0) 7 x)) $$ HC
  iintro HC
  iapply (col_load (attn (Qb D 0) (Kb D 0) (Vb D 0)) (by funext a; fin_cases a <;> rfl)) $$ HC
  iintro HC
  iapply (load_wo D (by funext a; fin_cases a <;> rfl)) $$ HI
  iintro HI
  iapply (out_step D 0 (by decide) hP rfl rfl) $$ HB0
  iintro HU0
  iapply (load_x D 1 rfl) $$ HI
  iintro HI
  iapply (load_q D (by funext a; fin_cases a <;> rfl)) $$ HI
  iintro HI
  iapply (load_k D (by funext a; fin_cases a <;> rfl)) $$ HI
  iintro HI
  iapply (load_v D (by funext a; fin_cases a <;> rfl)) $$ HI
  iintro HI
  iapply wpc_ret
  rw [show k0_pay22 (xr D 1) D.wq = Qb D 1 from rfl, show k0_pay23 (xr D 1) D.wk = Kb D 1 from rfl, show k0_pay24 (xr D 1) D.wv = Vb D 1 from rfl]
  iapply Hk
  isplitl [HC]; · iexact HC
  isplitl [HU0]; · iexact HU0
  iexact HI

theorem part9 {Q : (Σ' (v330 : FVec F S256x128 .f32) (v338 : FVec F S256x256 .f32), FVec F S256x1 .f32) → sProp 𝕄} :
    Cols (attn (Qb D 1) (Kb D 1) (Vb D 1)) 0 c ⊢ iprop(((Cols (attn (Qb D 1) (Kb D 1) (Vb D 1)) 2 c) -∗ Q ⟨k0_pay30 (Vb D 1), k0_pay31 (Qb D 1) (Kb D 1), k0_pay32 (Qb D 1) (Kb D 1)⟩)
      -∗ wpc c (onBufs (k0_part9 (F := F)) (Qb D 1) (Kb D 1) (Vb D 1) (k0_pay25 (xr D 1) D.wv) (k0_pay26 (xr D 1) D.wq D.wk) (k0_pay27 (xr D 1) D.wq D.wk)) Q) := by
  simp only [k0_part9_eq_skeleton]; unfold onBufs k0_part9_skel
  simp only [Prog.lift, Prog.bind_op, Prog.bind_ret, Prog.pure_eq_ret, Prog.bind_assoc]
  iintro HC Hk
  iapply (col_step (attn (Qb D 1) (Kb D 1) (Vb D 1)) 0 1 rfl rfl (fun x => attn_at (Qb D 1) (Kb D 1) (Vb D 1) 0 x)) $$ HC
  iintro HC
  iapply (col_step (attn (Qb D 1) (Kb D 1) (Vb D 1)) 1 2 rfl rfl (fun x => attn_at (Qb D 1) (Kb D 1) (Vb D 1) 1 x)) $$ HC
  iintro HC
  iapply wpc_ret
  iapply Hk
  iexact HC

theorem part10 {Q : (FVec F S256x128 .f32) → sProp 𝕄} :
    Cols (attn (Qb D 1) (Kb D 1) (Vb D 1)) 2 c ⊢ iprop(((Cols (attn (Qb D 1) (Kb D 1) (Vb D 1)) 4 c) -∗ Q (k0_pay35 (Qb D 1) (Kb D 1) (Vb D 1)))
      -∗ wpc c (onBufs (k0_part10 (F := F)) (Qb D 1) (Kb D 1) (Vb D 1) (k0_pay30 (Vb D 1)) (k0_pay31 (Qb D 1) (Kb D 1)) (k0_pay32 (Qb D 1) (Kb D 1))) Q) := by
  simp only [k0_part10_eq_skeleton]; unfold onBufs k0_part10_skel
  simp only [Prog.lift, Prog.bind_op, Prog.bind_ret, Prog.pure_eq_ret, Prog.bind_assoc]
  iintro HC Hk
  iapply (col_step (attn (Qb D 1) (Kb D 1) (Vb D 1)) 2 3 rfl rfl (fun x => attn_at (Qb D 1) (Kb D 1) (Vb D 1) 2 x)) $$ HC
  iintro HC
  iapply (col_step (attn (Qb D 1) (Kb D 1) (Vb D 1)) 3 4 rfl rfl (fun x => attn_at (Qb D 1) (Kb D 1) (Vb D 1) 3 x)) $$ HC
  iintro HC
  iapply wpc_ret
  iapply Hk
  iexact HC

theorem part11 {Q : (Σ' (v423 : FVec F S256x128 .f32), FVec F S256x128 .f32) → sProp 𝕄} :
    Cols (attn (Qb D 1) (Kb D 1) (Vb D 1)) 4 c ⊢ iprop(((Cols (attn (Qb D 1) (Kb D 1) (Vb D 1)) 7 c) -∗ Q ⟨k0_pay39 (Qb D 1), k0_pay40 (Kb D 1)⟩)
      -∗ wpc c (onBufs (k0_part11 (F := F)) (Qb D 1) (Kb D 1) (Vb D 1) (k0_pay35 (Qb D 1) (Kb D 1) (Vb D 1))) Q) := by
  simp only [k0_part11_eq_skeleton]; unfold onBufs k0_part11_skel
  simp only [Prog.lift, Prog.bind_op, Prog.bind_ret, Prog.pure_eq_ret, Prog.bind_assoc]
  iintro HC Hk
  iapply (col_step (attn (Qb D 1) (Kb D 1) (Vb D 1)) 4 5 rfl rfl (fun x => attn_at (Qb D 1) (Kb D 1) (Vb D 1) 4 x)) $$ HC
  iintro HC
  iapply (col_step (attn (Qb D 1) (Kb D 1) (Vb D 1)) 5 6 rfl rfl (fun x => attn_at (Qb D 1) (Kb D 1) (Vb D 1) 5 x)) $$ HC
  iintro HC
  iapply (col_step (attn (Qb D 1) (Kb D 1) (Vb D 1)) 6 7 rfl rfl (fun x => attn_at (Qb D 1) (Kb D 1) (Vb D 1) 6 x)) $$ HC
  iintro HC
  iapply wpc_ret
  iapply Hk
  iexact HC

theorem part12 (v43 : BitVec 32) (v52 : BitVec 32) (hP : P c = partialOut D) {Q : (FVec F S256x1024 .f32) → sProp 𝕄} :
    pers P K c ⊢ iprop(Pr 0 0 c -∗ Cols (attn (Qb D 1) (Kb D 1) (Vb D 1)) 7 c -∗ Ins D c -∗ oAny c (run (16 * 1) 16) -∗ oPt c (run (16 * 0) 16) fullShare (P c) -∗ slotOf 0 (tgt 0 c)
      -∗ ((Pr 1 0 c ∗ Cols (attn (Qb D 1) (Kb D 1) (Vb D 1)) 8 c ∗ oPt c (reg 26 c) fullShare (P c) ∗ Ins D c) -∗ Q (k0_pay43 (xr D 2)))
      -∗ wpc c (onBufs (k0_part12 (F := F)) c v43 v52 (Vb D 1) (k0_pay39 (Qb D 1)) (k0_pay40 (Kb D 1))) Q) := by
  simp only [k0_part12_eq_skeleton]; unfold onBufs k0_part12_skel
  simp only [Prog.lift, Prog.bind_op, Prog.bind_ret, Prog.pure_eq_ret, Prog.bind_assoc]
  iintro #Hp Hpr HC HI HB1 HU0 HL0 Hk
  iapply (col_step (attn (Qb D 1) (Kb D 1) (Vb D 1)) 7 8 rfl rfl (fun x => attn_at (Qb D 1) (Kb D 1) (Vb D 1) 7 x)) $$ HC
  iintro HC
  iapply (col_load (attn (Qb D 1) (Kb D 1) (Vb D 1)) (by funext a; fin_cases a <;> rfl)) $$ HC
  iintro HC
  iapply (load_wo D (by funext a; fin_cases a <;> rfl)) $$ HI
  iintro HI
  iapply (out_step D 1 (by decide) hP rfl rfl) $$ HB1
  iintro HU1
  ihave HXlo := (o_two (cut_low)).2 $$ [HU0 HU1]
  · isplitl [HU0]; · iexact HU0
    iexact HU1
  icases (o_two (cut_lower c)).1 $$ HXlo with ⟨HO0P, HO26P⟩
  iapply (send_rs0 P K 0 0 1 0 rfl rfl (by decide) (dev_of (k0_dev6_lt c) (send_dev_a c).1) rfl (off_src_a c).1 (fun _ => rfl) (fun _ => rfl) (f := (P c)) rfl rfl) $$ Hp Hpr HO0P HL0
  iintro Hpr
  iapply (load_x D 2 rfl) $$ HI
  iintro HI
  iapply wpc_ret
  iapply Hk
  isplitl [Hpr]; · iexact Hpr
  isplitl [HC]; · iexact HC
  isplitl [HO26P]; · iexact HO26P
  iexact HI

theorem part13 {Q : (Σ' (v460 : FVec F S256x1024 .f32) (v463 : FVec F S256x256 .f32) (v466 : FVec F S256x256 .f32) (v488 : FVec F S256x128 .f32) (v496 : FVec F S256x256 .f32), FVec F S256 .f32) → sProp 𝕄} :
    Ins D c ⊢ iprop(Cols (attn (Qb D 2) (Kb D 2) (Vb D 2)) 0 c
      -∗ ((Ins D c ∗ Cols (attn (Qb D 2) (Kb D 2) (Vb D 2)) 1 c) -∗ Q ⟨(Qb D 2), (Kb D 2), (Vb D 2), k0_pay48 (k0_pay43 (xr D 2)) D.wv, k0_pay49 (k0_pay43 (xr D 2)) D.wq D.wk, k0_pay50 (k0_pay43 (xr D 2)) D.wq D.wk⟩)
      -∗ wpc c (onBufs (k0_part13 (F := F)) (k0_pay43 (xr D 2))) Q) := by
  simp only [k0_part13_eq_skeleton]; unfold onBufs k0_part13_skel
  simp only [Prog.lift, Prog.bind_op, Prog.bind_ret, Prog.pure_eq_ret, Prog.bind_assoc]
  iintro HI HC Hk
  iapply (load_q D (by funext a; fin_cases a <;> rfl)) $$ HI
  iintro HI
  iapply (load_k D (by funext a; fin_cases a <;> rfl)) $$ HI
  iintro HI
  iapply (load_v D (by funext a; fin_cases a <;> rfl)) $$ HI
  iintro HI
  iapply (col_step (attn (Qb D 2) (Kb D 2) (Vb D 2)) 0 1 rfl rfl (fun x => attn_at (Qb D 2) (Kb D 2) (Vb D 2) 0 x)) $$ HC
  iintro HC
  iapply wpc_ret
  rw [show k0_pay44 (k0_pay43 (xr D 2)) D.wq = Qb D 2 from rfl, show k0_pay45 (k0_pay43 (xr D 2)) D.wk = Kb D 2 from rfl, show k0_pay46 (k0_pay43 (xr D 2)) D.wv = Vb D 2 from rfl]
  iapply Hk
  isplitl [HI]; · iexact HI
  iexact HC

theorem part14 {Q : (FVec F S256x128 .f32) → sProp 𝕄} :
    Cols (attn (Qb D 2) (Kb D 2) (Vb D 2)) 1 c ⊢ iprop(((Cols (attn (Qb D 2) (Kb D 2) (Vb D 2)) 3 c) -∗ Q (k0_pay53 (Qb D 2) (Kb D 2) (Vb D 2)))
      -∗ wpc c (onBufs (k0_part14 (F := F)) (Qb D 2) (Kb D 2) (Vb D 2) (k0_pay48 (k0_pay43 (xr D 2)) D.wv) (k0_pay49 (k0_pay43 (xr D 2)) D.wq D.wk) (k0_pay50 (k0_pay43 (xr D 2)) D.wq D.wk)) Q) := by
  simp only [k0_part14_eq_skeleton]; unfold onBufs k0_part14_skel
  simp only [Prog.lift, Prog.bind_op, Prog.bind_ret, Prog.pure_eq_ret, Prog.bind_assoc]
  iintro HC Hk
  iapply (col_step (attn (Qb D 2) (Kb D 2) (Vb D 2)) 1 2 rfl rfl (fun x => attn_at (Qb D 2) (Kb D 2) (Vb D 2) 1 x)) $$ HC
  iintro HC
  iapply (col_step (attn (Qb D 2) (Kb D 2) (Vb D 2)) 2 3 rfl rfl (fun x => attn_at (Qb D 2) (Kb D 2) (Vb D 2) 2 x)) $$ HC
  iintro HC
  iapply wpc_ret
  iapply Hk
  iexact HC

theorem part15 {Q : (FVec F S256x128 .f32) → sProp 𝕄} :
    Cols (attn (Qb D 2) (Kb D 2) (Vb D 2)) 3 c ⊢ iprop(((Cols (attn (Qb D 2) (Kb D 2) (Vb D 2)) 6 c) -∗ Q (k0_pay57 (Qb D 2)))
      -∗ wpc c (onBufs (k0_part15 (F := F)) (Qb D 2) (Kb D 2) (Vb D 2) (k0_pay53 (Qb D 2) (Kb D 2) (Vb D 2))) Q) := by
  simp only [k0_part15_eq_skeleton]; unfold onBufs k0_part15_skel
  simp only [Prog.lift, Prog.bind_op, Prog.bind_ret, Prog.pure_eq_ret, Prog.bind_assoc]
  iintro HC Hk
  iapply (col_step (attn (Qb D 2) (Kb D 2) (Vb D 2)) 3 4 rfl rfl (fun x => attn_at (Qb D 2) (Kb D 2) (Vb D 2) 3 x)) $$ HC
  iintro HC
  iapply (col_step (attn (Qb D 2) (Kb D 2) (Vb D 2)) 4 5 rfl rfl (fun x => attn_at (Qb D 2) (Kb D 2) (Vb D 2) 4 x)) $$ HC
  iintro HC
  iapply (col_step (attn (Qb D 2) (Kb D 2) (Vb D 2)) 5 6 rfl rfl (fun x => attn_at (Qb D 2) (Kb D 2) (Vb D 2) 5 x)) $$ HC
  iintro HC
  iapply wpc_ret
  iapply Hk
  iexact HC

theorem part16 {Q : (Σ' (v619 : Vec F S256x1024 .f32), FVec F S1024x1024 .f32) → sProp 𝕄} :
    Cols (attn (Qb D 2) (Kb D 2) (Vb D 2)) 6 c ⊢ iprop(Ins D c
      -∗ ((Cols (attn (Qb D 2) (Kb D 2) (Vb D 2)) 8 c ∗ Ins D c) -∗ Q ⟨(attn (Qb D 2) (Kb D 2) (Vb D 2)), k0_pay60 D.wo⟩)
      -∗ wpc c (onBufs (k0_part16 (F := F)) (Qb D 2) (Kb D 2) (Vb D 2) (k0_pay57 (Qb D 2))) Q) := by
  simp only [k0_part16_eq_skeleton]; unfold onBufs k0_part16_skel
  simp only [Prog.lift, Prog.bind_op, Prog.bind_ret, Prog.pure_eq_ret, Prog.bind_assoc]
  iintro HC HI Hk
  iapply (col_step (attn (Qb D 2) (Kb D 2) (Vb D 2)) 6 7 rfl rfl (fun x => attn_at (Qb D 2) (Kb D 2) (Vb D 2) 6 x)) $$ HC
  iintro HC
  iapply (col_step (attn (Qb D 2) (Kb D 2) (Vb D 2)) 7 8 rfl rfl (fun x => attn_at (Qb D 2) (Kb D 2) (Vb D 2) 7 x)) $$ HC
  iintro HC
  iapply (col_load (attn (Qb D 2) (Kb D 2) (Vb D 2)) (by funext a; fin_cases a <;> rfl)) $$ HC
  iintro HC
  iapply (load_wo D (by funext a; fin_cases a <;> rfl)) $$ HI
  iintro HI
  iapply wpc_ret
  iapply Hk
  isplitl [HC]; · iexact HC
  iexact HI

theorem part17 (hP : P c = partialOut D) {Q : (Σ' (v628 : FVec F S256x1024 .f32) (v631 : FVec F S256x256 .f32) (v634 : FVec F S256x256 .f32) (v656 : FVec F S256x128 .f32), FVec F S256x256 .f32) → sProp 𝕄} :
    oAny c (run (16 * 2) 16) ⊢ iprop(Ins D c -∗ Cols (attn (Qb D 3) (Kb D 3) (Vb D 3)) 0 c
      -∗ ((oPt c (run (16 * 2) 16) fullShare (P c) ∗ Ins D c ∗ Cols (attn (Qb D 3) (Kb D 3) (Vb D 3)) 1 c) -∗ Q ⟨(Qb D 3), (Kb D 3), (Vb D 3), k0_pay67 (xr D 3) D.wv, k0_pay68 (xr D 3) D.wq D.wk⟩)
      -∗ wpc c (onBufs (k0_part17 (F := F)) ((attn (Qb D 2) (Kb D 2) (Vb D 2))) (k0_pay60 D.wo)) Q) := by
  simp only [k0_part17_eq_skeleton]; unfold onBufs k0_part17_skel
  simp only [Prog.lift, Prog.bind_op, Prog.bind_ret, Prog.pure_eq_ret, Prog.bind_assoc]
  iintro HB2 HI HC Hk
  iapply (out_step D 2 (by decide) hP rfl rfl) $$ HB2
  iintro HU2
  iapply (load_x D 3 rfl) $$ HI
  iintro HI
  iapply (load_q D (by funext a; fin_cases a <;> rfl)) $$ HI
  iintro HI
  iapply (load_k D (by funext a; fin_cases a <;> rfl)) $$ HI
  iintro HI
  iapply (load_v D (by funext a; fin_cases a <;> rfl)) $$ HI
  iintro HI
  iapply (col_step (attn (Qb D 3) (Kb D 3) (Vb D 3)) 0 1 rfl rfl (fun x => attn_at (Qb D 3) (Kb D 3) (Vb D 3) 0 x)) $$ HC
  iintro HC
  iapply wpc_ret
  rw [show k0_pay63 (xr D 3) D.wq = Qb D 3 from rfl, show k0_pay64 (xr D 3) D.wk = Kb D 3 from rfl, show k0_pay65 (xr D 3) D.wv = Vb D 3 from rfl]
  iapply Hk
  isplitl [HU2]; · iexact HU2
  isplitl [HI]; · iexact HI
  iexact HC

theorem part18 {Q : (Σ' (v694 : FVec F S256x128 .f32) (v697 : FVec F S256x256 .f32), FVec F S256x1 .f32) → sProp 𝕄} :
    Cols (attn (Qb D 3) (Kb D 3) (Vb D 3)) 1 c ⊢ iprop(((Cols (attn (Qb D 3) (Kb D 3) (Vb D 3)) 3 c) -∗ Q ⟨k0_pay71 (Vb D 3), k0_pay72 (Qb D 3) (Kb D 3), k0_pay73 (Qb D 3) (Kb D 3)⟩)
      -∗ wpc c (onBufs (k0_part18 (F := F)) (Qb D 3) (Kb D 3) (Vb D 3) (k0_pay67 (xr D 3) D.wv) (k0_pay68 (xr D 3) D.wq D.wk)) Q) := by
  simp only [k0_part18_eq_skeleton]; unfold onBufs k0_part18_skel
  simp only [Prog.lift, Prog.bind_op, Prog.bind_ret, Prog.pure_eq_ret, Prog.bind_assoc]
  iintro HC Hk
  iapply (col_step (attn (Qb D 3) (Kb D 3) (Vb D 3)) 1 2 rfl rfl (fun x => attn_at (Qb D 3) (Kb D 3) (Vb D 3) 1 x)) $$ HC
  iintro HC
  iapply (col_step (attn (Qb D 3) (Kb D 3) (Vb D 3)) 2 3 rfl rfl (fun x => attn_at (Qb D 3) (Kb D 3) (Vb D 3) 2 x)) $$ HC
  iintro HC
  iapply wpc_ret
  iapply Hk
  iexact HC

theorem part19 {Q : (Σ' (v732 : FVec F S256x128 .f32) (v740 : FVec F S256x256 .f32), FVec F S256x1 .f32) → sProp 𝕄} :
    Cols (attn (Qb D 3) (Kb D 3) (Vb D 3)) 3 c ⊢ iprop(((Cols (attn (Qb D 3) (Kb D 3) (Vb D 3)) 5 c) -∗ Q ⟨k0_pay76 (Vb D 3), k0_pay77 (Qb D 3) (Kb D 3), k0_pay78 (Qb D 3) (Kb D 3)⟩)
      -∗ wpc c (onBufs (k0_part19 (F := F)) (Qb D 3) (Kb D 3) (Vb D 3) (k0_pay71 (Vb D 3)) (k0_pay72 (Qb D 3) (Kb D 3)) (k0_pay73 (Qb D 3) (Kb D 3))) Q) := by
  simp only [k0_part19_eq_skeleton]; unfold onBufs k0_part19_skel
  simp only [Prog.lift, Prog.bind_op, Prog.bind_ret, Prog.pure_eq_ret, Prog.bind_assoc]
  iintro HC Hk
  iapply (col_step (attn (Qb D 3) (Kb D 3) (Vb D 3)) 3 4 rfl rfl (fun x => attn_at (Qb D 3) (Kb D 3) (Vb D 3) 3 x)) $$ HC
  iintro HC
  iapply (col_step (attn (Qb D 3) (Kb D 3) (Vb D 3)) 4 5 rfl rfl (fun x => attn_at (Qb D 3) (Kb D 3) (Vb D 3) 4 x)) $$ HC
  iintro HC
  iapply wpc_ret
  iapply Hk
  iexact HC

theorem part20 {Q : (FVec F S256x128 .f32) → sProp 𝕄} :
    Cols (attn (Qb D 3) (Kb D 3) (Vb D 3)) 5 c ⊢ iprop(((Cols (attn (Qb D 3) (Kb D 3) (Vb D 3)) 7 c) -∗ Q (k0_pay81 (Qb D 3) (Kb D 3) (Vb D 3)))
      -∗ wpc c (onBufs (k0_part20 (F := F)) (Qb D 3) (Kb D 3) (Vb D 3) (k0_pay76 (Vb D 3)) (k0_pay77 (Qb D 3) (Kb D 3)) (k0_pay78 (Qb D 3) (Kb D 3))) Q) := by
  simp only [k0_part20_eq_skeleton]; unfold onBufs k0_part20_skel
  simp only [Prog.lift, Prog.bind_op, Prog.bind_ret, Prog.pure_eq_ret, Prog.bind_assoc]
  iintro HC Hk
  iapply (col_step (attn (Qb D 3) (Kb D 3) (Vb D 3)) 5 6 rfl rfl (fun x => attn_at (Qb D 3) (Kb D 3) (Vb D 3) 5 x)) $$ HC
  iintro HC
  iapply (col_step (attn (Qb D 3) (Kb D 3) (Vb D 3)) 6 7 rfl rfl (fun x => attn_at (Qb D 3) (Kb D 3) (Vb D 3) 6 x)) $$ HC
  iintro HC
  iapply wpc_ret
  iapply Hk
  iexact HC

theorem part21 (v19 : BitVec 32) (v52 : BitVec 32) (v92 : BitVec 32) (v104 : BitVec 32) (hP : P c = partialOut D) {Q : (FVec F S256x1024 .f32) → sProp 𝕄} :
    pers P K c ⊢ iprop(Pr 1 0 c -∗ Cols (attn (Qb D 3) (Kb D 3) (Vb D 3)) 7 c -∗ Ins D c -∗ oAny c (run (16 * 3) 16) -∗ oPt c (run (16 * 2) 16) fullShare (P c) -∗ slotOf 1 (tgt 1 c) -∗ oPt c (reg 26 c) fullShare (P c)
      -∗ (∀ r, (⌜∀ x, r x = P c (ix (ra 0 (frm 0 c)) x)⌝ ∗ Pr 2 1 c ∗ Cols (attn (Qb D 3) (Kb D 3) (Vb D 3)) 8 c ∗ Ins D c ∗ oPt c (reg 3 c) fullShare (P c) ∗ oPt c (reg 5 c) fullShare (P c) ∗ oPt c (reg 23 c) fullShare (P c) ∗ landed P axM 0 c ∗ dst 26 c ∗ oPt c (reg 26 c) fullShare (P c)) -∗ Q r)
      -∗ wpc c (onBufs (k0_part21 (F := F)) c v19 v52 v92 v104 (k0_pay81 (Qb D 3) (Kb D 3) (Vb D 3))) Q) := by
  simp only [k0_part21_eq_skeleton]; unfold onBufs k0_part21_skel
  simp only [Prog.lift, Prog.bind_op, Prog.bind_ret, Prog.pure_eq_ret, Prog.bind_assoc]
  iintro #Hp Hpr HC HI HB3 HU2 HL1 HO26P Hk
  iapply (col_step (attn (Qb D 3) (Kb D 3) (Vb D 3)) 7 8 rfl rfl (fun x => attn_at (Qb D 3) (Kb D 3) (Vb D 3) 7 x)) $$ HC
  iintro HC
  iapply (col_load (attn (Qb D 3) (Kb D 3) (Vb D 3)) (by funext a; fin_cases a <;> rfl)) $$ HC
  iintro HC
  iapply (load_wo D (by funext a; fin_cases a <;> rfl)) $$ HI
  iintro HI
  iapply (out_step D 3 (by decide) hP rfl rfl) $$ HB3
  iintro HU3
  ihave HXup := (o_two (cut_upp)).2 $$ [HU2 HU3]
  · isplitl [HU2]; · iexact HU2
    iexact HU3
  icases (o_four (cut_upper c)).1 $$ HXup with ⟨HO1P, HO3P, HO5P, HO23P⟩
  iapply (send_rs0 P K 1 1 2 0 rfl rfl (by decide) (dev_of (k0_dev7_lt c) (send_dev_a c).2.1) rfl (off_src_a c).2.1 (fun _ => rfl) (fun _ => rfl) (f := (P c)) rfl rfl) $$ Hp Hpr HO1P HL1
  iintro Hpr
  iapply (wait_as P K 0 (in0 P c) 2 0 1 rfl rfl (by decide) rfl) $$ Hp Hpr
  iintro ⟨Hpr, HG0, HD26⟩
  iapply (acc_read 0 26 (reg_acc c).1 rfl (off_acc c).1) $$ HO26P
  iintro HO26P
  iapply wpc_ret
  iapply Hk
  isplitr; · ipureintro; exact fun x => read_self _ x
  isplitl [Hpr]; · iexact Hpr
  isplitl [HC]; · iexact HC
  isplitl [HI]; · iexact HI
  isplitl [HO3P]; · iexact HO3P
  isplitl [HO5P]; · iexact HO5P
  isplitl [HO23P]; · iexact HO23P
  isplitl [HG0]; · iexact HG0
  isplitl [HD26]; · iexact HD26
  iexact HO26P

end Cert.KernelIdeal.AR

end
-- ==== Proof.Body.lean ====
/-
  The whole body: the parts in order, from the buffers and the protocol's start to the finished sum.
-/
module

public import proofs.«01_k».proof.Proof.Barrier
public import proofs.«01_k».proof.Proof.PartsA
public import proofs.«01_k».proof.Proof.PartsB
public import proofs.«01_k».proof.Proof.PartsC

@[expose] public section

noncomputable section

namespace Cert.KernelIdeal.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F]
local notation "𝕄" => MT nD τ sig Unit (Elt F) ℕ UU ℕ
variable (P : Dev nD → OB F) (K : Dev nD × Ck → ℕ) (c : Dev nD) (D : Blk F)

/-- The landing slots once everything has arrived. -/
def Slots : sProp 𝕄 :=
  iprop(landed P axM 0 c ∗ landed P bz0 1 c ∗ landed P ay0 2 c ∗ landed P bz1 3 c ∗ landed P ay1 4 c ∗ landed P bz2 5 c ∗ landed P ay2 6 c ∗ landed P by0 7 c ∗ landed P az0 8 c ∗ landed P by1 9 c ∗ landed P az1 10 c ∗ landed P by2 11 c ∗ landed P az2 12 c ∗ landed P bxM 13 c)
/-- The finished rows a device holds besides those its transfers give back. -/
def Kept : sProp 𝕄 :=
  iprop(oPt c (reg 13 c) fullShare.right (fin P) ∗ oPt c (reg 19 c) fullShare.right (fin P) ∗ oPt c (reg 12 c) fullShare.right (fin P) ∗ oPt c (reg 21 c) fullShare.right (fin P) ∗ oPt c (reg 22 c) fullShare.right (fin P) ∗ oPt c (reg 11 c) fullShare.right (fin P) ∗ oPt c (reg 11 c) fullShare.left.right (fin P) ∗ oPt c (reg 24 c) fullShare.right (fin P) ∗ oPt c (reg 6 c) fullShare.right (fin P) ∗ oPt c (reg 6 c) fullShare.left.right (fin P) ∗ oPt c (reg 0 c) fullShare (fin P) ∗ oPt c (reg 5 c) fullShare (fin P))

theorem first14 {M : Type} [URA M] (Φ : Fin 28 → sProp M) : bigSep Finset.univ Φ
    ⊢ iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ bigSep (Finset.univ.filter fun k : Fin 28 => 14 ≤ k.val) Φ) := by
  have e : (Finset.univ : Finset (Fin 28)) = insert 0 (insert 1 (insert 2 (insert 3 (insert 4 (insert 5 (insert 6 (insert 7 (insert 8 (insert 9 (insert 10 (insert 11 (insert 12 (insert 13 (Finset.univ.filter fun k : Fin 28 => 14 ≤ k.val)))))))))))))) := by decide
  rw [e]
  iterate 14 rw [BI.bigSep_insert (by decide)]
  exact .rfl

theorem wpc_bind {α β : Type} (p : Prog (TpuEff nD τ sig (Elt F) Λ₀ .tc) α) (k : α → Prog (TpuEff nD τ sig (Elt F) Λ₀ .tc) β) (Q : β → sProp 𝕄) :
    wpc c (p >>= k) Q = wpc c p fun a => wpc c (k a) Q := wp_bind ..

set_option maxHeartbeats 4000000 in
set_option maxRecDepth 4000 in
theorem body {Q : PUnit → sProp 𝕄} (hP : P c = partialOut D) :
    persOwn P K c ⊢ iprop(Sg 0 c -∗ Rs c -∗ Ins D c -∗ Cols (attn (Qb D 0) (Kb D 0) (Vb D 0)) 0 c
      -∗ oAny c (run (16 * 0) 16) -∗ oAny c (run (16 * 1) 16) -∗ oAny c (run (16 * 2) 16) -∗ oAny c (run (16 * 3) 16)
      -∗ ((Wt P 28 c ∗ atPos ER (barCell c) 1 ∅ 0 ∗ Ins D c ∗ Cols (attn (Qb D 3) (Kb D 3) (Vb D 3)) 8 c ∗ Slots P c ∗ Kept P c) -∗ Q ⟨⟩)
      -∗ wpc c (onBufs (cc0__body (F := F))) Q) := by
  rw [cc0__body_eq_skeleton]; unfold onBufs cc0__body_skel
  iintro #Ho hS hR hI hC hY0 hY1 hY2 hY3 Hk
  rw [wpc_bind]
  iapply (part1 c)
  iintro %a1 %b1 %d1 %e1
  try dsimp only
  rw [wpc_bind]
  iapply (part2 c _ _ _ _)
  iintro %r
  obtain ⟨r2_0, r2_1, r2_2, r2_3, r2_4⟩ := r
  try dsimp only
  rw [wpc_bind]
  iapply (part3 P K c _ _ _ _ _ _ _) $$ Ho hS
  iintro %a3 %b3 hS
  try dsimp only
  rw [wpc_bind]
  iapply (part4 P K c D _ _ _) $$ Ho hS hR hI
  iintro %a4 %b4 %d4 %e4 ⟨#Hp, hPr, Hat, Hsl, hI⟩
  try dsimp only
  icases (first14 _) $$ Hsl with ⟨hL0, hL1, hL2, hL3, hL4, hL5, hL6, hL7, hL8, hL9, hL10, hL11, hL12, hL13, -⟩
  rw [wpc_bind]
  iapply (part5 c D) $$ hC
  iintro hC
  try dsimp only
  rw [wpc_bind]
  iapply (part6 c D) $$ hC
  iintro hC
  try dsimp only
  rw [wpc_bind]
  iapply (part7 c D) $$ hC
  iintro hC
  try dsimp only
  rw [wpc_bind]
  iapply (part8 P c D hP) $$ hC hI hY0
  iintro ⟨hC, hU0, hI⟩
  try dsimp only
  ihave hC := (cols_reset (attn (Qb D 0) (Kb D 0) (Vb D 0)) (attn (Qb D 1) (Kb D 1) (Vb D 1)) 8) $$ hC
  rw [wpc_bind]
  iapply (part9 c D) $$ hC
  iintro hC
  try dsimp only
  rw [wpc_bind]
  iapply (part10 c D) $$ hC
  iintro hC
  try dsimp only
  rw [wpc_bind]
  iapply (part11 c D) $$ hC
  iintro hC
  try dsimp only
  rw [wpc_bind]
  iapply (part12 P K c D _ _ hP) $$ Hp hPr hC hI hY1 hU0 hL0
  iintro ⟨hPr, hC, hO26P, hI⟩
  try dsimp only
  ihave hC := (cols_reset (attn (Qb D 1) (Kb D 1) (Vb D 1)) (attn (Qb D 2) (Kb D 2) (Vb D 2)) 8) $$ hC
  rw [wpc_bind]
  iapply (part13 c D) $$ hI hC
  iintro ⟨hI, hC⟩
  try dsimp only
  rw [wpc_bind]
  iapply (part14 c D) $$ hC
  iintro hC
  try dsimp only
  rw [wpc_bind]
  iapply (part15 c D) $$ hC
  iintro hC
  try dsimp only
  rw [wpc_bind]
  iapply (part16 c D) $$ hC hI
  iintro ⟨hC, hI⟩
  try dsimp only
  ihave hC := (cols_reset (attn (Qb D 2) (Kb D 2) (Vb D 2)) (attn (Qb D 3) (Kb D 3) (Vb D 3)) 8) $$ hC
  rw [wpc_bind]
  iapply (part17 P c D hP) $$ hY2 hI hC
  iintro ⟨hU2, hI, hC⟩
  try dsimp only
  rw [wpc_bind]
  iapply (part18 c D) $$ hC
  iintro hC
  try dsimp only
  rw [wpc_bind]
  iapply (part19 c D) $$ hC
  iintro hC
  try dsimp only
  rw [wpc_bind]
  iapply (part20 c D) $$ hC
  iintro hC
  try dsimp only
  rw [wpc_bind]
  iapply (part21 P K c D _ _ _ _ hP) $$ Hp hPr hC hI hY3 hU2 hL1 hO26P
  iintro %r21 ⟨%hv, hPr, hC, hI, hO3P, hO5P, hO23P, hG0, hD26, hO26P⟩
  try dsimp only
  rw [wpc_bind]
  iapply (part22 P K c _ _ _ _ _ _ hv) $$ Hp hPr hO26P hG0 hO3P
  iintro %r22 ⟨hPr, hG0, hO2xa, hO4xa, hO6xa, hO20xa, hF3, hO3zb1, hG1⟩
  try dsimp only
  rw [wpc_bind]
  iapply (part23 P K c _ _ _ _) $$ Hp hPr hO2xa hL2 hO3zb1 hL3 hF3
  iintro %r
  obtain ⟨r23_0, r23_1⟩ := r
  iintro hPr
  try dsimp only
  rw [wpc_bind]
  iapply (part24 P K c _ _ _ _ _) $$ Hp hPr hO4xa hO5P
  iintro %r24 ⟨hPr, hF4, hO4ya1, hG2, hF5, hO5zb2, hG3⟩
  try dsimp only
  rw [wpc_bind]
  iapply (part25 P K c _ _ _ _ _ _) $$ Hp hPr hO4ya1 hL4 hF4
  iintro %r25 hPr
  try dsimp only
  rw [wpc_bind]
  iapply (part26 P K c _ _ _ _) $$ Hp hPr hO5zb2 hL5 hF5 hO6xa
  iintro %r26 ⟨hPr, hF6, hO6ya2, hG4, hG5, hD23⟩
  try dsimp only
  rw [wpc_bind]
  iapply (part27 P K c _ _ _ _ _) $$ Hp hPr hO23P hG5 hO6ya2 hL6 hF6
  iintro %r27 ⟨hPr, hG5, hO7zb3, hO9zb3, hO11zb3, hO17zb3⟩
  try dsimp only
  rw [wpc_bind]
  iapply (part28 P K c _ _ _ _ _) $$ Hp hPr hO7zb3 hL7 hO20xa
  iintro %r
  obtain ⟨r28_0, r28_1, r28_2⟩ := r
  iintro ⟨hPr, hD20, hG6, hO8ya3, hO10ya3, hO12ya3, hO14ya3⟩
  try dsimp only
  rw [wpc_bind]
  iapply (part29 P K c _ _ _ _ _ _) $$ Hp hPr hO9zb3 hO8ya3 hL8
  iintro %r29 ⟨hPr, hF9, hO9yb1, hG7⟩
  try dsimp only
  rw [wpc_bind]
  iapply (part30 P K c _ _ _ _ _) $$ Hp hPr hO9yb1 hL9 hF9 hO10ya3
  iintro %v30 %r30 %s30 ⟨%hv, hPr, hF10, hO10ya3, hG8⟩
  try dsimp only
  rw [wpc_bind]
  iapply (part31 P K c _ _ _ _ _ _ _ _ hv) $$ Hp hPr hO10ya3 hO11zb3
  iintro %r31 ⟨hPr, hO10za1, hF11, hO11yb2, hG9⟩
  try dsimp only
  rw [wpc_bind]
  iapply (part32 P K c _ _ _ _ _ _) $$ Hp hPr hO10za1 hL10 hF10 hO11yb2 hL11 hF11
  iintro %r
  obtain ⟨r32_0, r32_1⟩ := r
  iintro hPr
  try dsimp only
  rw [wpc_bind]
  iapply (part33 P K c _ _ _ _ _) $$ Hp hPr hO12ya3 hO17zb3
  iintro %r33 ⟨hPr, hF12, hO12za2, hG10, hD17, hG11, hO13yb3, hO15yb3⟩
  try dsimp only
  rw [wpc_bind]
  iapply (part34 P K c _ _ _ _ _ _) $$ Hp hPr hO12za2 hL12 hF12 hO13yb3 hL13
  iintro %r
  obtain ⟨r34_0, r34_1⟩ := r
  iintro hPr
  try dsimp only
  rw [wpc_bind]
  iapply (part35 P K c _ _ _ _ _ _) $$ Hp hPr hO14ya3 hO15yb3
  iintro %r35 ⟨hPr, hD14, hG12, hO14f, hD15, hG13, hO15f⟩
  try dsimp only
  rw [wpc_bind]
  iapply (part36 P K c _ _ _ _ _ _) $$ Hp hPr hO14f hD14 hO15f hD15
  iintro %r
  obtain ⟨r36_0, r36_1⟩ := r
  iintro ⟨hPr, hO14fL, hO15fL, hO16f, hD16, hO13f⟩
  try dsimp only
  rw [wpc_bind]
  iapply (part37 P K c _ _ _ _ _ _ _) $$ Hp hPr hO16f hD16 hO13f hO15fL hD17
  iintro %r37 ⟨hPr, hO16fL, hO13fR, hO17fLL, hO18f, hD18, hO19f, hD19⟩
  try dsimp only
  rw [wpc_bind]
  iapply (part38 P K c _ _ _ _ _ _) $$ Hp hPr hO18f hD18 hO19f hD19
  iintro %r38 ⟨hPr, hO18fL, hO19fR, hO19fLL, hO12f⟩
  try dsimp only
  rw [wpc_bind]
  iapply (part39 P K c _ _ _ _ _ _) $$ Hp hPr hO12f hO16fL hO18fL hO14fL hD20
  iintro %r39 ⟨hPr, hO12fR, hO20fLL, hO21fR, hO21fLL⟩
  try dsimp only
  rw [wpc_bind]
  iapply (part40 P K c _ _ _ _ _ _ _) $$ Hp hPr
  iintro %r40 ⟨hPr, hO11f, hO22fR, hO22fLL⟩
  try dsimp only
  rw [wpc_bind]
  iapply (part41 P K c _ _ _ _) $$ Hp hPr hO11f hO19fLL hO21fLL hO17fLL hD23
  iintro %r41 ⟨hPr, hO11fR, hO11fLR, hO25f, hD25, hO24fR, hO24fLL⟩
  try dsimp only
  rw [wpc_bind]
  iapply (part42 P K c _ _ _ _ _) $$ Hp hPr hO25f hD25
  iintro %r42 ⟨hPr, hO6f, hO27f, hD27⟩
  try dsimp only
  rw [wpc_bind]
  iapply (part43 P K c _ _ _) $$ Hp hPr hO6f hO22fLL hO24fLL hO20fLL hD26 hO27f hD27
  iintro %r43 ⟨hW, hO6fR, hO6fLR, hO0f, hO5f⟩
  try dsimp only
  rw [wpc_bind]
  iapply (part44 P K c) $$ Hp hW
  iintro %r44 hW
  try dsimp only
  rw [wpc_bind]
  iapply (part45 P K c) $$ Hp hW
  iintro %r45 hW
  try dsimp only
  rw [wpc_bind]
  iapply (part46 P K c) $$ Hp hW
  iintro %r46 hW
  try dsimp only
  rw [wpc_bind]
  iapply (part47 P K c) $$ Hp hW
  iintro %r47 hW
  try dsimp only
  rw [wpc_bind]
  iapply (part48 P K c) $$ Hp hW
  iintro %r48 hW
  try dsimp only
  simp only [Prog.lift, Prog.bind_op, Prog.bind_ret, Prog.pure_eq_ret, Prog.bind_assoc]
  iapply (wait_back P K 27 27 28 rfl rfl rfl) $$ Hp hW
  iintro hW
  iapply wpc_ret
  iapply Hk
  isplitl [hW]; · iexact hW
  isplitl [Hat]; · iexact Hat
  isplitl [hI]; · iexact hI
  isplitl [hC]; · iexact hC
  isplitl [hG0 hG1 hG2 hG3 hG4 hG5 hG6 hG7 hG8 hG9 hG10 hG11 hG12 hG13]
  · unfold Slots
    isplitl [hG0]; · iexact hG0
    isplitl [hG1]; · iexact hG1
    isplitl [hG2]; · iexact hG2
    isplitl [hG3]; · iexact hG3
    isplitl [hG4]; · iexact hG4
    isplitl [hG5]; · iexact hG5
    isplitl [hG6]; · iexact hG6
    isplitl [hG7]; · iexact hG7
    isplitl [hG8]; · iexact hG8
    isplitl [hG9]; · iexact hG9
    isplitl [hG10]; · iexact hG10
    isplitl [hG11]; · iexact hG11
    isplitl [hG12]; · iexact hG12
    iexact hG13
  unfold Kept
  isplitl [hO13fR]; · iexact hO13fR
  isplitl [hO19fR]; · iexact hO19fR
  isplitl [hO12fR]; · iexact hO12fR
  isplitl [hO21fR]; · iexact hO21fR
  isplitl [hO22fR]; · iexact hO22fR
  isplitl [hO11fR]; · iexact hO11fR
  isplitl [hO11fLR]; · iexact hO11fLR
  isplitl [hO24fR]; · iexact hO24fR
  isplitl [hO6fR]; · iexact hO6fR
  isplitl [hO6fLR]; · iexact hO6fLR
  isplitl [hO0f]; · iexact hO0f
  iexact hO5f

end Cert.KernelIdeal.AR

end
-- ==== Proof.End.lean ====
/-
  The buffers before and after: the landing buffers cut into slots and put together again, the result buffer put together from
  the shares of its rows.
-/
module

public import proofs.«01_k».proof.Proof.Body

@[expose] public section

noncomputable section

namespace Cert.KernelIdeal.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F]
local notation "𝕄" => MT nD τ sig Unit (Elt F) ℕ UU ℕ

/-! ## Any contents -/

/-- Some elements of a buffer at any contents. -/
def anyOn (ℓ : Loc nD τ sig) (S : Finset (Idx ℓ)) : sProp 𝕄 := iprop(∃ f : Buf (Elt F) ℓ, ℓ ↦[S]{fullShare} f)

theorem any_two {ℓ : Loc nD τ sig} {S A B : Finset (Idx ℓ)} (h : S = A ∪ B) (hd : Disjoint A B) :
    (anyOn (F := F) ℓ S) ⊣⊢ iprop(anyOn ℓ A ∗ anyOn ℓ B) := by
  subst h
  unfold anyOn
  constructor
  · iintro ⟨%f, H⟩
    icases (pointsTo_union hd).1 $$ H with ⟨HA, HB⟩
    isplitl [HA]
    · iexists f; iexact HA
    · iexists f; iexact HB
  · iintro ⟨⟨%f, HA⟩, ⟨%g, HB⟩⟩
    iexists (fun i => if i ∈ A then f i else g i : Buf (Elt F) ℓ)
    iapply (pointsTo_union hd).2
    isplitl [HA]
    · rw [pointsTo_congr (g := f) (fun i hi => if_pos hi)]; iexact HA
    · rw [pointsTo_congr (g := g) (fun i hi => if_neg (Finset.disjoint_right.mp hd hi))]; iexact HB

/-! ## Slots -/

/-- A shape of three slots. -/
abbrev S3 (n : ℕ) : Shape := ⟨3, ![3, n, 1024]⟩
/-- One slot of it. -/
abbrev slotR (n k : ℕ) (h : ∀ a, (![k, 0, 0] : Fin 3 → ℕ) a + (![1, n, 1024] : Fin 3 → ℕ) a ≤ (S3 n).size a) : Rect (S3 n) :=
  Rect.unit (s := S3 n) ![k, 0, 0] ![1, n, 1024] h

theorem mem_slot (n k : ℕ) (h) (i : (S3 n).Idx) : i ∈ (slotR n k h).set ↔ (i 0).val = k := by
  rw [Rect.mem_set_unit]
  have h1 : (i 1).val < n := (i 1).isLt
  have h2 : (i 2).val < 1024 := (i 2).isLt
  constructor
  · intro hh
    have := hh 0
    have e : k ≤ (i 0).val ∧ (i 0).val < k + 1 := this
    omega
  · intro e a
    fin_cases a
    · show k ≤ (i 0).val ∧ (i 0).val < k + 1
      omega
    · show 0 ≤ (i 1).val ∧ (i 1).val < 0 + n
      omega
    · show 0 ≤ (i 2).val ∧ (i 2).val < 0 + 1024
      omega

theorem slots_cover (n : ℕ) (h0 h1 h2) : (Finset.univ : Finset (S3 n).Idx) = (slotR n 0 h0).set ∪ ((slotR n 1 h1).set ∪ (slotR n 2 h2).set)
    ∧ Disjoint (slotR n 0 h0).set ((slotR n 1 h1).set ∪ (slotR n 2 h2).set) ∧ Disjoint (slotR n 1 h1).set (slotR n 2 h2).set := by
  refine ⟨?_, ?_, ?_⟩
  · ext i
    have h : (i 0).val < 3 := (i 0).isLt
    simp only [Finset.mem_univ, Finset.mem_union, mem_slot, true_iff]; omega
  · rw [Finset.disjoint_left]; intro i hi hj
    simp only [Finset.mem_union, mem_slot] at hi hj; omega
  · rw [Finset.disjoint_left]; intro i hi hj
    simp only [mem_slot] at hi hj; omega

theorem set_slot {s s' : Shape} (b : Ref sig .tc) (B : Memref sig .tc .vmem s .f32) (r : Rect s) (hr : ∀ a, r.stride a = 1) (hq : r.shape.Squeezes s') :
    ((B.slice r hr).squeeze s' hq).view.set = (B.view.slice r).set := by
  show ((B.view.slice r).reshape s' hq.numel_eq).set = _
  rw [View.set_reshape]

variable (c : Dev nD)

/-- A whole landing buffer as its three slots. -/
theorem three {ℓ : Loc nD τ sig} {A B C : Finset (Idx ℓ)} (h : Finset.univ = A ∪ (B ∪ C) ∧ Disjoint A (B ∪ C) ∧ Disjoint B C) :
    (anyOn (F := F) ℓ Finset.univ) ⊣⊢ iprop(anyOn ℓ A ∗ anyOn ℓ B ∗ anyOn ℓ C) := by
  refine (any_two h.1 h.2.1).trans ⟨?_, ?_⟩
  · iintro ⟨HA, H⟩
    isplitl [HA]; · iexact HA
    iapply (any_two rfl h.2.2).1 $$ H
  · iintro ⟨HA, HB, HC⟩
    isplitl [HA]; · iexact HA
    iapply (any_two rfl h.2.2).2
    isplitl [HB] <;> iassumption

theorem cut_ay : anyOn (F := F) ((c : Thread nD τ).loc cc0_scratch2) Finset.univ ⊣⊢ iprop(slotAny ay0 c ∗ slotAny ay1 c ∗ slotAny ay2 c) := by
  have h := slots_cover 64 inb_S3x64x1024_S1x64x1024_0_0_0 inb_S3x64x1024_S1x64x1024_1_0_0 inb_S3x64x1024_S1x64x1024_2_0_0
  have e (k) (hk) : (((ayM.slice (slotR 64 k hk) (fun _ => rfl)).squeeze S64x1024 squeezes_S1x64x1024_S64x1024)).view.set = (slotR 64 k hk).set := by
    show ((ayM.view.slice (slotR 64 k hk)).reshape S64x1024 _).set = _
    rw [View.set_reshape, View.set_slice_whole]
  refine (three (ℓ := (c : Thread nD τ).loc cc0_scratch2) h).trans ?_
  unfold slotAny
  rw [← e 0, ← e 1, ← e 2]
  exact .rfl
theorem cut_az : anyOn (F := F) ((c : Thread nD τ).loc cc0_scratch3) Finset.univ ⊣⊢ iprop(slotAny az0 c ∗ slotAny az1 c ∗ slotAny az2 c) := by
  have h := slots_cover 16 inb_S3x16x1024_S1x16x1024_0_0_0 inb_S3x16x1024_S1x16x1024_1_0_0 inb_S3x16x1024_S1x16x1024_2_0_0
  have e (k) (hk) : (((azM.slice (slotR 16 k hk) (fun _ => rfl)).squeeze S16x1024 squeezes_S1x16x1024_S16x1024)).view.set = (slotR 16 k hk).set := by
    show ((azM.view.slice (slotR 16 k hk)).reshape S16x1024 _).set = _
    rw [View.set_reshape, View.set_slice_whole]
  refine (three (ℓ := (c : Thread nD τ).loc cc0_scratch3) h).trans ?_
  unfold slotAny
  rw [← e 0, ← e 1, ← e 2]
  exact .rfl
theorem cut_bz : anyOn (F := F) ((c : Thread nD τ).loc cc0_scratch4) Finset.univ ⊣⊢ iprop(slotAny bz0 c ∗ slotAny bz1 c ∗ slotAny bz2 c) := by
  have h := slots_cover 128 inb_S3x128x1024_S1x128x1024_0_0_0 inb_S3x128x1024_S1x128x1024_1_0_0 inb_S3x128x1024_S1x128x1024_2_0_0
  have e (k) (hk) : (((bzM.slice (slotR 128 k hk) (fun _ => rfl)).squeeze S128x1024 squeezes_S1x128x1024_S128x1024)).view.set = (slotR 128 k hk).set := by
    show ((bzM.view.slice (slotR 128 k hk)).reshape S128x1024 _).set = _
    rw [View.set_reshape, View.set_slice_whole]
  refine (three (ℓ := (c : Thread nD τ).loc cc0_scratch4) h).trans ?_
  unfold slotAny
  rw [← e 0, ← e 1, ← e 2]
  exact .rfl
theorem cut_by : anyOn (F := F) ((c : Thread nD τ).loc cc0_scratch5) Finset.univ ⊣⊢ iprop(slotAny by0 c ∗ slotAny by1 c ∗ slotAny by2 c) := by
  have h := slots_cover 32 inb_S3x32x1024_S1x32x1024_0_0_0 inb_S3x32x1024_S1x32x1024_1_0_0 inb_S3x32x1024_S1x32x1024_2_0_0
  have e (k) (hk) : (((byM.slice (slotR 32 k hk) (fun _ => rfl)).squeeze S32x1024 squeezes_S1x32x1024_S32x1024)).view.set = (slotR 32 k hk).set := by
    show ((byM.view.slice (slotR 32 k hk)).reshape S32x1024 _).set = _
    rw [View.set_reshape, View.set_slice_whole]
  refine (three (ℓ := (c : Thread nD τ).loc cc0_scratch5) h).trans ?_
  unfold slotAny
  rw [← e 0, ← e 1, ← e 2]
  exact .rfl

theorem whole_ax : anyOn (F := F) ((c : Thread nD τ).loc cc0_scratch1) Finset.univ = slotAny axM c := by
  unfold slotAny
  rw [show (axM.view.set) = Finset.univ from View.set_whole _]
  rfl
theorem whole_bx : anyOn (F := F) ((c : Thread nD τ).loc cc0_scratch6) Finset.univ = slotAny bxM c := by
  unfold slotAny
  rw [show (bxM.view.set) = Finset.univ from View.set_whole _]
  rfl

/-- The six landing buffers at any contents. -/
def Lands : sProp 𝕄 :=
  iprop(anyOn ((c : Thread nD τ).loc cc0_scratch1) Finset.univ ∗ anyOn ((c : Thread nD τ).loc cc0_scratch2) Finset.univ
    ∗ anyOn ((c : Thread nD τ).loc cc0_scratch3) Finset.univ ∗ anyOn ((c : Thread nD τ).loc cc0_scratch4) Finset.univ
    ∗ anyOn ((c : Thread nD τ).loc cc0_scratch5) Finset.univ ∗ anyOn ((c : Thread nD τ).loc cc0_scratch6) Finset.univ)

theorem all14 {M : Type} [URA M] (Φ : Fin 28 → sProp M) (h : ∀ k : Fin 28, 14 ≤ k.val → iprop(emp) ⊢ Φ k) :
    iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) ⊢ bigSep Finset.univ Φ := by
  have e : (Finset.univ : Finset (Fin 28)) = insert 0 (insert 1 (insert 2 (insert 3 (insert 4 (insert 5 (insert 6 (insert 7 (insert 8 (insert 9 (insert 10 (insert 11 (insert 12 (insert 13 (Finset.univ.filter fun k : Fin 28 => 14 ≤ k.val)))))))))))))) := by decide
  have hr : iprop(emp) ⊢ bigSep (Finset.univ.filter fun k : Fin 28 => 14 ≤ k.val) Φ :=
    (Entails.of_eq (BI.bigSep_emp_const _).symm).trans (BI.bigSep_mono fun k hk => h k (Finset.mem_filter.mp hk).2)
  rw [e]
  iterate 14 rw [BI.bigSep_insert (by decide)]
  show _ ⊢ iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ bigSep (Finset.univ.filter fun k : Fin 28 => 14 ≤ k.val) Φ)
  iintro ⟨H0, H1, H2, H3, H4, H5, H6, H7, H8, H9, H10, H11, H12, H13⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iapply hr; iempintro

theorem lands_slots : Lands (F := F) c ⊢ bigSep (Finset.univ.filter fun k : Fin 28 => 0 ≤ (op (dir k)).val) fun k => slotOf k c := by
  rw [Finset.filter_true_of_mem (fun _ _ => Nat.zero_le _)]
  refine BI.Entails.trans ?_ (all14 _ (fun k hk => by
    unfold slotOf
    split <;> first | exact absurd hk (by decide) | exact .rfl))
  show Lands (F := F) c ⊢ iprop(slotAny axM c ∗ slotAny bz0 c ∗ slotAny ay0 c ∗ slotAny bz1 c ∗ slotAny ay1 c ∗ slotAny bz2 c
    ∗ slotAny ay2 c ∗ slotAny by0 c ∗ slotAny az0 c ∗ slotAny by1 c ∗ slotAny az1 c ∗ slotAny by2 c ∗ slotAny az2 c ∗ slotAny bxM c)
  unfold Lands
  rw [whole_ax, whole_bx]
  iintro ⟨Hax, Hay, Haz, Hbz, Hby, Hbx⟩
  icases (cut_ay c).1 $$ Hay with ⟨Ha0, Ha1, Ha2⟩
  icases (cut_az c).1 $$ Haz with ⟨Hz0, Hz1, Hz2⟩
  icases (cut_bz c).1 $$ Hbz with ⟨Hw0, Hw1, Hw2⟩
  icases (cut_by c).1 $$ Hby with ⟨Hb0, Hb1, Hb2⟩
  isplitl [Hax]; · iexact Hax
  isplitl [Hw0]; · iexact Hw0
  isplitl [Ha0]; · iexact Ha0
  isplitl [Hw1]; · iexact Hw1
  isplitl [Ha1]; · iexact Ha1
  isplitl [Hw2]; · iexact Hw2
  isplitl [Ha2]; · iexact Ha2
  isplitl [Hb0]; · iexact Hb0
  isplitl [Hz0]; · iexact Hz0
  isplitl [Hb1]; · iexact Hb1
  isplitl [Hz1]; · iexact Hz1
  isplitl [Hb2]; · iexact Hb2
  isplitl [Hz2]; · iexact Hz2
  iexact Hbx

variable (P : Dev nD → OB F) (K : Dev nD × Ck → ℕ)

theorem landed_any {n : ℕ} (M : Memref sig .tc .vmem ⟨2, ![n, 1024]⟩ .f32) (k : Fin 28) : landed P M k c ⊢ slotAny M c := slotHas_any M c _

theorem slots_lands : Slots P c ⊢ Lands (F := F) c := by
  unfold Lands Slots
  rw [whole_ax, whole_bx]
  iintro ⟨Hax, Hw0, Ha0, Hw1, Ha1, Hw2, Ha2, Hb0, Hz0, Hb1, Hz1, Hb2, Hz2, Hbx⟩
  isplitl [Hax]; · iapply (landed_any c P axM 0) $$ Hax
  isplitl [Ha0 Ha1 Ha2]
  · iapply (cut_ay c).2
    isplitl [Ha0]; · iapply (landed_any c P ay0 2) $$ Ha0
    isplitl [Ha1]; · iapply (landed_any c P ay1 4) $$ Ha1
    iapply (landed_any c P ay2 6) $$ Ha2
  isplitl [Hz0 Hz1 Hz2]
  · iapply (cut_az c).2
    isplitl [Hz0]; · iapply (landed_any c P az0 8) $$ Hz0
    isplitl [Hz1]; · iapply (landed_any c P az1 10) $$ Hz1
    iapply (landed_any c P az2 12) $$ Hz2
  isplitl [Hw0 Hw1 Hw2]
  · iapply (cut_bz c).2
    isplitl [Hw0]; · iapply (landed_any c P bz0 1) $$ Hw0
    isplitl [Hw1]; · iapply (landed_any c P bz1 3) $$ Hw1
    iapply (landed_any c P bz2 5) $$ Hw2
  isplitl [Hb0 Hb1 Hb2]
  · iapply (cut_by c).2
    isplitl [Hb0]; · iapply (landed_any c P by0 7) $$ Hb0
    isplitl [Hb1]; · iapply (landed_any c P by1 9) $$ Hb1
    iapply (landed_any c P by2 11) $$ Hb2
  iapply (landed_any c P bxM 13) $$ Hbx

/-! ## The result buffer -/

theorem out_start (f : OB F) : oPt c Finset.univ fullShare f
    ⊢ iprop(oAny c (run (16 * 0) 16) ∗ oAny c (run (16 * 1) 16) ∗ oAny c (run (16 * 2) 16) ∗ oAny c (run (16 * 3) 16)) := by
  refine (o_four (A := run (16 * 0) 16) (B := run (16 * 1) 16) (C := run (16 * 2) 16) (D := run (16 * 3) 16) (by decide)).1.trans ?_
  unfold oAny
  iintro ⟨H0, H1, H2, H3⟩
  isplitl [H0]; · iexists f; iexact H0
  isplitl [H1]; · iexists f; iexact H1
  isplitl [H2]; · iexists f; iexact H2
  iexists f; iexact H3

theorem join3 (S : Finset (Fin 64)) (f : OB F) :
    iprop(oPt c S fullShare.left.left f ∗ oPt c S fullShare.left.right f ∗ oPt c S fullShare.right f) ⊢ oPt c S fullShare f := by
  iintro ⟨H1, H2, H3⟩
  iapply (o_share S).2
  isplitl [H1 H2]
  · iapply (o_share S).2
    isplitl [H1] <;> iassumption
  iexact H3

theorem last14 {M : Type} [URA M] (Φ : Fin 28 → sProp M) : bigSep (Finset.univ.filter fun k : Fin 28 => k.val < 28) Φ
    ⊢ iprop(Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27) := by
  have e : (Finset.univ.filter fun k : Fin 28 => k.val < 28) = insert 14 (insert 15 (insert 16 (insert 17 (insert 18 (insert 19 (insert 20 (insert 21 (insert 22 (insert 23 (insert 24 (insert 25 (insert 26 (insert 27 (Finset.univ.filter fun k : Fin 28 => k.val < 14)))))))))))))) := by decide
  rw [e]
  iterate 14 rw [BI.bigSep_insert (by decide)]
  show iprop(Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ bigSep (Finset.univ.filter fun k : Fin 28 => k.val < 14) Φ) ⊢ _
  iintro ⟨H0, H1, H2, H3, H4, H5, H6, H7, H8, H9, H10, H11, H12, H13, -⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem sendPay_late (k : Fin 28) (hk : ¬ k.val < 14) : sendPay P k c = oPt c (reg k c) (lent k) (fin P) := by
  unfold sendPay; rw [if_neg hk]

/-- Everything a device holds of the result at the end is the whole of it, finished. -/
theorem out_end : iprop(Kept P c ∗ bigSep (Finset.univ.filter fun k : Fin 28 => k.val < 28) fun k => sendPay P k c)
    ⊢ oPt c Finset.univ fullShare (fin P) := by
  obtain ⟨e16, e18, e22, e24, e19, e21, e25, e27⟩ := again c
  refine (sep_mono_right (last14 _)).trans ?_
  rw [sendPay_late c P 14 (by decide), sendPay_late c P 15 (by decide), sendPay_late c P 16 (by decide), sendPay_late c P 17 (by decide),
    sendPay_late c P 18 (by decide), sendPay_late c P 19 (by decide), sendPay_late c P 20 (by decide), sendPay_late c P 21 (by decide),
    sendPay_late c P 22 (by decide), sendPay_late c P 23 (by decide), sendPay_late c P 24 (by decide), sendPay_late c P 25 (by decide),
    sendPay_late c P 26 (by decide), sendPay_late c P 27 (by decide)]
  unfold Kept
  rw [e16, e18, e22, e24, e19, e21, e25, e27]
  iintro ⟨⟨K13, K7, K12, K9, K2, K11, K11', K4, K6, K6', K0, K5⟩, H14, H15, H8, H17, H10, H7, H20, H9, H2, H23, H4, H1, H26, H3⟩
  icases (o_four (cut_half c)).1 $$ H26 with ⟨L2, L4, L6, L20⟩
  icases (o_four (cut_block c)).1 $$ H23 with ⟨L7, L9, L11, L17⟩
  ihave R20 := (o_four (cut_quarter c)).2 $$ [H8 H10 K12 H14]
  · isplitl [H8]; · iexact H8
    isplitl [H10]; · iexact H10
    isplitl [K12]; · iexact K12
    iexact H14
  ihave R17 := (o_two (cut_pair c)).2 $$ [K13 H15]
  · isplitl [K13]; · iexact K13
    iexact H15
  iapply (o_two cut_all).2
  isplitl [K0 L2 L4 L6 L20 H2 H4 K6' H20 K2 K4 K6 R20]
  · iapply (o_two (cut_lower c)).2
    isplitl [K0]; · iexact K0
    iapply (o_four (cut_half c)).2
    isplitl [L2 H2 K2]
    · iapply join3; isplitl [L2]; · iexact L2
      isplitl [H2]; · iexact H2
      iexact K2
    isplitl [L4 H4 K4]
    · iapply join3; isplitl [L4]; · iexact L4
      isplitl [H4]; · iexact H4
      iexact K4
    isplitl [L6 K6' K6]
    · iapply join3; isplitl [L6]; · iexact L6
      isplitl [K6']; · iexact K6'
      iexact K6
    iapply join3; isplitl [L20]; · iexact L20
    isplitl [H20]; · iexact H20
    iexact R20
  iapply (o_four (cut_upper c)).2
  isplitl [H1]; · iexact H1
  isplitl [H3]; · iexact H3
  isplitl [K5]; · iexact K5
  iapply (o_four (cut_block c)).2
  isplitl [L7 H7 K7]
  · iapply join3; isplitl [L7]; · iexact L7
    isplitl [H7]; · iexact H7
    iexact K7
  isplitl [L9 H9 K9]
  · iapply join3; isplitl [L9]; · iexact L9
    isplitl [H9]; · iexact H9
    iexact K9
  isplitl [L11 K11' K11]
  · iapply join3; isplitl [L11]; · iexact L11
    isplitl [K11']; · iexact K11'
    iexact K11
  iapply join3; isplitl [L17]; · iexact L17
  isplitl [H17]; · iexact H17
  iexact R17

/-! ## The cells closed -/

theorem close_own (g : Fin 28 → GSem nD τ sig) (i : Fin 28 → Dev nD × Ck) (h : ∀ k, g k = gcell (i k)) :
    iprop(invs P K ∗ bigSep Finset.univ fun k => atPos ER (g k) 1 ∅ 0) ⊢ (|={Set.univ}=> bigSep Finset.univ fun k => semVal (g k) 0 : sProp 𝕄) := by
  refine (bigSep_with_persistent (R := invs P K) (Ψ := fun k => iprop(|={Set.univ}=> semVal (g k) 0)) (fun k _ => ?_)).trans (bigSep_fupd _ _)
  refine (sep_mono_left (invs_at P K (i k))).trans ?_
  rw [h k]
  exact close P _ _

theorem close_all : iprop(invs P K ∗ Pw 28 c ∗ atPos ER (barCell c) 1 ∅ 0)
    ⊢ (|={Set.univ}=> iprop((∃ W, owes (c : Thread nD τ) 0 W) ∗ (bigSep Finset.univ fun k : Fin 28 => semVal (sendCell k c) 0)
        ∗ (bigSep Finset.univ fun k : Fin 28 => semVal (recvCell k c) 0) ∗ semVal (barCell c) 0) : sProp 𝕄) := by
  have e1 : dnSt (F := F) 28 c = fun k => atPos ER (sendCell k c) 1 ∅ 0 := by funext k; exact if_pos k.isLt
  have e2 : rcvSt (F := F) 28 c = fun k => atPos ER (recvCell k c) 1 ∅ 0 := by funext k; exact if_pos k.isLt
  unfold Pw
  rw [e1, e2]
  iintro ⟨#HI, ⟨HO, Hs, Hr⟩, Hb⟩
  imod (close_own P K (fun k => sendCell k c) (fun k => (c, some (.inl k))) (fun _ => rfl)) $$ [Hs] with Hs
  · isplitr; · iexact HI
    iexact Hs
  imod (close_own P K (fun k => recvCell k c) (fun k => (c, some (.inr k))) (fun _ => rfl)) $$ [Hr] with Hr
  · isplitr; · iexact HI
    iexact Hr
  imod (close P (K (c, none)) (barCell c)) $$ [Hb] with Hb
  · isplitr; · iapply (invs_at P K (c, none)) $$ HI
    iexact Hb
  imodintro
  isplitl [HO]; · iexact HO
  isplitl [Hs]; · iexact Hs
  isplitl [Hr]; · iexact Hr
  iexact Hb

end Cert.KernelIdeal.AR

end
-- ==== Proof.Run.lean ====
/-
  The kernel as the pipeline runs it: the blocks it is called with, its proof data, and the body's obligation.
-/
module

public import proofs.«01_k».proof.Proof.End
public import proofs.«01_k».proof.Proof.Gen.KernelIdeal.Regions
public import proofs.«01_k».proof.Proof.Gen.KernelIdeal.Points
public import Idealize.ShloMosaic.Lib.Pipeline.FrameBody

@[expose] public section

noncomputable section

namespace Cert.KernelIdeal.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Gen

variable {F : FTy → Type} [FloatOps F]
local notation "𝕄" => MT nD τ sig Unit (Elt F) ℕ UU ℕ

variable (m : (ℓ : Loc nD τ sig) → Buf (Elt F) ℓ)

/-- What a device's kernel is called with. -/
def blk (c : Dev nD) : Blk F where
  x := V1 m c main_v5
  wq := V1 m c main_arg1
  wo := V1 m c main_arg4
  wk := V1 m c main_v11
  wv := V1 m c main_v17

/-- Every device's partial product. -/
def parts : Dev nD → OB F := fun d => partialOut (blk m d)

/-- The protocol's state when a device enters the kernel, and when it leaves. -/
def start (c : Dev nD) : sProp 𝕄 :=
  iprop((∃ K, persOwn (parts m) K c) ∗ (bigSep Finset.univ fun j : Fin 5 => dutyTok ER (barCell (nb j c)) 0 j) ∗ Rs c)
def done (c : Dev nD) : sProp 𝕄 :=
  iprop((bigSep Finset.univ fun k : Fin 28 => semVal (sendCell k c) 0) ∗ (bigSep Finset.univ fun k : Fin 28 => semVal (recvCell k c) 0)
    ∗ semVal (barCell c) 0)
def rest (c : Dev nD) : sProp 𝕄 := iprop(Pipeline.scopedRest spec0 c ∗ ∃ r, prngReg c r)

def dats (_ : Fin 1) (c : Dev nD) : Dat τ (Elt F) Unit ℕ UU ℕ cfg0 c where
  A w := V1 m c (Pipeline.arrRef spec0 w)
  after w _ := match w with
    | ⟨0, _⟩ => (blk m c).x
    | ⟨1, _⟩ => (blk m c).wq
    | ⟨2, _⟩ => (blk m c).wo
    | ⟨3, _⟩ => (blk m c).wk
    | ⟨4, _⟩ => (blk m c).wv
    | ⟨5, _⟩ => fin (parts m)
  Φ t := match t with
    | ⟨0, _⟩ => iprop(start m c ∗ rest c)
    | ⟨_ + 1, _⟩ => iprop(done c ∗ rest c)
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem before_0 (c : Dev nD) (d) : (dats m 0 c).before (0 : Fin 6) t0_0 d = (blk m c).x := by
  rw [Dat.before_fetched _ _ _ (fetch0_0 t0_0)]
  funext i
  refine congrArg (V1 m c main_v5) ?_
  funext a; apply Fin.ext; fin_cases a
  · show 0 * 1024 + 1 * (i 0).val = (i 0).val; omega
  · show 0 * 1024 + 1 * (i 1).val = (i 1).val; omega
theorem before_1 (c : Dev nD) (d) : (dats m 0 c).before (1 : Fin 6) t0_0 d = (blk m c).wq := by
  rw [Dat.before_fetched _ _ _ (fetch0_1 t0_0)]
  funext i
  refine congrArg (V1 m c main_arg1) ?_
  funext a; apply Fin.ext; fin_cases a
  · show 0 * 1024 + 1 * (i 0).val = (i 0).val; omega
  · show 0 * 1024 + 1 * (i 1).val = (i 1).val; omega
theorem before_2 (c : Dev nD) (d) : (dats m 0 c).before (2 : Fin 6) t0_0 d = (blk m c).wo := by
  rw [Dat.before_fetched _ _ _ (fetch0_2 t0_0)]
  funext i
  refine congrArg (V1 m c main_arg4) ?_
  funext a; apply Fin.ext; fin_cases a
  · show 0 * 1024 + 1 * (i 0).val = (i 0).val; omega
  · show 0 * 1024 + 1 * (i 1).val = (i 1).val; omega
theorem before_3 (c : Dev nD) (d) : (dats m 0 c).before (3 : Fin 6) t0_0 d = (blk m c).wk := by
  rw [Dat.before_fetched _ _ _ (fetch0_3 t0_0)]
  funext i
  refine congrArg (V1 m c main_v11) ?_
  funext a; apply Fin.ext; fin_cases a
  · show 0 * 1024 + 1 * (i 0).val = (i 0).val; omega
  · show 0 * 256 + 1 * (i 1).val = (i 1).val; omega
theorem before_4 (c : Dev nD) (d) : (dats m 0 c).before (4 : Fin 6) t0_0 d = (blk m c).wv := by
  rw [Dat.before_fetched _ _ _ (fetch0_4 t0_0)]
  funext i
  refine congrArg (V1 m c main_v17) ?_
  funext a; apply Fin.ext; fin_cases a
  · show 0 * 1024 + 1 * (i 0).val = (i 0).val; omega
  · show 0 * 256 + 1 * (i 1).val = (i 1).val; omega

/-- The result array at the end of the kernel. -/
theorem arr_end (c : Dev nD) : (dats m 0 c).arrAt (5 : Fin 6) cfg0.N = fin (parts m) := by
  show (dats m 0 c).arrAt (5 : Fin 6) (0 + 1) = _
  unfold Dat.arrAt
  rw [dif_pos (show 0 < cfg0.N from by decide), if_pos (flush0_5 _)]
  funext i
  have he : ((cfg0.win (5 : Fin 6)).blk t0_0).view.emb i = i := by
    funext a; apply Fin.ext; fin_cases a
    · show 0 * 1024 + 1 * (i 0).val = (i 0).val; omega
    · show 0 * 1024 + 1 * (i 1).val = (i 1).val; omega
  have h := View.write_emb_of_mem (Val := Elt F) (v := ((cfg0.win (5 : Fin 6)).blk t0_0).view) ((dats m 0 c).arrAt (5 : Fin 6) 0)
    ((dats m 0 c).flushed (5 : Fin 6) t0_0) (Finset.mem_univ i)
  rw [he] at h
  exact h

/-- What the body starts from and leaves, window by window. -/
def bodyPre (c : Dev nD) : sProp 𝕄 :=
  iprop((start m c ∗ rest c) ∗ (dats m 0 c).owesAt () t0_0.castSucc
    ∗ (∃ d, ∃ f : Buf (Elt F) ((c : Thread nD τ).loc cc0_stg0_0), ⌜f = (dats m 0 c).before (0 : Fin 6) t0_0 d⌝ ∗ ((c : Thread nD τ).loc cc0_stg0_0 ↦{fullShare} f))
    ∗ (∃ d, ∃ f : Buf (Elt F) ((c : Thread nD τ).loc cc0_stg1_0), ⌜f = (dats m 0 c).before (1 : Fin 6) t0_0 d⌝ ∗ ((c : Thread nD τ).loc cc0_stg1_0 ↦{fullShare} f))
    ∗ (∃ d, ∃ f : Buf (Elt F) ((c : Thread nD τ).loc cc0_stg2_0), ⌜f = (dats m 0 c).before (2 : Fin 6) t0_0 d⌝ ∗ ((c : Thread nD τ).loc cc0_stg2_0 ↦{fullShare} f))
    ∗ (∃ d, ∃ f : Buf (Elt F) ((c : Thread nD τ).loc cc0_stg3_0), ⌜f = (dats m 0 c).before (3 : Fin 6) t0_0 d⌝ ∗ ((c : Thread nD τ).loc cc0_stg3_0 ↦{fullShare} f))
    ∗ (∃ d, ∃ f : Buf (Elt F) ((c : Thread nD τ).loc cc0_stg4_0), ⌜f = (dats m 0 c).before (4 : Fin 6) t0_0 d⌝ ∗ ((c : Thread nD τ).loc cc0_stg4_0 ↦{fullShare} f))
    ∗ (∃ d, ∃ f : Buf (Elt F) ((c : Thread nD τ).loc cc0_stg5_0), ⌜f = (dats m 0 c).before (5 : Fin 6) t0_0 d⌝ ∗ ((c : Thread nD τ).loc cc0_stg5_0 ↦{fullShare} f)))
def bodyPost (c : Dev nD) : sProp 𝕄 :=
  iprop((done c ∗ rest c) ∗ (dats m 0 c).owesAt () t0_0.succ
    ∗ (∃ f : Buf (Elt F) ((c : Thread nD τ).loc cc0_stg0_0), ⌜f = (blk m c).x⌝ ∗ ((c : Thread nD τ).loc cc0_stg0_0 ↦{fullShare} f))
    ∗ (∃ f : Buf (Elt F) ((c : Thread nD τ).loc cc0_stg1_0), ⌜f = (blk m c).wq⌝ ∗ ((c : Thread nD τ).loc cc0_stg1_0 ↦{fullShare} f))
    ∗ (∃ f : Buf (Elt F) ((c : Thread nD τ).loc cc0_stg2_0), ⌜f = (blk m c).wo⌝ ∗ ((c : Thread nD τ).loc cc0_stg2_0 ↦{fullShare} f))
    ∗ (∃ f : Buf (Elt F) ((c : Thread nD τ).loc cc0_stg3_0), ⌜f = (blk m c).wk⌝ ∗ ((c : Thread nD τ).loc cc0_stg3_0 ↦{fullShare} f))
    ∗ (∃ f : Buf (Elt F) ((c : Thread nD τ).loc cc0_stg4_0), ⌜f = (blk m c).wv⌝ ∗ ((c : Thread nD τ).loc cc0_stg4_0 ↦{fullShare} f))
    ∗ (∃ f : Buf (Elt F) ((c : Thread nD τ).loc cc0_stg5_0), ⌜f = fin (parts m)⌝ ∗ ((c : Thread nD τ).loc cc0_stg5_0 ↦{fullShare} f)))

/-- The scoped buffers beside the staging: the attention rows and the landing buffers. -/
theorem scoped_eq (c : Dev nD) : (Pipeline.scopedRest spec0 c : sProp 𝕄) = iprop(anyOn ((c : Thread nD τ).loc cc0_scratch0) Finset.univ ∗ Lands c) := by
  rw [scopedRest0_eq]; rfl

theorem wpc_fupd (c : Dev nD) {α : Type} (p : Prog (TpuEff nD τ sig (Elt F) Λ₀ .tc) α) (Q : α → sProp 𝕄) :
    wpc c p (fun a => iprop(|={Set.univ}=> Q a)) ⊢ wpc c p Q := wp_fupd Idealize.ShloMosaic.frame (wpE (defs₀ (F := F)) 𝒱₀ (c : Thread nD τ) none) Set.univ p Q

attribute [local irreducible] cc0__body

theorem body_at : (defs₀ (F := F)) .tc 0 (t0_0, cfg0.slots t0_0) = onBufs (cc0__body (F := F)) := rfl

theorem body_run (c : Dev nD) : bodyPre m c ⊢ wpc c (onBufs (cc0__body (F := F))) fun _ => bodyPost m c := by
  refine BIBase.Entails.trans ?_ (wpc_fupd c _ _)
  unfold bodyPre start rest
  rw [scoped_eq]
  iintro ⟨⟨⟨⟨%K, #Hp⟩, Hd, HR⟩, ⟨Hsc, Hl⟩, Hprng⟩, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, -, H5⟩⟩
  rw [before_0] at h0
  rw [before_1] at h1
  rw [before_2] at h2
  rw [before_3] at h3
  rw [before_4] at h4
  subst h0 h1 h2 h3 h4
  ihave Hl := (lands_slots c) $$ Hl
  ihave Hy := (out_start c f5) $$ [H5]
  · unfold oPt; rw [rows_univ]; iexact H5
  icases Hy with ⟨Hy0, Hy1, Hy2, Hy3⟩
  iapply (body (parts m) K c (blk m c) rfl) $$ Hp [Ho Hd Hl] HR [H0 H1 H2 H3 H4] [Hsc] Hy0 Hy1 Hy2 Hy3
  · unfold Sg
    isplitl [Ho]
    · unfold Dat.owesAt Pipeline.owesWithin
      icases Ho with ⟨%W, -, HO⟩; iexists W; iexact HO
    isplitl [Hd]
    · rw [Finset.filter_true_of_mem (fun _ _ => Nat.zero_le _)]; iexact Hd
    iexact Hl
  · unfold Ins
    isplitl [H0]; · iexact H0
    isplitl [H1]; · iexact H1
    isplitl [H2]; · iexact H2
    isplitl [H3] <;> iassumption
  · unfold Cols anyOn
    icases Hsc with ⟨%f, H⟩; iexists f
    isplitr; · ipureintro; intro i hi; omega
    iexact H
  iintro ⟨HW, Hat, HI, HC, HS, HK⟩
  unfold Wt
  icases HW with ⟨HW, Hpay⟩
  imod (close_all c (parts m) K) $$ [HW Hat] with ⟨HO, Hs, Hr, Hb⟩
  · isplitr
    · unfold persOwn; icases Hp with ⟨HI, -, -⟩; iexact HI
    isplitl [HW] <;> iassumption
  ihave Hout := (out_end c (parts m)) $$ [HK Hpay]
  · isplitl [HK] <;> iassumption
  imodintro
  unfold bodyPost done rest Ins
  rw [scoped_eq]
  icases HI with ⟨H0, H1, H2, H3, H4⟩
  isplitl [Hs Hr Hb HC HS Hprng]
  · isplitl [Hs Hr Hb]
    · isplitl [Hs]; · iexact Hs
      isplitl [Hr] <;> iassumption
    isplitl [HC HS]
    · isplitl [HC]
      · unfold Cols anyOn
        icases HC with ⟨%f, -, H⟩; iexists f; iexact H
      iapply (slots_lands c (parts m)) $$ HS
    iexact Hprng
  isplitl [HO]
  · unfold Dat.owesAt Pipeline.owesWithin
    icases HO with ⟨%W, HO⟩; iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  unfold oPt; rw [rows_univ]; iexact Hout

set_option maxRecDepth 4000 in
theorem body_pipe (c : Dev nD) : BodyObligation (dats (F := F) m 0 c) (defs₀ (F := F)) 𝒱₀ () Set.univ := fun t => by
  obtain rfl : t = t0_0 := fin_N0 t
  rw [bigSep_W0, bigSep_W0]
  simp only [owns_whole_eq]
  rw [body_at]
  exact body_run m c

end Cert.KernelIdeal.AR

end
-- ==== Proof.Region.lean ====
/-
  The kernel as one item of the program: what it is entered with and left with, and the opening of its own cells.
-/
module

public import proofs.«01_k».proof.Proof.Run

@[expose] public section

noncomputable section

namespace Cert.KernelIdeal.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Gen

variable {F : FTy → Type} [FloatOps F]
local notation "𝕄" => MT nD τ sig Unit (Elt F) ℕ UU ℕ

/-- The kernel's own semaphores: the send and the receive semaphore of every transfer. -/
abbrev osem : Fin 28 ⊕ Fin 28 → SemLoc sig := fun i => match i with | .inl k => .dma (sendS k) | .inr k => .dma (recvS k)
theorem osem_facts : Pipeline.OwnSemFacts spec0 osem := by decide +kernel

variable (m : (ℓ : Loc nD τ sig) → Buf (Elt F) ℓ)

/-- What a device is dealt at launch, beside what all devices know: its barrier position, the rights to open its own cells, the
    tokens of what it pays, the credits of what it is paid. -/
def dealt (c : Dev nD) : sProp 𝕄 :=
  iprop(atPos ER (barCell c) 0 ∅ 0
    ∗ ((bigSep Finset.univ fun k : Fin 28 => openTok ER (sendCell k c)) ∗ (bigSep Finset.univ fun k : Fin 28 => openTok ER (recvCell k c)))
    ∗ ((bigSep Finset.univ fun j : Fin 5 => dutyTok ER (barCell (nb j c)) 0 j)
      ∗ (bigSep Finset.univ fun k : Fin 28 => dutyTok ER (sendCell k c) 0 0)
      ∗ (bigSep Finset.univ fun k : Fin 28 => dutyTok ER (recvCell k (tgt k c)) 0 0))
    ∗ cred (tallyAt (barCell c) () 5) ∗ (bigSep Finset.univ fun k : Fin 28 => cred (tallyAt (recvCell k c) () (N k))))
def Tk (c : Dev nD) : sProp 𝕄 := iprop((∃ K, invs (parts m) K) ∗ dealt c)

omit [FloatOps F] in
theorem ownSems_eq (c : Dev nD) : (Pipeline.ownSems0 (Ix := Unit) (Name := ℕ) (U := UU) (Lvl := ℕ) (Val := Elt F) (τ := τ) osem c : sProp 𝕄)
    = iprop((bigSep Finset.univ fun k : Fin 28 => semVal (sendCell k c) 0) ∗ (bigSep Finset.univ fun k : Fin 28 => semVal (recvCell k c) 0)) := by
  unfold Pipeline.ownSems0; rw [bigSep_univ_sum]; rfl

theorem open_own (P : Dev nD → OB F) (K : Dev nD × Ck → ℕ) (g : Fin 28 → GSem nD τ sig) (i : Fin 28 → Dev nD × Ck) (h : ∀ k, g k = gcell (i k)) :
    iprop(invs P K ∗ (bigSep Finset.univ fun k => openTok ER (g k)) ∗ bigSep Finset.univ fun k => semVal (g k) 0)
      ⊢ (|={Set.univ}=> ((bigSep Finset.univ fun k => atPos ER (g k) 0 ∅ 0) ∗ bigSep Finset.univ fun k => reached ER (g k) 0) : sProp 𝕄) := by
  rw [← bigSep_sep', ← bigSep_sep']
  refine (bigSep_with_persistent (R := invs P K) (Ψ := fun k => iprop(|={Set.univ}=> (atPos ER (g k) 0 ∅ 0 ∗ reached ER (g k) 0))) (fun k _ => ?_)).trans (bigSep_fupd _ _)
  refine (sep_mono_left (invs_at P K (i k))).trans ?_
  rw [h k]
  exact Rounds.cell_open ER (arRd P) (Set.mem_univ _)

theorem open_all (c : Dev nD) : iprop(Tk m c ∗ Pipeline.ownSems0 osem c ∗ levAts L lv) ⊢ (|={Set.univ}=> start m c : sProp 𝕄) := by
  rw [ownSems_eq]
  unfold Tk dealt
  iintro ⟨⟨⟨%K, #HI⟩, Hat, ⟨Hos, Hor⟩, ⟨Htb, Hts, Htr⟩, Hcb, Hcr⟩, ⟨Hvs, Hvr⟩, -⟩
  imod (open_own (parts m) K (fun k => sendCell k c) (fun k => (c, some (.inl k))) (fun _ => rfl)) $$ [Hos Hvs] with ⟨Has, #Hrs⟩
  · isplitr; · iexact HI
    isplitl [Hos] <;> iassumption
  imod (open_own (parts m) K (fun k => recvCell k c) (fun k => (c, some (.inr k))) (fun _ => rfl)) $$ [Hor Hvr] with ⟨Har, #Hrr⟩
  · isplitr; · iexact HI
    isplitl [Hor] <;> iassumption
  imodintro
  have e1 : sndSt (F := F) 0 c = fun k => iprop(atPos ER (sendCell k c) 0 ∅ 0 ∗ dutyTok ER (sendCell k c) 0 0 ∗ dutyTok ER (recvCell k (tgt k c)) 0 0) := by
    funext k; exact if_neg (Nat.not_lt_zero _)
  have e2 : rcvSt (F := F) 0 c = fun k => iprop(atPos ER (recvCell k c) 0 ∅ 0 ∗ cred (tallyAt (recvCell k c) () (N k))) := by
    funext k; exact if_neg (Nat.not_lt_zero _)
  unfold start Rs persOwn
  rw [e1, e2, bigSep_sep', bigSep_sep', bigSep_sep']
  isplitr
  · iexists K
    isplitr; · iexact HI
    isplitr; · iexact Hrs
    iexact Hrr
  isplitl [Htb]; · iexact Htb
  isplitl [Hat]; · iexact Hat
  isplitl [Hcb]; · iexact Hcb
  isplitl [Has Hts Htr]
  · isplitl [Has]; · iexact Has
    isplitl [Hts] <;> iassumption
  isplitl [Har] <;> iassumption

/-- The result array holds the sum when the kernel is done. -/
def outs : Outs (F := F) := fun _ r c => if h : r = main_v18 then h ▸ (fin (parts m) : Buf (Elt F) ((c : Thread nD τ).loc main_v18)) else V1 m c r
theorem outs_out (n : ℕ) (c : Dev nD) : outs m n main_v18 c = fin (parts m) := dif_pos rfl
theorem V2_out (c : Dev nD) : V2 m (outs m) c main_v18 = fin (parts m) := by
  unfold V2; rw [Function.update_self]; exact outs_out m 2 c

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem share_eq (c : Dev nD) (w : Fin cfg0.W) : (dats m 0 c).share w = fullShare := by unfold Dat.share; split <;> rfl

theorem cut_owed (c : Dev nD) (t : Fin (cfg0.N + 1)) (g : GSem nD τ sig) (i : Unit) (h : 0 < (dats m 0 c).owed t g i) : i ∈ L g ∧ (0 : ℕ) < lv g i := by
  match t, h with
  | ⟨0, _⟩, h =>
    have h : 0 < O₀ c g i := h
    unfold O₀ at h
    rw [Pi.add_apply, Finsupp.add_apply] at h
    rcases Nat.add_pos_iff_pos_or_pos.mp h with h | h
    · obtain ⟨k, _, rfl⟩ := owed_pos h
      exact ⟨by rw [L_tc]; exact Finset.mem_singleton_self _, by rw [lv_recv]; omega⟩
    · obtain ⟨j, rfl⟩ := owedB_pos h
      exact ⟨by rw [L_tc]; exact Finset.mem_singleton_self _, by rw [lv_bar]; omega⟩
  | ⟨_ + 1, _⟩, h => exact absurd h (Nat.lt_irrefl 0)

theorem stage_lv : ∀ (w : Fin 6) (s : Fin (spec0 w).nbuf), kd (.dma ((spec0 w).sem s)) = .off := by
  intro w; fin_cases w <;> intro s <;> fin_cases s <;> rfl

theorem arr_before (c : Dev nD) (w : Fin cfg0.W) : (dats m 0 c).arrAt w 0 = V1 m c (Pipeline.arrRef spec0 w) := rfl

theorem arr_after (c : Dev nD) : ∀ w : Fin cfg0.W, (dats m 0 c).arrAt w cfg0.N = V2 m (outs m) c (Pipeline.arrRef spec0 w) := fun w => by
  match w with
  | ⟨0, _⟩ => exact ((dats m 0 c).arrAt_in (0 : Fin 6) rfl _).trans (V2_of m (outs m) c main_v5 (by decide)).symm
  | ⟨1, _⟩ => exact ((dats m 0 c).arrAt_in (1 : Fin 6) rfl _).trans (V2_of m (outs m) c main_arg1 (by decide)).symm
  | ⟨2, _⟩ => exact ((dats m 0 c).arrAt_in (2 : Fin 6) rfl _).trans (V2_of m (outs m) c main_arg4 (by decide)).symm
  | ⟨3, _⟩ => exact ((dats m 0 c).arrAt_in (3 : Fin 6) rfl _).trans (V2_of m (outs m) c main_v11 (by decide)).symm
  | ⟨4, _⟩ => exact ((dats m 0 c).arrAt_in (4 : Fin 6) rfl _).trans (V2_of m (outs m) c main_v17 (by decide)).symm
  | ⟨5, _⟩ => exact (arr_end m c).trans (V2_out m c).symm

/-- The unscoped buffers no window stands for. -/
abbrev others : Finset (DevRef τ sig) := Pipeline.ucRefs τ sig \ Pipeline.arrRefs (τ := τ) spec0

theorem rest_same (c : Dev nD) (b : DevRef τ sig) (hb : b ∈ others \ ∅) : V2 m (outs m) c b = V1 m c b := by
  have h := (Finset.mem_sdiff.mp (Finset.mem_sdiff.mp hb).1).2
  unfold V2
  refine Function.update_of_ne (fun e => h ?_) _ _
  rw [e]
  exact Finset.mem_map.mpr ⟨main_v18, Finset.mem_image.mpr ⟨(5 : Fin 6), Finset.mem_univ _, rfl⟩, rfl⟩

omit [FloatOps F] in
theorem held_none (c : Dev nD) (W : Valuation τ sig (Elt F)) : (StableHlo.held (c : Thread nD τ) ∅ W : sProp 𝕄) = iprop(emp) := by
  unfold StableHlo.held; exact BI.bigSep_empty

theorem enter (c : Dev nD) : iprop(Pipeline.scopedRest (Pipeline.pin (pcfgs (F := F)) adm 0).spec c ∗ (∃ r, prngReg c r) ∗ StableHlo.held (c.tc : Thread nD τ) ∅ (V1 m c) ∗ start m c)
    ⊢ (dats m 0 c).Φ 0 := by
  rw [show (dats m 0 c).Φ 0 = iprop(start m c ∗ rest c) from rfl]
  unfold rest
  iintro ⟨Hs, Hp, -, HK⟩
  isplitl [HK]; · iexact HK
  isplitl [Hs]; · iexact Hs
  iexact Hp

theorem leave (c : Dev nD) : (dats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V2 m (outs m) c)
      ∗ Pipeline.ownSems0 osem c ∗ semVal (barCell c) 0) := by
  rw [show (dats m 0 c).Φ (Fin.last _) = iprop(done c ∗ rest c) from rfl, ownSems_eq, held_none]
  unfold done rest
  iintro ⟨⟨Hs, Hr, Hb⟩, Hsc, Hp⟩
  isplitl [Hsc]; · iexact Hsc
  isplitl [Hp]; · iexact Hp
  isplitr; · iempintro
  isplitl [Hs Hr]
  · isplitl [Hs] <;> iassumption
  iexact Hb

set_option backward.isDefEq.respectTransparency.types false in
def region : Pipeline.RegionSeg (pcfgs (F := F)) adm (dats m) () defs₀ 𝒱₀ L lv 0 :=
  Pipeline.RegionSeg.ofTalk (pcfgs (F := F)) adm (dats m) () defs₀ 𝒱₀ L lv 0 osem osem_facts
    ∅ others (Finset.empty_subset _) kit rfl (fun c => (body_pipe m c).loose)
    (fun _ => 0) O₀ (fun c => (zero_add (O₀ c)).symm) (fun _ => rfl) (fun _ => rfl) (share_eq m)
    (V1 m) (V2 m (outs m)) (rest_same m)
    (Tk m) (fun c => semVal (barCell c) 0) (start m) (fun c => semVal (barCell c) 0) (open_all m) (enter m) (leave m)
    (fun c => by iintro H; imodintro; iexact H)
    (fun _ => 0)
    ⟨fun c w s => by rw [L_tc]; exact Finset.mem_singleton_self _, fun c w s => by
      show lv ((c : Thread nD τ), .dma ((spec0 w).sem s)) () ≤ 0
      unfold lv; rw [stage_lv], fun c t g i h => cut_owed m c t g i h⟩
    (fun _ => iprop(emp))
    (arr_before m) (arr_after m)

/-- What rides along beside the unscoped buffers, before and after the kernel. -/
def along (i : Fin 2) (c : Dev nD) : sProp 𝕄 :=
  match i with
  | 0 => iprop(Tk m c ∗ (∃ r, prngReg c r) ∗ ∃ W, owes (c : Thread nD τ) (O₀ c) W)
  | 1 => iprop(semVal (barCell c) 0 ∗ ∃ W, owes (c : Thread nD τ) (0 : CellTallies nD τ sig Unit) W)

theorem arr_sub : Pipeline.arrRefs (τ := τ) spec0 ⊆ Pipeline.ucRefs τ sig := Pipeline.arrRefs_sub_ucRefs spec0 (by decide)

theorem region_pre (c : Dev nD) : iprop(StableHlo.held (c : Thread nD τ) (Pipeline.ucRefs τ sig) (V1 m c) ∗ along m 0 c) ⊢ (region m).pre c := by
  show _ ⊢ iprop(StableHlo.held (c.tc : Thread nD τ) (Pipeline.arrRefs (τ := τ) spec0) (V1 m c) ∗ (∃ r, prngReg c r)
    ∗ (StableHlo.held (c.tc : Thread nD τ) others (V1 m c) ∗ emp) ∗ Tk m c ∗ ∃ Wd, owes (c : Thread nD τ) (0 + O₀ c) Wd)
  rw [zero_add, StableHlo.held_sub_split (c : Thread nD τ) arr_sub]
  unfold along
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem region_post (c : Dev nD) : (region m).post c ⊢ iprop(StableHlo.held (c : Thread nD τ) (Pipeline.ucRefs τ sig) (V2 m (outs m) c) ∗ along m 1 c) := by
  show iprop(StableHlo.held (c.tc : Thread nD τ) (Pipeline.arrRefs (τ := τ) spec0) (V2 m (outs m) c) ∗ (∃ r, prngReg c r)
    ∗ (StableHlo.held (c.tc : Thread nD τ) others (V2 m (outs m) c) ∗ emp) ∗ semVal (barCell c) 0 ∗ ∃ Wd, owes (c : Thread nD τ) (0 : CellTallies nD τ sig Unit) Wd) ⊢ _
  rw [StableHlo.held_sub_split (c : Thread nD τ) arr_sub (V2 m (outs m) c)]
  unfold along
  iintro ⟨Ha, -, ⟨Hr, -⟩, Hb, HO⟩
  isplitl [Ha Hr]
  · isplitl [Ha] <;> iassumption
  isplitl [Hb] <;> iassumption

end Cert.KernelIdeal.AR

end
-- ==== Proof.Launch.lean ====
/-
  The launch: every cell's invariant is made at once, tokens and credits go round, and every device is dealt its share. The
  run of the whole program follows.
-/
module

public import proofs.«01_k».proof.Proof.Region
public import Idealize.ShloMosaic.Harness.Basic

@[expose] public section

noncomputable section

namespace Cert.KernelIdeal.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg)
open Gen

variable {F : FTy → Type} [FloatOps F]
local notation "𝕄" => MT nD τ sig Unit (Elt F) ℕ UU ℕ

/-! ## The cells and the tokens -/

theorem osem_inj : Function.Injective osem := by decide +kernel
theorem osem_ne_bar : ∀ k, osem k ≠ .reg barS := by decide

def barEmb : Dev nD ↪ GSem nD τ sig := ⟨fun c => barCell c, fun _ _ h => congrArg (fun g : GSem nD τ sig => g.1.1) h⟩
def ownEmb : Dev nD × (Fin 28 ⊕ Fin 28) ↪ GSem nD τ sig :=
  ⟨fun i => ((i.1 : Thread nD τ), osem i.2), fun _ _ h => Prod.ext (congrArg (fun g : GSem nD τ sig => g.1.1) h) (osem_inj (congrArg Prod.snd h))⟩
abbrev barCells : Finset (GSem nD τ sig) := Finset.univ.map barEmb
abbrev ownCells : Finset (GSem nD τ sig) := Finset.univ.map ownEmb

theorem cells_disjoint : Disjoint barCells ownCells := by
  rw [Finset.disjoint_left]
  rintro g h₁ h₂
  obtain ⟨c, -, rfl⟩ := Finset.mem_map.mp h₁
  obtain ⟨i, -, h⟩ := Finset.mem_map.mp h₂
  exact osem_ne_bar i.2 (congrArg Prod.snd h)
theorem gcell_mem (i : Dev nD × Ck) : gcell i ∈ barCells ∪ ownCells := by
  match i with
  | (c, none) => exact Finset.mem_union_left _ (Finset.mem_map_of_mem barEmb (Finset.mem_univ c))
  | (c, some (.inl k)) => exact Finset.mem_union_right _ (Finset.mem_map_of_mem ownEmb (Finset.mem_univ (c, Sum.inl k)))
  | (c, some (.inr k)) => exact Finset.mem_union_right _ (Finset.mem_map_of_mem ownEmb (Finset.mem_univ (c, Sum.inr k)))

/-- Which semaphore and which payer a token is for. -/
abbrev tsem : Fin 5 ⊕ (Fin 28 ⊕ Fin 28) → SemLoc sig × Fin 5 := fun i => match i with | .inl j => (.reg barS, j) | .inr k => (osem k, 0)
theorem tsem_inj : Function.Injective tsem := by decide +kernel
def toks : Finset (GSem nD τ sig × ℕ × Fin 5) :=
  Finset.univ.map ⟨fun i : Dev nD × (Fin 5 ⊕ (Fin 28 ⊕ Fin 28)) => (((i.1 : Thread nD τ), (tsem i.2).1), 0, (tsem i.2).2), fun _ _ h =>
    Prod.ext (congrArg (fun t : GSem nD τ sig × ℕ × Fin 5 => t.1.1.1) h)
      (tsem_inj (Prod.ext (congrArg (fun t : GSem nD τ sig × ℕ × Fin 5 => t.1.2) h) (congrArg (fun t : GSem nD τ sig × ℕ × Fin 5 => t.2.2) h)))⟩

def u₀ : UU := (initOf (Pipeline.cells cfgs cellOf_inj) (Pipeline.launchToks cfgs cellOf_inj), launchOf barCells ownCells toks)

/-- A resource put on device 0 alone. -/
def atZero (X : sProp 𝕄) (c : Dev nD) : sProp 𝕄 := if c = 0 then X else iprop(emp)
omit [FloatOps F] in
theorem atZero_all (X : sProp 𝕄) : bigSep Finset.univ (atZero X) = X := by
  rw [bigSep_univ_at _ (0 : Dev nD), bigSep_congr (s := Finset.univ.erase (0 : Dev nD)) (Ψ := fun _ => (BI.emp : sProp 𝕄))
      fun c hc => by unfold atZero; rw [if_neg (Finset.ne_of_mem_erase hc)]; rfl, BI.bigSep_emp_const]
  unfold atZero; rw [if_pos rfl]
  exact BI.equiv_iff.mp sep_emp
def ghost : Dev nD → sProp 𝕄 := atZero (BI.own (ER (launchOf barCells ownCells toks)))

/-! ## The credits -/

theorem owe_total {I : Type} [Fintype I] (f : I → Dev nD → GSem nD τ sig) (e : I → Dev nD ≃ Dev nD) (n : I → ℕ) (g : GSem nD τ sig) :
    ∑ d, (∑ i, (tallyAt (f i (e i d)) () (n i) : CellTallies nD τ sig Unit)) g () = ∑ i, ∑ d, if g = f i d then n i else 0 := by
  rw [Finset.sum_comm (s := (Finset.univ : Finset I))]
  conv_rhs => rw [Finset.sum_comm]
  rw [show (∑ d, (∑ i, (tallyAt (f i (e i d)) () (n i) : CellTallies nD τ sig Unit)) g ()) = ∑ d, ∑ i, if g = f i (e i d) then n i else 0 from
    Finset.sum_congr rfl fun d _ => by
      rw [Finset.sum_apply, Finsupp.finset_sum_apply]
      exact Finset.sum_congr rfl fun i _ => by rw [tallyAt_apply]; simp]
  rw [Finset.sum_comm]
  exact Finset.sum_congr rfl fun i _ => Equiv.sum_comp (e i) (fun d => if g = f i d then n i else 0)

theorem filter_all {n : ℕ} : (Finset.univ.filter fun i : Fin n => 0 ≤ i.val) = Finset.univ := Finset.filter_true_of_mem fun _ _ => Nat.zero_le _
theorem bar_eq {c d : Dev nD} : barCell c = barCell d ↔ c = d := ⟨fun h => congrArg (fun g : GSem nD τ sig => g.1.1) h, fun h => by rw [h]⟩
theorem recv_eq {k l : Fin 28} {c d : Dev nD} : recvCell k c = recvCell l d ↔ k = l ∧ c = d :=
  ⟨fun h => ⟨Sum.inr.inj (osem_inj (a₁ := .inr k) (a₂ := .inr l) (congrArg Prod.snd h)), congrArg (fun g : GSem nD τ sig => g.1.1) h⟩, fun h => by rw [h.1, h.2]⟩
theorem bar_ne_recv (k : Fin 28) (c d : Dev nD) : barCell c ≠ recvCell k d := fun h => osem_ne_bar (.inr k) (congrArg Prod.snd h).symm

theorem owe_split (g : GSem nD τ sig) : ∑ d, O₀ d g () = (∑ k, ∑ d, if g = recvCell k d then N k else 0) + ∑ j : Fin 5, ∑ d, if g = barCell d then 1 else 0 := by
  rw [← owe_total (fun k d => recvCell k d) tgtE N g, ← owe_total (fun (_ : Fin 5) d => barCell d) nbE (fun _ => 1) g, ← Finset.sum_add_distrib]
  refine Finset.sum_congr rfl fun d _ => ?_
  unfold O₀ owed owedB
  rw [filter_all, filter_all, Pi.add_apply, Finsupp.add_apply]
  rfl
theorem owe_bar (c : Dev nD) : ∑ d, O₀ d (barCell c) () = 5 := by
  rw [owe_split, Finset.sum_eq_zero fun k _ => Finset.sum_eq_zero fun d _ => if_neg (bar_ne_recv k c d)]
  simp only [bar_eq, Finset.sum_ite_eq, Finset.mem_univ, if_true, Finset.sum_const, Finset.card_univ, Fintype.card_fin]
  rfl
theorem owe_recv (k : Fin 28) (c : Dev nD) : ∑ d, O₀ d (recvCell k c) () = N k := by
  rw [owe_split, Finset.sum_eq_zero (s := (Finset.univ : Finset (Fin 5))) fun j _ => Finset.sum_eq_zero fun d _ => if_neg (bar_ne_recv k d c).symm,
    Finset.sum_eq_single k (fun l _ hl => Finset.sum_eq_zero fun d _ => if_neg fun h => hl (recv_eq.mp h).1.symm) (fun h => absurd (Finset.mem_univ k) h),
    Finset.sum_eq_single c (fun d _ hd => if_neg fun h => hd (recv_eq.mp h).2.symm) (fun h => absurd (Finset.mem_univ c) h), if_pos rfl, Nat.add_zero]

theorem launch_at (g : GSem nD τ sig) (n : ℕ) (h : ∑ d, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

/-- The places of the receive semaphores among all semaphores. -/
def recvEmb : Fin 28 ↪ SemLoc sig := ⟨fun k => osem (.inr k), fun _ _ h => Sum.inr.inj (osem_inj h)⟩

omit [FloatOps F] in
theorem creds (c : Dev nD) : (Pipeline.launchCred O₀ c : sProp 𝕄)
    ⊢ iprop(cred (tallyAt (barCell c) () 5) ∗ bigSep Finset.univ fun k : Fin 28 => cred (tallyAt (recvCell k c) () (N k))) := by
  unfold Pipeline.launchCred
  rw [bigSep_univ_at _ (SemLoc.reg barS), launch_at _ _ (owe_bar c)]
  refine sep_mono_right ?_
  refine BIBase.Entails.trans (BI.bigSep_subset (t := Finset.univ.map recvEmb) fun x hx => ?_) (Entails.of_eq ?_)
  · obtain ⟨k, -, rfl⟩ := Finset.mem_map.mp hx
    exact Finset.mem_erase.mpr ⟨osem_ne_bar (.inr k), Finset.mem_univ _⟩
  · rw [bigSep_map]
    exact bigSep_congr fun k _ => congrArg _ (launch_at _ _ (owe_recv k c))

/-! ## Dealing -/

theorem swap {M : Type} [URA M] {I J : Type} [Fintype I] [Fintype J] (Φ : I → J → sProp M) :
    (bigSep Finset.univ fun i => bigSep Finset.univ fun j => Φ i j) = bigSep Finset.univ fun j => bigSep Finset.univ fun i => Φ i j := by
  rw [← bigSep_univ_prod (fun x : I × J => Φ x.1 x.2), ← bigSep_univ_prod (fun x : J × I => Φ x.2 x.1),
    bigSep_univ_equiv (Equiv.prodComm I J) (fun x : J × I => Φ x.2 x.1)]
  rfl

omit [FloatOps F] in
theorem toks_dealt : bigSep toks (fun x => (dutyTok ER x.1 x.2.1 x.2.2 : sProp 𝕄))
    = bigSep Finset.univ fun c : Dev nD => iprop((bigSep Finset.univ fun j : Fin 5 => dutyTok ER (barCell (nb j c)) 0 j)
      ∗ (bigSep Finset.univ fun k : Fin 28 => dutyTok ER (sendCell k c) 0 0) ∗ (bigSep Finset.univ fun k : Fin 28 => dutyTok ER (recvCell k (tgt k c)) 0 0)) := by
  have hb : (bigSep Finset.univ fun c : Dev nD => bigSep Finset.univ fun j : Fin 5 => (dutyTok ER (barCell c) 0 j : sProp 𝕄))
      = bigSep Finset.univ fun c : Dev nD => bigSep Finset.univ fun j : Fin 5 => dutyTok ER (barCell (nb j c)) 0 j := by
    rw [swap]
    conv_rhs => rw [swap]
    exact bigSep_congr fun j _ => bigSep_univ_equiv (nbE j) (fun c : Dev nD => (dutyTok ER (barCell c) 0 j : sProp 𝕄))
  have hr : (bigSep Finset.univ fun c : Dev nD => bigSep Finset.univ fun k : Fin 28 => (dutyTok ER (recvCell k c) 0 0 : sProp 𝕄))
      = bigSep Finset.univ fun c : Dev nD => bigSep Finset.univ fun k : Fin 28 => dutyTok ER (recvCell k (tgt k c)) 0 0 := by
    rw [swap]
    conv_rhs => rw [swap]
    exact bigSep_congr fun k _ => bigSep_univ_equiv (tgtE k) (fun c : Dev nD => (dutyTok ER (recvCell k c) 0 0 : sProp 𝕄))
  rw [bigSep_sep', bigSep_sep', ← hb, ← hr, ← bigSep_sep', ← bigSep_sep']
  unfold toks
  rw [bigSep_map, bigSep_univ_prod]
  refine bigSep_congr fun c _ => ?_
  rw [BI.bigSep_univ_sum, BI.bigSep_univ_sum]
  rfl

variable (m : (ℓ : Loc nD τ sig) → Buf (Elt F) ℓ) (ρ : Dev nD → PrngReg)

/-- What every device may consult once the launch is over. -/
def records (κ : GSem nD τ sig → ℕ) : sProp 𝕄 :=
  iprop((bigSep (barCells ∪ ownCells) fun g => cellInv ER (arRd (parts m)) (κ g) g) ∗ (bigSep barCells fun g => reached ER g 0) ∗ levAts L lv)
instance records_persistent (κ : GSem nD τ sig → ℕ) : BI.Persistent (records m κ) := by unfold records; infer_instance

theorem records_invs (κ : GSem nD τ sig → ℕ) : records m κ ⊢ invs (parts m) (fun i => κ (gcell i)) := by
  have h1 : iprop((bigSep (barCells ∪ ownCells) fun g => cellInv ER (arRd (parts m)) (κ g) g) ∗ emp)
      ⊢ (bigSep Finset.univ fun i : Dev nD × Ck => cellInv ER (arRd (parts m)) (κ (gcell i)) (gcell i) : sProp 𝕄) := by
    refine (sep_mono_right (Entails.of_eq (BI.bigSep_emp_const (s := (Finset.univ : Finset (Dev nD × Ck)))).symm)).trans ?_
    exact bigSep_with_persistent fun i _ => sep_elim_left.trans (bigSep_elim (gcell_mem i))
  unfold records invs
  iintro ⟨#HI, #HR, #HL⟩
  isplitr
  · iapply h1
    isplitr; · iexact HI
    iempintro
  isplitr
  · iapply (Entails.of_eq (bigSep_map (s := Finset.univ) barEmb (Φ := fun g : GSem nD τ sig => (reached ER g 0 : sProp 𝕄)))) $$ HR
  iexact HL

/-- What of a device's launch holdings is no ghost state. -/
def holdings (c : Dev nD) : sProp 𝕄 :=
  iprop((cred (tallyAt (barCell c) () 5) ∗ bigSep Finset.univ fun k : Fin 28 => cred (tallyAt (recvCell k c) () (N k)))
    ∗ owes (c : Thread nD τ) (O₀ c) ∅ ∗ ∃ r, prngReg c r)
/-- Its ghost state. -/
def linear (c : Dev nD) : sProp 𝕄 :=
  iprop(atPos ER (barCell c) 0 ∅ 0
    ∗ ((bigSep Finset.univ fun k : Fin 28 => openTok ER (sendCell k c)) ∗ (bigSep Finset.univ fun k : Fin 28 => openTok ER (recvCell k c)))
    ∗ ((bigSep Finset.univ fun j : Fin 5 => dutyTok ER (barCell (nb j c)) 0 j)
      ∗ (bigSep Finset.univ fun k : Fin 28 => dutyTok ER (sendCell k c) 0 0)
      ∗ (bigSep Finset.univ fun k : Fin 28 => dutyTok ER (recvCell k (tgt k c)) 0 0)))

theorem deal (κ : GSem nD τ sig → ℕ) (c : Dev nD) : iprop(records m κ ∗ (linear c ∗ holdings c)) ⊢ along m 0 c := by
  unfold along Tk dealt linear holdings
  iintro ⟨#HR, ⟨Ha, Ho, Ht⟩, Hc, HO, Hp⟩
  isplitl [Ha Ho Ht Hc]
  · isplitr
    · iexists (fun i => κ (gcell i))
      iapply (records_invs m κ); iexact HR
    isplitl [Ha]; · iexact Ha
    isplitl [Ho]; · iexact Ho
    isplitl [Ht] <;> iassumption
  isplitl [Hp]; · iexact Hp
  iexists ∅; iexact HO

omit [FloatOps F] in
theorem unscoped_bar (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem init : iprop((bigSep Finset.univ fun c : Dev nD => iprop(unscopedSems0 c ∗ owes (c : Thread nD τ) (O₀ c) ∅ ∗ Pipeline.launchCred O₀ c
      ∗ prngReg c (ρ c) ∗ ghost c)) ∗ levAts L lv)
    ⊢ (|={Set.univ}=> bigSep Finset.univ (along m 0) : sProp 𝕄) := by
  have hcore (c : Dev nD) : iprop(unscopedSems0 c ∗ owes (c : Thread nD τ) (O₀ c) ∅ ∗ Pipeline.launchCred O₀ c ∗ prngReg c (ρ c) ∗ ghost c)
      ⊢ (iprop(holdings c ∗ (semVal (barCell c) 0 ∗ ghost c)) : sProp 𝕄) := by
    rw [unscoped_bar]
    unfold holdings
    iintro ⟨Hus, HO, Hcr, Hp, HG⟩
    ihave Hc := (creds (F := F) c) $$ Hcr
    isplitl [Hc HO Hp]
    · isplitl [Hc]; · iexact Hc
      isplitl [HO]; · iexact HO
      iexists (ρ c); iexact Hp
    isplitl [Hus] <;> iassumption
  have hbar (Φ : GSem nD τ sig → sProp 𝕄) : bigSep barCells Φ = bigSep Finset.univ fun c : Dev nD => Φ (barCell c) := bigSep_map (s := Finset.univ) barEmb
  have hopen : bigSep ownCells (fun g => (openTok ER g : sProp 𝕄))
      = bigSep Finset.univ fun c : Dev nD => iprop((bigSep Finset.univ fun k : Fin 28 => openTok ER (sendCell k c)) ∗ bigSep Finset.univ fun k : Fin 28 => openTok ER (recvCell k c)) := by
    rw [bigSep_map, bigSep_univ_prod]
    exact bigSep_congr fun c _ => by rw [BI.bigSep_univ_sum]; rfl
  iintro ⟨H, #HL⟩
  ihave H' := (show (bigSep Finset.univ fun c : Dev nD => iprop(unscopedSems0 c ∗ owes (c : Thread nD τ) (O₀ c) ∅ ∗ Pipeline.launchCred O₀ c ∗ prngReg c (ρ c) ∗ ghost c))
      ⊢ (bigSep Finset.univ fun c : Dev nD => iprop(holdings c ∗ (semVal (barCell c) 0 ∗ ghost c)) : sProp 𝕄) from bigSep_mono fun c _ => hcore c) $$ H
  ihave H2 := Smoke.bigSep_unpair $$ H'; icases H2 with ⟨HB, H3⟩
  ihave H4 := Smoke.bigSep_unpair $$ H3; icases H4 with ⟨Hv, HG⟩
  ihave Hu := (show bigSep Finset.univ (ghost (F := F)) ⊢ BI.own (ER (launchOf barCells ownCells toks)) from Entails.of_eq (atZero_all (F := F) _)) $$ HG
  imod (Rounds.fund_launch ER (arRd (parts m)) cells_disjoint (fun g _ h => h) toks) $$ [Hv Hu] with ⟨%κ, -, #Hinv, #Hr, Hat, Hopen, Htok⟩
  · isplitl [Hv]
    · iapply (Entails.of_eq (hbar fun g => semVal g 0).symm) $$ Hv
    · iexact Hu
  imodintro
  iapply (bigSep_with_persistent (R := records m κ) (Φ := fun c => iprop(linear c ∗ holdings c)) fun c _ => deal m κ c)
  isplitr
  · unfold records
    isplitr; · iexact Hinv
    isplitr; · iexact Hr
    iexact HL
  iapply Smoke.bigSep_pair
  isplitr [HB]
  · unfold linear
    iapply Smoke.bigSep_pair; isplitl [Hat]; · iapply (Entails.of_eq (hbar fun g => atPos ER g 0 ∅ 0)) $$ Hat
    iapply Smoke.bigSep_pair; isplitl [Hopen]; · iapply (Entails.of_eq hopen) $$ Hopen
    iapply (Entails.of_eq (toks_dealt (F := F))) $$ Htok
  · iexact HB

/-! ## The run -/

theorem unscoped_eq : ∀ sm : SemLoc sig, sm.isScoped .tc = false → sm = .reg barS := by decide

/-- What is in a device's memory at the end: its arguments as launched, its result the kernel's, in its own shape. -/
def Ends (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4))
  ∧ s.mem ((c.tc : Thread nD τ).loc main_v19) = V3 m (outs m) c main_v19

set_option backward.isDefEq.respectTransparency.types false in
theorem run_main : θ_run defs (onTc (τ := τ) (main (F := F))) ⟨m, fun _ => 0, ρ⟩ (fun r => (∀ c, Ends m c r.2) ∧ r.2.sem = fun _ => 0) := by
  refine Pipeline.θ_run_regions_kit_dev_sems (pcfgs (F := F)) adm (dats m) () cellOf_inj EP defs₀ 𝒱₀ L lv m ρ main
    (segs m (outs m) 𝒱₀ L lv (along m) () (dats m) (region m))
    (fun c Q => by
      rewrite [main_chain c, Seg.run_eq_chain,
        show (segs m (outs m) 𝒱₀ L lv (along m) () (dats m) (region m) c).map Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Seg.pipes_host, Seg.pipes_region, Seg.pipes_nil]; decide) O₀ L_of_ne ghost u₀
    (by
      unfold u₀ ghost
      iintro Hu
      ihave H := (ownU_pair _ _) $$ Hu
      icases H with ⟨HP, HX⟩
      imodintro
      isplitl [HP]; · iexact HP
      rw [atZero_all]; iexact HX)
    (T₀ := fun c => iprop(StableHlo.held (c : Thread nD τ) (Pipeline.ucRefs τ sig) (V0 m c) ∗ along m 0 c))
    (Tₙ := fun c => iprop(StableHlo.held (c : Thread nD τ) (Pipeline.ucRefs τ sig) (V3 m (outs m) c) ∗ semVal (barCell c) 0))
    (hch := fun c => ⟨.rfl, region_pre m c, region_post m c, ?_⟩)
    (hinit := ?_) (QY := fun c s => Ends m c s ∧ s.sem (barCell c) = 0) (hfin := fun c s' => ?_)
    (hQ := fun s h hs => ⟨fun c => (h c).1, sem_eq_zero hs fun c sm hsm => by
      obtain rfl := unscoped_eq sm hsm
      exact (h c).2⟩)
  · show iprop(StableHlo.held (c : Thread nD τ) (Pipeline.ucRefs τ sig) (V3 m (outs m) c) ∗ along m 1 c) ⊢ _
    unfold along
    iintro ⟨Hh, Hb, HO⟩
    isplitr [HO]
    · isplitl [Hh] <;> iassumption
    · iexact HO
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ ghost c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ ghost c))
            : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    icases hsplit $$ H with ⟨Hh, Hr⟩
    imod (init m ρ) $$ [Hr Hla] with HE
    · isplitl [Hr] <;> iassumption
    imodintro
    rw [bigSep_sep']
    isplitl [Hh] <;> iassumption
  · unfold StableHlo.held
    iintro ⟨⟨Hh, Hb⟩, HSI⟩
    icombine HSI Hb gives %hb
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    have at_end (r : Ref sig .tc) (hr : ¬ (Proc.devRef (τ := τ) .tc r).isScoped = true) :=
      h (Proc.devRef .tc r) (Finset.mem_filter.mpr ⟨StableHlo.devRef_mem_tcRefs r, hr⟩)
    imodintro
    isplitr
    · ipureintro
      exact ⟨⟨⟨(at_end main_arg0 (by decide)).trans (V3_main_arg0 m (outs m) c), (at_end main_arg1 (by decide)).trans (V3_main_arg1 m (outs m) c),
        (at_end main_arg2 (by decide)).trans (V3_main_arg2 m (outs m) c), (at_end main_arg3 (by decide)).trans (V3_main_arg3 m (outs m) c),
        (at_end main_arg4 (by decide)).trans (V3_main_arg4 m (outs m) c)⟩, at_end main_v19 (by decide)⟩, by simpa using hb⟩
    · iexact HSI

end Cert.KernelIdeal.AR

end
-- ==== Proof.Same.lean ====
/-
  The two programs have the same text: their tables of bodies are equal, so a run of one is a run of the other.
-/
module

public import proofs.«01_k».proof.Defs
public import proofs.«01_k».proof.Proof.Gen.Kernel
public import proofs.«01_k».proof.Proof.Launch

@[expose] public section

noncomputable section

namespace Cert

open Idealize.ShloMosaic Idealize.ShloMosaic.TcCoe Idealize.SL.Sem

theorem body_same : Kernel.cc0__body (F := Bits) = KernelIdeal.cc0__body (F := Bits) := rfl

attribute [local irreducible] Kernel.cc0__body KernelIdeal.cc0__body in
theorem table_same (h : Kernel.cc0__body (F := Bits) = KernelIdeal.cc0__body (F := Bits)) :
    Kernel.defs₀ (F := Bits) = KernelIdeal.defs₀ (F := Bits) := by
  unfold Kernel.defs₀ KernelIdeal.defs₀
  congr 1
  funext l x
  match l, x with
  | 0, (t, s) =>
    show Kernel.cc0__body (F := Bits) _ _ _ _ _ _ _ _ _ _ _ _ _ _ _ _ _ _ _ _ _ _ _ _ _ _ _ _
      = KernelIdeal.cc0__body (F := Bits) _ _ _ _ _ _ _ _ _ _ _ _ _ _ _ _ _ _ _ _ _ _ _ _ _ _ _ _
    rw [h]

theorem defs_same : Kernel.defs (F := Bits) = KernelIdeal.defs (F := Bits) := by
  show Pipeline.defs (Kernel.pcfgs (F := Bits)) Kernel.defs₀ = Pipeline.defs (KernelIdeal.pcfgs (F := Bits)) KernelIdeal.defs₀
  rw [table_same body_same]; rfl

theorem main_same : Kernel.main (F := Bits) = KernelIdeal.main (F := Bits) := rfl

theorem frame_kernel : quiescent_Kernel := by
  intro m ρ _
  rw [defs_same, main_same]
  exact (θ_run (KernelIdeal.defs (F := Bits)) _ _).mono (fun _ h => ⟨fun c => (h.1 c).1, h.2⟩) (KernelIdeal.AR.run_main (F := Bits) m ρ)

theorem frame_ideal : quiescent_KernelIdeal := fun m ρ _ =>
  (θ_run KernelIdeal.defs _ _).mono (fun _ h => ⟨fun c => (h.1 c).1, h.2⟩) (KernelIdeal.AR.run_main (F := Ideal) m ρ)

end Cert

end
-- ==== Proof.Head.lean ====
/-
  One head of attention at the extended reals, as a plain formula, and the kernel's head as that formula.
-/
module

public import proofs.«01_k».proof.Proof.Compute
public import Idealize.ShloMosaic.Lib.ValueIdx
public import Idealize.ShloMosaic.Lib.Pipeline.Value
public import Idealize.ShloMosaic.PureOps.Ideal.Laws

@[expose] public section

noncomputable section

namespace Cert.Plain

open Idealize.ShloMosaic

variable (q k v : Fin 256 → Fin 128 → EReal)

/-- The scaled product of query row i and key row j. -/
def score (i j : Fin 256) : EReal := (∑ e, q i e * k j e) * Ideal.ofBits .f32 0x3DB504F3#32
/-- The largest of a query row's scores. -/
def top (i : Fin 256) : EReal := Finset.univ.fold max (Ideal.ofBits .f32 0xFF800000#32) (score q k i)
/-- A key row's weight. -/
def wt (i j : Fin 256) : EReal := Ideal.exp (score q k i j - top q k i)
/-- The head's output. -/
def head (i : Fin 256) (e : Fin 128) : EReal := Ideal.div (∑ j, wt q k i j * v j e) (∑ j, wt q k i j)

/-- A batch's rows times 128 columns of a weight. -/
def proj (x : Fin 256 → Fin 1024 → EReal) (w : Fin 1024 → Fin 128 → EReal) (i : Fin 256) (e : Fin 128) : EReal := ∑ k, x i k * w k e
/-- One head from the batch's rows and its columns of the three weights. -/
def attend (x : Fin 256 → Fin 1024 → EReal) (wq wk wv : Fin 1024 → Fin 128 → EReal) : Fin 256 → Fin 128 → EReal :=
  head (proj x wq) (proj x wk) (proj x wv)
/-- The g-th 128 columns of a weight. -/
def cols {n : ℕ} (w : FVec Ideal ⟨2, ![1024, n]⟩ .f32) (g : ℕ) (hg : 128 * (g + 1) ≤ n) (k : Fin 1024) (e : Fin 128) : EReal :=
  w (ValueIdx.ix2 k ⟨128 * g + e.val, by have := e.isLt; omega⟩)
theorem cols_congr {n : ℕ} (w : FVec Ideal ⟨2, ![1024, n]⟩ .f32) {g g' : ℕ} (e : g = g') {hg : 128 * (g + 1) ≤ n} {hg' : 128 * (g' + 1) ≤ n} :
    cols w g hg = cols w g' hg' := by subst e; rfl

end Cert.Plain

namespace Cert.KernelIdeal.AR

open Idealize.ShloMosaic Idealize.ShloMosaic.TcCoe Idealize.ShloMosaic.ValueIdx
open Gen Cert.Plain

/-- A block's element by its coordinates. -/
abbrev rc {a b : ℕ} (x : FVec Ideal ⟨2, ![a, b]⟩ .f32) : Fin a → Fin b → EReal := fun i j => x (ix2 i j)

theorem product (q : FVec Ideal S256x128 .f32) (k : FVec Ideal S256x128 .f32) (i j : Fin 256) :
    (matmul dot_S256x128_S256x128_S256x256_1_1_0_0_n_n none q k (constant S256x256 .f32 0x00000000#32) (ix2 i j) : EReal)
      = ∑ e : Fin 128, rc q i e * rc k j e := by
  refine (Ideal.matmul_constant_zero_apply dot_S256x128_S256x128_S256x256_1_1_0_0_n_n none q k (ix2 i j)).trans ?_
  refine (Equiv.sum_comp (contrEquiv1 dot_S256x128_S256x128_S256x256_1_1_0_0_n_n 128 rfl rfl).symm _).symm.trans ?_
  refine Finset.sum_congr rfl fun e _ => ?_
  congr 1
  · congr 1; funext a; fin_cases a <;> rfl
  · congr 1; funext a; fin_cases a <;> rfl

theorem weighted (p : FVec Ideal S256x256 .f32) (v : FVec Ideal S256x128 .f32) (i : Fin 256) (e : Fin 128) :
    (matmul dot_S256x256_S256x128_S256x128_1_0_0_1_n_n none p v (constant S256x128 .f32 0x00000000#32) (ix2 i e) : EReal)
      = ∑ j : Fin 256, rc p i j * rc v j e := by
  refine (Ideal.matmul_constant_zero_apply dot_S256x256_S256x128_S256x128_1_0_0_1_n_n none p v (ix2 i e)).trans ?_
  refine (Equiv.sum_comp (contrEquiv1 dot_S256x256_S256x128_S256x128_1_0_0_1_n_n 256 rfl rfl).symm _).symm.trans ?_
  refine Finset.sum_congr rfl fun e _ => ?_
  congr 1
  · congr 1; funext a; fin_cases a <;> rfl
  · congr 1; funext a; fin_cases a <;> rfl

/-- A row's value, spread along the row. -/
theorem spread {n : ℕ} (x : FVec Ideal S256 .f32) (h : S256x1.Broadcasts ⟨2, ![256, n]⟩) (i : Fin 256) (j : Fin n) :
    broadcastTo ⟨2, ![256, n]⟩ (shapeCast S256x1 x shapeCasts_S256_S256x1) h (ix2 i j) = x (ix1 i) := by
  refine (broadcastTo_apply _ h (ix2 i j) (ix2 i 0) ?_).trans (shapeCast_apply x _ (ix2 i 0) (ix1 i) ?_)
  · intro a; fin_cases a <;> rfl
  · rfl

/-- The kernel's scores, their largest along a row, the weights, and their sums along a row. -/
def sK (q k : FVec Ideal S256x128 .f32) : FVec Ideal S256x256 .f32 :=
  mulf (matmul dot_S256x128_S256x128_S256x256_1_1_0_0_n_n none q k (constant S256x256 .f32 0x00000000#32))
    (broadcast S256x256 (Scalar.ofBits .f32 0x3DB504F3#32 : Ideal .f32))
def mK (s : FVec Ideal S256x256 .f32) : FVec Ideal S256 .f32 :=
  multiReduction .maximumf [1] S256 s 0xFF800000#32 reduces_S256x256_S256 (.inl rfl) rfl
def pK (s : FVec Ideal S256x256 .f32) : FVec Ideal S256x256 .f32 :=
  exp (subf s (broadcastTo S256x256 (shapeCast S256x1 (mK s) shapeCasts_S256_S256x1) broadcasts_S256x1_S256x256))
def lK (p : FVec Ideal S256x256 .f32) : FVec Ideal S256 .f32 :=
  multiReduction .add [1] S256 p 0x00000000#32 reduces_S256x256_S256 (.inl rfl) rfl
theorem headOut_eq (q k v : FVec Ideal S256x128 .f32) : headOut q k v =
    divf (matmul dot_S256x256_S256x128_S256x128_1_0_0_1_n_n none (pK (sK q k)) v (constant S256x128 .f32 0x00000000#32))
      (broadcastTo S256x128 (shapeCast S256x1 (lK (pK (sK q k))) shapeCasts_S256_S256x1) broadcasts_S256x1_S256x128) := rfl

/-- The kernel's head is the plain one. -/
theorem head_at (q k v : FVec Ideal S256x128 .f32) (i : Fin 256) (e : Fin 128) :
    (headOut q k v (ix2 i e) : EReal) = head (rc q) (rc k) (rc v) i e := by
  rw [headOut_eq]
  have hs : ∀ i j : Fin 256, (sK q k (ix2 i j) : EReal) = score (rc q) (rc k) i j := fun i j => by
    refine (mulf_apply _ _ (ix2 i j)).trans ?_
    rw [product]; rfl
  have hm : ∀ i : Fin 256, (mK (sK q k) (ix1 i) : EReal) = top (rc q) (rc k) i := fun i => by
    refine (Ideal.multiReduction_maximumf_single (sK q k) _ reduces_S256x256_S256 (.inl rfl) rfl (ix1 i)).trans ?_
    unfold top
    congr 1
    funext j
    refine Eq.trans (congrArg (sK q k) ?_) (hs i j)
    funext a; fin_cases a <;> rfl
  have hp : ∀ i j : Fin 256, (pK (sK q k) (ix2 i j) : EReal) = wt (rc q) (rc k) i j := fun i j => by
    show Ideal.exp ((sK q k (ix2 i j) : EReal) - _) = _
    rw [hs, spread, hm]; rfl
  have hl : ∀ i : Fin 256, (lK (pK (sK q k)) (ix1 i) : EReal) = ∑ j, wt (rc q) (rc k) i j := fun i => by
    refine (Ideal.multiReduction_add_single (pK (sK q k)) _ reduces_S256x256_S256 (.inl rfl) rfl (ix1 i)).trans ?_
    refine Finset.sum_congr rfl fun j _ => ?_
    refine Eq.trans (congrArg (pK (sK q k)) ?_) (hp i j)
    funext a; fin_cases a <;> rfl
  refine (divf_apply _ _ (ix2 i e)).trans ?_
  rw [weighted, spread, hl]
  unfold head
  congr 1
  exact Finset.sum_congr rfl fun j _ => congrArg (· * rc v j e) (hp i j)

end Cert.KernelIdeal.AR

end
-- ==== Proof.KernelValue.lean ====
/-
  A device's partial product at the extended reals, element by element, as a plain formula of its own blocks.
-/
module

public import proofs.«01_k».proof.Proof.Head
public import proofs.«01_k».proof.Proof.Run
public import Idealize.ShloMosaic.Lib.DynamicIndex

@[expose] public section

noncomputable section

namespace Cert.KernelIdeal.AR

open Idealize.ShloMosaic Idealize.ShloMosaic.TcCoe Idealize.ShloMosaic.ValueIdx
open Gen Cert.Plain

theorem cast_self {s : Shape} {α : Type} (x : s.Idx → α) (h : s.ShapeCasts s) : shapeCast s x h = x :=
  funext fun j => shapeCast_apply x h j j rfl

theorem wide (x : FVec Ideal S256x1024 .f32) (w : FVec Ideal S1024x1024 .f32) (i : Fin 256) (n : Fin 1024) :
    (matmul dot_S256x1024_S1024x1024_S256x1024_1_0_0_1_n_n none x w (constant S256x1024 .f32 0x00000000#32) (ix2 i n) : EReal)
      = ∑ k : Fin 1024, rc x i k * rc w k n := by
  refine (Ideal.matmul_constant_zero_apply dot_S256x1024_S1024x1024_S256x1024_1_0_0_1_n_n none x w (ix2 i n)).trans ?_
  refine (Equiv.sum_comp (contrEquiv1 dot_S256x1024_S1024x1024_S256x1024_1_0_0_1_n_n 1024 rfl rfl).symm _).symm.trans ?_
  refine Finset.sum_congr rfl fun e _ => ?_
  congr 1
  · congr 1; funext a; fin_cases a <;> rfl
  · congr 1; funext a; fin_cases a <;> rfl

theorem narrow (x : FVec Ideal S256x1024 .f32) (w : FVec Ideal S1024x256 .f32) (i : Fin 256) (n : Fin 256) :
    (matmul dot_S256x1024_S1024x256_S256x256_1_0_0_1_n_n none x w (constant S256x256 .f32 0x00000000#32) (ix2 i n) : EReal)
      = ∑ k : Fin 1024, rc x i k * rc w k n := by
  refine (Ideal.matmul_constant_zero_apply dot_S256x1024_S1024x256_S256x256_1_0_0_1_n_n none x w (ix2 i n)).trans ?_
  refine (Equiv.sum_comp (contrEquiv1 dot_S256x1024_S1024x256_S256x256_1_0_0_1_n_n 1024 rfl rfl).symm _).symm.trans ?_
  refine Finset.sum_congr rfl fun e _ => ?_
  congr 1
  · congr 1; funext a; fin_cases a <;> rfl
  · congr 1; funext a; fin_cases a <;> rfl

variable (D : Blk Ideal)

theorem q_at (b : ℕ) (i : Fin 256) (n : Fin 1024) : (Qb D b (ix2 i n) : EReal) = ∑ k : Fin 1024, rc (xr D b) i k * rc (a := 1024) (b := 1024) D.wq k n := by
  unfold Qb k0_pay2 k0_pay1
  simp only [cast_self]
  exact wide _ _ i n
theorem k_at (b : ℕ) (i : Fin 256) (n : Fin 256) : (Kb D b (ix2 i n) : EReal) = ∑ k : Fin 1024, rc (xr D b) i k * rc (a := 1024) (b := 256) D.wk k n := by
  unfold Kb k0_pay3 k0_pay1
  simp only [cast_self]
  exact narrow _ _ i n
theorem v_at (b : ℕ) (i : Fin 256) (n : Fin 256) : (Vb D b (ix2 i n) : EReal) = ∑ k : Fin 1024, rc (xr D b) i k * rc (a := 1024) (b := 256) D.wv k n := by
  unfold Vb k0_pay4 k0_pay1
  simp only [cast_self]
  exact narrow _ _ i n

/-- 128 columns of a batch's projection. -/
theorem slice_at {n : ℕ} (y : FVec Ideal ⟨2, ![256, n]⟩ .f32) (o : ℕ) (h : Shape.Slices ⟨2, ![256, n]⟩ ![0, o] S256x128) (i : Fin 256) (e : Fin 128) (t : Fin n)
    (ht : t.val = o + e.val) : extractStridedSlice S256x128 ![0, o] y h (ix2 i e) = y (ix2 i t) :=
  extractStridedSlice_apply _ y h (ix2 i e) (ix2 i t) fun a => by
    fin_cases a
    · exact (Nat.zero_add _).symm
    · exact ht

/-- 128 columns of a batch's projection are its projection by those columns of the weight. -/
theorem slice_proj {n : ℕ} (x : Fin 256 → Fin 1024 → EReal) (w : FVec Ideal ⟨2, ![1024, n]⟩ .f32) (y : FVec Ideal ⟨2, ![256, n]⟩ .f32)
    (hy : ∀ i t, (y (ix2 i t) : EReal) = ∑ k : Fin 1024, x i k * rc w k t) (o g : ℕ) (ho : o = 128 * g) (hg : 128 * (g + 1) ≤ n)
    (h : Shape.Slices ⟨2, ![256, n]⟩ ![0, o] S256x128) : rc (extractStridedSlice S256x128 ![0, o] y h) = proj x (cols w g hg) := by
  subst ho
  funext i e
  exact (slice_at y _ h i e ⟨128 * g + e.val, by have := e.isLt; omega⟩ rfl).trans (hy i _)

/-- A head is its columns of the queries with its group's columns of the keys and of the values. -/
theorem heads_eq (Q : FVec Ideal S256x1024 .f32) (K V : FVec Ideal S256x256 .f32) : ∀ (h : Fin 8) (hq : S256x1024.Slices ![0, 128 * h.val] S256x128)
    (hk : S256x256.Slices ![0, 128 * (h.val / 4)] S256x128),
    heads Q K V h = headOut (extractStridedSlice S256x128 ![0, 128 * h.val] Q hq) (extractStridedSlice S256x128 ![0, 128 * (h.val / 4)] K hk)
      (extractStridedSlice S256x128 ![0, 128 * (h.val / 4)] V hk)
  | 0, _, _ | 1, _, _ | 2, _, _ | 3, _, _ | 4, _, _ | 5, _, _ | 6, _, _ | 7, _, _ => cast_self _ _

theorem q_fits : ∀ h : Fin 8, S256x1024.Slices ![0, 128 * h.val] S256x128 := by decide
theorem k_fits : ∀ h : Fin 8, S256x256.Slices ![0, 128 * (h.val / 4)] S256x128 := by decide

theorem heads_at (b : ℕ) (h : Fin 8) (i : Fin 256) (e : Fin 128) :
    (heads (Qb D b) (Kb D b) (Vb D b) h (ix2 i e) : EReal)
      = attend (rc (xr D b)) (cols (n := 1024) D.wq h.val (by have := h.isLt; omega)) (cols (n := 256) D.wk (h.val / 4) (by have := h.isLt; omega))
          (cols (n := 256) D.wv (h.val / 4) (by have := h.isLt; omega)) i e := by
  have hq := q_at D b; have hk := k_at D b; have hv := v_at D b
  rw [heads_eq _ _ _ h (q_fits h) (k_fits h)]
  refine (head_at _ _ _ i e).trans ?_
  unfold attend
  rw [slice_proj _ _ _ hq _ _ rfl, slice_proj _ _ _ hk _ _ rfl, slice_proj _ _ _ hv _ _ rfl]

/-- A row of a device's heads' outputs, from its blocks. -/
def rowK (b : ℕ) (i : Fin 256) (k : Fin 1024) : EReal :=
  attend (rc (xr D b)) (cols (n := 1024) D.wq (k.val / 128) (by have := k.isLt; omega)) (cols (n := 256) D.wk (k.val / 512) (by have := k.isLt; omega))
    (cols (n := 256) D.wv (k.val / 512) (by have := k.isLt; omega)) i ⟨k.val % 128, Nat.mod_lt _ (by decide)⟩

theorem attn_row (b : ℕ) (i : Fin 256) (k : Fin 1024) : (attn (Qb D b) (Kb D b) (Vb D b) (ix2 i k) : EReal) = rowK D b i k := by
  have hk := k.isLt; have hi := i.isLt
  have e : (ix2 i k : S256x1024.Idx) = cx (k.val / 128) (ix2 i ⟨k.val % 128, Nat.mod_lt _ (by decide)⟩) := by
    funext a; apply Fin.ext; fin_cases a
    · show i.val = i.val % 256; omega
    · show k.val = (128 * (k.val / 128) + k.val % 128) % 1024; omega
  rw [e]
  refine (attn_at _ _ _ ⟨k.val / 128, by omega⟩ _).trans ((heads_at D b _ i _).trans ?_)
  unfold rowK
  rw [cols_congr (n := 256) D.wk (show k.val / 128 / 4 = k.val / 512 by omega), cols_congr (n := 256) D.wv (show k.val / 128 / 4 = k.val / 512 by omega)]

/-- A device's partial product. -/
theorem partial_value (b : Fin 4) (i : Fin 256) (n r : Fin 1024) (hr : r.val = 256 * b.val + i.val) :
    (partialOut D (ix2 r n) : EReal) = ∑ k : Fin 1024, rowK D b i k * rc (a := 1024) (b := 1024) D.wo k n := by
  have hb := b.isLt; have hi := i.isLt; have hn := n.isLt
  have e : (ix2 r n : S1024x1024.Idx) = ix (16 * b.val) (ix2 i n) := by
    funext a; apply Fin.ext; fin_cases a
    · show r.val = (16 * (16 * b.val) + i.val) % 1024; omega
    · show n.val = n.val % 1024; omega
  rw [e]
  refine (partial_at D b.val hb (ix2 i n)).trans ?_
  unfold outB k0_pay20
  simp only [cast_self]
  refine (wide _ _ i n).trans ?_
  exact Finset.sum_congr rfl fun k _ => congrArg (· * _) (attn_row D b i k)

/-! ## The blocks -/

variable (m : (ℓ : Loc nD τ sig) → Buf (Elt Ideal) ℓ)

/-- Where a device's columns of the keys' and values' weights start. -/
def colAt (d : Dev nD) : IVec S_ 32 := muli (muli (Host.remui (Host.divui (constantI S_ 32 (Dev.word d)) (constantI S_ 32 1#32)) (constantI S_ 32 32#32)) (constantI S_ 32 2#32)) (constantI S_ 32 128#32)
theorem start_word : ∀ d : Dev nD, (select (cmpi .slt (colAt d) (constantI S_ 32 0#32)) (addi (colAt d) (constantI S_ 32 8192#32)) (colAt d) (Shape.Idx.first h_S_)).toInt = ((256 * d.val : ℕ) : ℤ) := by
  decide +kernel
theorem start_fits : ∀ d : Dev nD, S1024x8192.Slices ![0, 256 * d.val] S1024x256 := by decide +kernel

/-- A device's columns. -/
theorem cut_eq (w : FVec Ideal S1024x8192 .f32) (c : Dev nD) (st : Fin 2 → IVec S_ 32) (h0 : st 0 = constantI S_ 32 0#32)
    (h1 : st 1 = select (cmpi .slt (colAt c) (constantI S_ 32 0#32)) (addi (colAt c) (constantI S_ 32 8192#32)) (colAt c)) :
    Host.dynamicSlice S1024x256 w (fun k => (st k (Shape.Idx.first h_S_)).toInt) sliceFits_S1024x8192_S1024x256
      = extractStridedSlice S1024x256 ![0, 256 * c.val] w (start_fits c) := by
  refine Host.dynamicSlice_eq_extractStridedSlice _ _ _ _ _ (start_fits c) fun a => ?_
  fin_cases a
  · show (st 0 _).toInt = _
    rw [h0]; rfl
  · show (st 1 _).toInt = _
    rw [h1]; exact start_word c

/-! What the kernel is called with, from the arguments. -/

theorem blk_wk (c : Dev nD) : (blk m c).wk = extractStridedSlice S1024x256 ![0, 256 * c.val] (m ((c.tc : Thread nD τ).loc main_arg2)) (start_fits c) := by
  show V1 m c main_v11 = _
  refine Eq.trans ?_ (cut_eq _ c ![constantI S_ 32 0#32, select (cmpi .slt (colAt c) (constantI S_ 32 0#32)) (addi (colAt c) (constantI S_ 32 8192#32)) (colAt c)] rfl rfl)
  after_results_simp
  refine congrArg (fun f => Host.dynamicSlice S1024x256 (m ((c.tc : Thread nD τ).loc main_arg2)) f sliceFits_S1024x8192_S1024x256) (funext fun k => ?_)
  match k with
  | 0 => rfl
  | 1 =>
    simp only [Matrix.cons_val_one, Matrix.cons_val_zero, cast_eq]
    after_results_simp
    rfl

theorem blk_wv (c : Dev nD) : (blk m c).wv = extractStridedSlice S1024x256 ![0, 256 * c.val] (m ((c.tc : Thread nD τ).loc main_arg3)) (start_fits c) := by
  show V1 m c main_v17 = _
  refine Eq.trans ?_ (cut_eq _ c ![constantI S_ 32 0#32, select (cmpi .slt (colAt c) (constantI S_ 32 0#32)) (addi (colAt c) (constantI S_ 32 8192#32)) (colAt c)] rfl rfl)
  after_results_simp
  refine congrArg (fun f => Host.dynamicSlice S1024x256 (m ((c.tc : Thread nD τ).loc main_arg3)) f sliceFits_S1024x8192_S1024x256) (funext fun k => ?_)
  match k with
  | 0 => rfl
  | 1 =>
    simp only [Matrix.cons_val_one, Matrix.cons_val_zero, cast_eq]
    after_results_simp
    rfl

theorem blk_x (c : Dev nD) : (blk m c).x = shapeCast S1024x1024 (m ((c.tc : Thread nD τ).loc main_arg0)) shapeCasts_S4x256x1024_S1024x1024 := by
  show V1 m c main_v5 = _
  after_results_simp
  rfl
theorem blk_wq (c : Dev nD) : (blk m c).wq = m ((c.tc : Thread nD τ).loc main_arg1) := V1_of m c main_arg1 (by decide)
theorem blk_wo (c : Dev nD) : (blk m c).wo = m ((c.tc : Thread nD τ).loc main_arg4) := V1_of m c main_arg4 (by decide)

end Cert.KernelIdeal.AR

end
-- ==== Proof.RefValue.lean ====
/-
  The reference's result at the extended reals, element by element, as a plain formula.
-/
module

public import proofs.«01_k».proof.Proof.Gen.ReferenceIdeal.Run
public import proofs.«01_k».proof.Proof.Head
public import Idealize.ShloMosaic.Lib.IdealHost

@[expose] public section

noncomputable section

namespace Cert.ReferenceIdeal.AR

open Idealize.ShloMosaic Idealize.ShloMosaic.TcCoe Idealize.ShloMosaic.ValueIdx
open Cert.ReferenceIdeal Cert.ReferenceIdeal.Gen Cert.Plain

variable (x : FVec Ideal S4x256x1024 .f32) (wq : FVec Ideal S1024x32768 .f32) (wk wv : FVec Ideal S1024x8192 .f32) (wo : FVec Ideal S32768x1024 .f32)

/-! ## The stages -/

def flat : FVec Ideal S1024x1024 .f32 := shapeCast _ x shapeCasts_S4x256x1024_S1024x1024
/-- The queries. -/
def qs : FVec Ideal S4x256x256x128 .f32 :=
  shapeCast _ (Host.dotGeneral dot_S1024x1024_S1024x32768_S1024x32768_1_0_0_1_n_n none (flat x) wq) shapeCasts_S1024x32768_S4x256x256x128
/-- The keys, or the values, each repeated for its four heads. -/
def ks : FVec Ideal S4x256x256x128 .f32 :=
  shapeCast _ (broadcastInDim S4x256x64x4x128 ![0, 1, 2, 4] bcast_S4x256x64x128_S4x256x64x4x128_0_1_2_4
    (shapeCast S4x256x64x128 (Host.dotGeneral dot_S1024x1024_S1024x8192_S1024x8192_1_0_0_1_n_n none (flat x) wk) shapeCasts_S1024x8192_S4x256x64x128))
    shapeCasts_S4x256x64x4x128_S4x256x256x128
/-- The scores. -/
def scores (q k : FVec Ideal S4x256x256x128 .f32) : FVec Ideal S4x256x256x256 .f32 :=
  mulf (Host.dotGeneral dot_S4x256x256x128_S4x256x256x128_S4x256x256x256_3_3_1_1_02_02 none q k)
    (broadcastInDim S4x256x256x256 ![] bcast_S_S4x256x256x256 (constant S_ .f32 0x3DB504F3#32))
/-- The rows' largest scores. -/
def tops (s : FVec Ideal S4x256x256x256 .f32) : FVec Ideal S4x256x256 .f32 :=
  Host.reduce FloatOps.maximumf s (constant S_ .f32 0xFF800000#32) reducesTo_S4x256x256x256_S4x256x256_d3 h_S_
/-- The weights. -/
def wts (s : FVec Ideal S4x256x256x256 .f32) : FVec Ideal S4x256x256x256 .f32 :=
  Host.exp (subf s (broadcastInDim S4x256x256x256 ![0, 1, 2, 3] bcast_S4x256x256x1_S4x256x256x256_0_1_2_3
    (broadcastInDim S4x256x256x1 ![0, 1, 2] bcast_S4x256x256_S4x256x256x1_0_1_2 (tops s))))
/-- Their sums along the rows. -/
def tot (p : FVec Ideal S4x256x256x256 .f32) : FVec Ideal S4x256x256 .f32 :=
  Host.reduceAdd p (constant S_ .f32 0x00000000#32) reducesTo_S4x256x256x256_S4x256x256_d3 h_S_
/-- The heads' outputs. -/
def outs (p : FVec Ideal S4x256x256x256 .f32) (v : FVec Ideal S4x256x256x128 .f32) : FVec Ideal S4x256x256x128 .f32 :=
  Host.divf (transpose S4x256x256x128 [0, 3, 1, 2] (Host.dotGeneral dot_S4x256x256x128_S4x256x256x256_S4x256x128x256_1_3_3_2_02_01 none v p) transposes_S4x256x128x256_S4x256x256x128_0_3_1_2)
    (broadcastInDim S4x256x256x128 ![0, 1, 2, 3] bcast_S4x256x256x1_S4x256x256x128_0_1_2_3
      (transpose S4x256x256x1 [0, 2, 1, 3] (broadcastInDim S4x256x256x1 ![0, 1, 2] bcast_S4x256x256_S4x256x256x1_0_1_2 (tot p)) transposes_S4x256x256x1_S4x256x256x1_0_2_1_3))
def result : FVec Ideal S4x256x1024 .f32 :=
  shapeCast S4x256x1024 (Host.dotGeneral dot_S1024x32768_S32768x1024_S1024x1024_1_0_0_1_n_n none
    (shapeCast S1024x32768 (outs (wts (scores (qs x wq) (ks x wk))) (ks x wv)) shapeCasts_S4x256x256x128_S1024x32768) wo) shapeCasts_S1024x1024_S4x256x1024

theorem result_eq (m : (ℓ : Loc nD τ sig) → Buf (Elt Ideal) ℓ) (c : Dev nD) :
    Value.res_out0 m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

/-! ## Each at an index -/

/-- One head's rows. -/
abbrev hd (t : FVec Ideal S4x256x256x128 .f32) (b : Fin 4) (h : Fin 256) : Fin 256 → Fin 128 → EReal := fun i e => t (ix4 b i h e)

theorem scores_at (q k : FVec Ideal S4x256x256x128 .f32) (b : Fin 4) (h i j : Fin 256) :
    (scores q k (ix4 b h i j) : EReal) = score (hd q b h) (hd k b h) i j := by
  refine (mulf_apply _ _ (ix4 b h i j)).trans ?_
  refine congrArg₂ (· * ·) ?_ rfl
  refine (Ideal.dotGeneral_apply dot_S4x256x256x128_S4x256x256x128_S4x256x256x256_3_3_1_1_02_02 none _ q k (ix4 b h i j)).trans ?_
  refine (Equiv.sum_comp (contrEquiv1 dot_S4x256x256x128_S4x256x256x128_S4x256x256x256_3_3_1_1_02_02 128 rfl rfl).symm _).symm.trans ?_
  refine Finset.sum_congr rfl fun e _ => ?_
  congr 1
  · congr 1; funext a; fin_cases a <;> rfl
  · congr 1; funext a; fin_cases a <;> rfl

theorem reduces3 : Shape.Reduces S4x256x256x256 [3] S4x256x256 := by decide

theorem tops_at (s : FVec Ideal S4x256x256x256 .f32) (b : Fin 4) (h i : Fin 256) :
    (tops s (ix3 b h i) : EReal) = Finset.univ.fold max (Ideal.ofBits .f32 0xFF800000#32) fun j : Fin 256 => (s (ix4 b h i j) : EReal) := by
  refine (Host.reduce_eq_fold_single (FloatOps.maximumf (F := Ideal) (φ := .f32)) s (constant S_ .f32 0xFF800000#32) reducesTo_S4x256x256x256_S4x256x256_d3 reduces3 h_S_ (ix3 b h i)).trans ?_
  refine congrArg (Finset.univ.fold _ _) (funext fun j => congrArg s ?_)
  funext a; fin_cases a <;> rfl

/-- A row's value, spread along the row. -/
theorem spread {n : ℕ} (t : FVec Ideal S4x256x256x1 .f32) (hb : S4x256x256x1.BroadcastsInDim ⟨4, ![4, 256, 256, n]⟩ ![0, 1, 2, 3]) (b : Fin 4) (h i : Fin 256) (j : Fin n) :
    broadcastInDim ⟨4, ![4, 256, 256, n]⟩ ![0, 1, 2, 3] hb t (ix4 b h i j) = t (ix4 b h i 0) :=
  broadcastInDim_apply _ hb t (ix4 b h i j) (ix4 b h i 0) fun a => by fin_cases a <;> rfl

theorem column (t : FVec Ideal S4x256x256 .f32) (b : Fin 4) (h i : Fin 256) (z : Fin 1) :
    broadcastInDim S4x256x256x1 ![0, 1, 2] bcast_S4x256x256_S4x256x256x1_0_1_2 t (ix4 b h i z) = t (ix3 b h i) :=
  broadcastInDim_apply _ _ t (ix4 b h i z) (ix3 b h i) fun a => by fin_cases a <;> rfl

theorem wts_at (q k : FVec Ideal S4x256x256x128 .f32) (b : Fin 4) (h i j : Fin 256) :
    (wts (scores q k) (ix4 b h i j) : EReal) = wt (hd q b h) (hd k b h) i j := by
  show Ideal.exp ((scores q k (ix4 b h i j) : EReal) - _) = _
  rw [spread, column, scores_at, tops_at]
  unfold wt top
  simp only [scores_at]

theorem tot_at (p : FVec Ideal S4x256x256x256 .f32) (b : Fin 4) (h i : Fin 256) :
    (tot p (ix3 b h i) : EReal) = ∑ j : Fin 256, (p (ix4 b h i j) : EReal) := by
  refine (Ideal.hostReduceAdd_single reducesTo_S4x256x256x256_S4x256x256_d3 reduces3 p _ (ix3 b h i)).trans ?_
  refine Eq.trans (congrArg (· + _) (Ideal.ofBits_zero_f32)) ((zero_add _).trans ?_)
  refine Finset.sum_congr rfl fun j _ => congrArg p ?_
  funext a; fin_cases a <;> rfl

theorem outs_at (q k v : FVec Ideal S4x256x256x128 .f32) (b : Fin 4) (h i : Fin 256) (e : Fin 128) :
    (outs (wts (scores q k)) v (ix4 b i h e) : EReal) = head (hd q b h) (hd k b h) (hd v b h) i e := by
  refine (hostDivf_apply _ _ (ix4 b i h e)).trans ?_
  unfold head
  congr 1
  · refine (transpose_apply _ _ transposes_S4x256x128x256_S4x256x256x128_0_3_1_2 (ix4 b i h e) (ix4 b h e i) fun a => by fin_cases a <;> rfl).trans ?_
    refine (Ideal.dotGeneral_apply dot_S4x256x256x128_S4x256x256x256_S4x256x128x256_1_3_3_2_02_01 none _ v _ (ix4 b h e i)).trans ?_
    refine (Equiv.sum_comp (contrEquiv1 dot_S4x256x256x128_S4x256x256x256_S4x256x128x256_1_3_3_2_02_01 256 rfl rfl).symm _).symm.trans ?_
    refine Finset.sum_congr rfl fun j _ => (mul_comm _ _).trans ?_
    rw [← wts_at]
    congr 1
    · congr 1; funext a; fin_cases a <;> rfl
    · congr 1; funext a; fin_cases a <;> rfl
  · rw [spread]
    refine (transpose_apply _ _ transposes_S4x256x256x1_S4x256x256x1_0_2_1_3 (ix4 b i h 0) (ix4 b h i 0) fun a => by fin_cases a <;> rfl).trans ?_
    rw [column, tot_at]
    simp only [wts_at]

/-! ## From the arguments -/

/-- A batch's rows. -/
abbrev xrows (b : Fin 4) : Fin 256 → Fin 1024 → EReal := fun i k => x (ix3 b i k)

theorem flat_at (b : Fin 4) (i : Fin 256) (k : Fin 1024) (r : Fin 1024) (hr : r.val = 256 * b.val + i.val) :
    flat x (ix2 r k) = x (ix3 b i k) := by
  refine shapeCast_apply x _ (ix2 r k) (ix3 b i k) ?_
  rw [Shape.rowMajor_val_three, Shape.rowMajor_val_two]
  show (b.val * 256 + i.val) * 1024 + k.val = r.val * 1024 + k.val
  omega

theorem qs_at (b : Fin 4) (h : Fin 256) : hd (qs x wq) b h = proj (xrows x b) (cols wq h.val (by have := h.isLt; omega)) := by
  funext i e
  have hb := b.isLt; have hi := i.isLt; have hh := h.isLt; have he := e.isLt
  refine (shapeCast_apply _ _ (ix4 b i h e) (ix2 (⟨256 * b.val + i.val, by omega⟩ : Fin 1024) (⟨128 * h.val + e.val, by omega⟩ : Fin 32768)) ?_).trans ?_
  · rw [Shape.rowMajor_val_four, Shape.rowMajor_val_two]
    show (256 * b.val + i.val) * 32768 + (128 * h.val + e.val) = ((b.val * 256 + i.val) * 256 + h.val) * 128 + e.val
    omega
  refine (Ideal.dotGeneral_apply dot_S1024x1024_S1024x32768_S1024x32768_1_0_0_1_n_n none _ (flat x) wq _).trans ?_
  refine (Equiv.sum_comp (contrEquiv1 dot_S1024x1024_S1024x32768_S1024x32768_1_0_0_1_n_n 1024 rfl rfl).symm _).symm.trans ?_
  refine Finset.sum_congr rfl fun k _ => ?_
  congr 1
  · refine Eq.trans (congrArg (flat x) ?_) (flat_at x b i k ⟨256 * b.val + i.val, by omega⟩ rfl)
    funext a; fin_cases a <;> rfl
  · refine congrArg wq ?_
    funext a; fin_cases a <;> rfl

theorem ks_at (b : Fin 4) (h : Fin 256) : hd (ks x wk) b h = proj (xrows x b) (cols wk (h.val / 4) (by have := h.isLt; omega)) := by
  funext i e
  have hb := b.isLt; have hi := i.isLt; have hh := h.isLt; have he := e.isLt
  refine (shapeCast_apply _ _ (ix4 b i h e) (ix5 b i (⟨h.val / 4, by omega⟩ : Fin 64) (⟨h.val % 4, by omega⟩ : Fin 4) e) ?_).trans ?_
  · rw [Shape.rowMajor_val_four, Shape.rowMajor_val_five]
    show (((b.val * 256 + i.val) * 64 + h.val / 4) * 4 + h.val % 4) * 128 + e.val = ((b.val * 256 + i.val) * 256 + h.val) * 128 + e.val
    omega
  refine (broadcastInDim_apply _ _ _ _ (ix4 b i (⟨h.val / 4, by omega⟩ : Fin 64) e) fun a => by fin_cases a <;> rfl).trans ?_
  refine (shapeCast_apply _ _ _ (ix2 (⟨256 * b.val + i.val, by omega⟩ : Fin 1024) (⟨128 * (h.val / 4) + e.val, by omega⟩ : Fin 8192)) ?_).trans ?_
  · rw [Shape.rowMajor_val_four, Shape.rowMajor_val_two]
    show (256 * b.val + i.val) * 8192 + (128 * (h.val / 4) + e.val) = ((b.val * 256 + i.val) * 64 + h.val / 4) * 128 + e.val
    omega
  refine (Ideal.dotGeneral_apply dot_S1024x1024_S1024x8192_S1024x8192_1_0_0_1_n_n none _ (flat x) wk _).trans ?_
  refine (Equiv.sum_comp (contrEquiv1 dot_S1024x1024_S1024x8192_S1024x8192_1_0_0_1_n_n 1024 rfl rfl).symm _).symm.trans ?_
  refine Finset.sum_congr rfl fun k _ => ?_
  congr 1
  · refine Eq.trans (congrArg (flat x) ?_) (flat_at x b i k ⟨256 * b.val + i.val, by omega⟩ rfl)
    funext a; fin_cases a <;> rfl
  · refine congrArg wk ?_
    funext a; fin_cases a <;> rfl

/-- A row of the heads' outputs, from the arguments. -/
def row (b : Fin 4) (i : Fin 256) (k : Fin 32768) : EReal :=
  attend (xrows x b) (cols wq (k.val / 128) (by have := k.isLt; omega)) (cols wk (k.val / 512) (by have := k.isLt; omega)) (cols wv (k.val / 512) (by have := k.isLt; omega))
    i ⟨k.val % 128, Nat.mod_lt _ (by decide)⟩

/-- The reference's result. -/
theorem result_at (b : Fin 4) (i : Fin 256) (n : Fin 1024) :
    (result x wq wk wv wo (ix3 b i n) : EReal) = ∑ k : Fin 32768, row x wq wk wv b i k * wo (ix2 k n) := by
  have hb := b.isLt; have hi := i.isLt
  refine (shapeCast_apply _ _ (ix3 b i n) (ix2 (⟨256 * b.val + i.val, by omega⟩ : Fin 1024) n) ?_).trans ?_
  · rw [Shape.rowMajor_val_three, Shape.rowMajor_val_two]
    show (256 * b.val + i.val) * 1024 + n.val = (b.val * 256 + i.val) * 1024 + n.val
    omega
  refine (Ideal.dotGeneral_apply dot_S1024x32768_S32768x1024_S1024x1024_1_0_0_1_n_n none _ _ wo _).trans ?_
  refine (Equiv.sum_comp (contrEquiv1 dot_S1024x32768_S32768x1024_S1024x1024_1_0_0_1_n_n 32768 rfl rfl).symm _).symm.trans ?_
  refine Finset.sum_congr rfl fun k _ => ?_
  have hk := k.isLt
  congr 1
  · refine (shapeCast_apply _ _ _ (ix4 b i (⟨k.val / 128, by omega⟩ : Fin 256) (⟨k.val % 128, by omega⟩ : Fin 128)) ?_).trans ?_
    · rw [Shape.rowMajor_val_four, Shape.rowMajor_val_two]
      show ((b.val * 256 + i.val) * 256 + k.val / 128) * 128 + k.val % 128 = (256 * b.val + i.val) * 32768 + k.val
      omega
    rw [outs_at, qs_at, ks_at, ks_at]
    unfold row attend
    rw [cols_congr wk (show k.val / 128 / 4 = k.val / 512 by omega), cols_congr wv (show k.val / 128 / 4 = k.val / 512 by omega)]
  · refine congrArg wo ?_
    funext a; fin_cases a <;> rfl

end Cert.ReferenceIdeal.AR

end
-- ==== Proof.Sums.lean ====
/-
  At the extended reals the finished sum of the rings is the sum over all the devices, on every row.
-/
module

public import proofs.«01_k».proof.Proof.Contents
public import Idealize.ShloMosaic.Lib.ValueIdx
public import Idealize.ShloMosaic.PureOps.Ideal.Laws

@[expose] public section

noncomputable section

namespace Cert.KernelIdeal.AR

open Idealize.ShloMosaic Idealize.ShloMosaic.TcCoe

variable (P : Dev nD → OB Ideal)

/-- The contents A of a device are the sum of P over the listed devices. -/
def Lists (A : Dev nD → OB Ideal) (L : Dev nD → List (Dev nD)) : Prop :=
  ∀ d i, A d i = ((L d).map fun e => (P e i : EReal)).sum

/-- A device adds what a neighbour holds: the lists are joined. -/
def join (j : Fin 5) (L M : Dev nD → List (Dev nD)) : Dev nD → List (Dev nD) := fun d => L d ++ M (nb j d)

variable {P}

theorem lists_self : Lists P P (fun d => [d]) := fun d i => by simp
theorem Lists.add {A B : Dev nD → OB Ideal} {L M : Dev nD → List (Dev nD)} (hA : Lists P A L) (hB : Lists P B M) (j : Fin 5) :
    Lists P (fun d => padd (A d) (B (nb j d))) (join j L M) := fun d i => by
  show (A d i : EReal) + B (nb j d) i = _
  rw [hA, hB, join, List.map_append, List.sum_append]

/-- Round a ring of four. -/
def ringOf (j : Fin 5) (L : Dev nD → List (Dev nD)) : Dev nD → List (Dev nD) := join j L (join j L (join j L L))

theorem Lists.ring {A : Dev nD → OB Ideal} {L : Dev nD → List (Dev nD)} (hA : Lists P A L) (j : Fin 5) :
    Lists P (fun d => padd (A d) (padd (A (nb j d)) (padd (A (nb j (nb j d))) (A (nb j (nb j (nb j d))))))) (ringOf j L) :=
  hA.add (hA.add (hA.add hA j) j) j

theorem lists_a : Lists P (za3 P) (ringOf 4 (ringOf 2 (join 0 (fun d => [d]) fun d => [d]))) :=
  ((lists_self.add lists_self 0).ring 2).ring 4
theorem lists_b : Lists P (xb P) (join 0 (ringOf 1 (ringOf 3 fun d => [d])) (ringOf 1 (ringOf 3 fun d => [d]))) :=
  ((lists_self.ring 3).ring 1).add ((lists_self.ring 3).ring 1) 0

theorem all_a : ∀ d : Dev nD, (ringOf 4 (ringOf 2 (join 0 (fun d => [d]) fun d => [d])) d).Perm (List.finRange 32) := by decide +kernel
theorem all_b : ∀ d : Dev nD, (join 0 (ringOf 1 (ringOf 3 fun d => [d])) (ringOf 1 (ringOf 3 fun d => [d])) d).Perm (List.finRange 32) := by decide +kernel

theorem Lists.all {A : Dev nD → OB Ideal} {L : Dev nD → List (Dev nD)} (hA : Lists P A L) (hL : ∀ d, (L d).Perm (List.finRange 32)) (d : Dev nD)
    (i : S1024x1024.Idx) : A d i = ∑ e : Dev nD, (P e i : EReal) :=
  (hA d i).trans ((((hL d).map _).sum_eq).trans (Fin.sum_univ_def _).symm)

variable (P)

/-- The finished sum is the sum over the devices. -/
theorem fin_sum (i : S1024x1024.Idx) : fin P i = ∑ e : Dev nD, (P e i : EReal) := by
  unfold fin
  split
  · exact lists_a.all all_a _ i
  · exact lists_b.all all_b _ i

end Cert.KernelIdeal.AR

end
-- ==== Proof.Algebra.lean ====
/-
  What the kernel leaves is the reference's result: the sum over the devices of their partial products is the one product
  over all the heads.
-/
module

public import proofs.«01_k».proof.Proof.KernelValue
public import proofs.«01_k».proof.Proof.RefValue
public import proofs.«01_k».proof.Proof.Sums
public import proofs.«01_k».proof.Proof.Launch
public import Idealize.ShloMosaic.Lib.Layout

@[expose] public section

noncomputable section

namespace Cert.KernelIdeal.AR

open Idealize.ShloMosaic Idealize.ShloMosaic.TcCoe Idealize.ShloMosaic.ValueIdx
open Gen Cert.Plain
open Cert.ReferenceIdeal.AR (xrows row result result_at)

variable (m : (ℓ : Loc nD τ sig) → Buf (Elt Ideal) ℓ)
variable (X : FVec Ideal S4x256x1024 .f32) (Wq : FVec Ideal ⟨2, ![1024, 32768]⟩ .f32) (Wk Wv : FVec Ideal S1024x8192 .f32) (Wo : FVec Ideal ⟨2, ![32768, 1024]⟩ .f32)

/-- The devices' arguments are the whole arrays' blocks. -/
structure Cut : Prop where
  x : ∀ c : Dev nD, m ((c.tc : Thread nD τ).loc main_arg0) = X
  wq : ∀ c : Dev nD, m ((c.tc : Thread nD τ).loc main_arg1) = Layout.block ⟨2, ![1024, 1024]⟩ ⟨2, ![1024, 32768]⟩ 1 32 c Wq
  wk : ∀ c : Dev nD, m ((c.tc : Thread nD τ).loc main_arg2) = Wk
  wv : ∀ c : Dev nD, m ((c.tc : Thread nD τ).loc main_arg3) = Wv
  wo : ∀ c : Dev nD, m ((c.tc : Thread nD τ).loc main_arg4) = Layout.block ⟨2, ![1024, 1024]⟩ ⟨2, ![32768, 1024]⟩ 0 32 c Wo

variable {m X Wq Wk Wv Wo} (H : Cut m X Wq Wk Wv Wo)
include H

theorem Cut.rows (c : Dev nD) (b : Fin 4) : rc (xr (blk m c) b) = xrows X b := by
  funext i k
  have hb := b.isLt; have hi := i.isLt; have hk := k.isLt
  show (blk m c).x (ix (16 * b.val) (ix2 i k)) = _
  rw [blk_x, H.x]
  refine shapeCast_apply X _ _ (ix3 b i k) ?_
  rw [Shape.rowMajor_val_three, Shape.rowMajor_val_two]
  show (b.val * 256 + i.val) * 1024 + k.val = ((16 * (16 * b.val) + i.val) % 1024) * 1024 + k.val % 1024
  omega

theorem Cut.qcols (c : Dev nD) (g : ℕ) (hg : 128 * (g + 1) ≤ 1024) (hG : 128 * (8 * c.val + g + 1) ≤ 32768) :
    cols (n := 1024) (blk m c).wq g hg = cols Wq (8 * c.val + g) hG := by
  funext k e
  unfold cols
  rw [blk_wq, H.wq]
  refine congrArg Wq ?_
  funext a; apply Fin.ext; fin_cases a
  · rfl
  · show c.val * 1024 + (128 * g + e.val) = 128 * (8 * c.val + g) + e.val; omega

theorem Cut.kcols (c : Dev nD) (g : ℕ) (hg : 128 * (g + 1) ≤ 256) (hG : 128 * (2 * c.val + g + 1) ≤ 8192) :
    cols (n := 256) (blk m c).wk g hg = cols Wk (2 * c.val + g) hG := by
  funext k e
  unfold cols
  rw [blk_wk, H.wk]
  refine extractStridedSlice_apply _ Wk _ _ _ fun a => ?_
  fin_cases a
  · exact (Nat.zero_add _).symm
  · show 128 * (2 * c.val + g) + e.val = 256 * c.val + (128 * g + e.val); omega

theorem Cut.vcols (c : Dev nD) (g : ℕ) (hg : 128 * (g + 1) ≤ 256) (hG : 128 * (2 * c.val + g + 1) ≤ 8192) :
    cols (n := 256) (blk m c).wv g hg = cols Wv (2 * c.val + g) hG := by
  funext k e
  unfold cols
  rw [blk_wv, H.wv]
  refine extractStridedSlice_apply _ Wv _ _ _ fun a => ?_
  fin_cases a
  · exact (Nat.zero_add _).symm
  · show 128 * (2 * c.val + g) + e.val = 256 * c.val + (128 * g + e.val); omega

omit H in
theorem glob_lt (c : Dev nD) (k : Fin 1024) : 1024 * c.val + k.val < 32768 := by
  have hc : c.val < 32 := c.isLt
  have hk := k.isLt
  omega
/-- The column of all the heads' outputs that device c's k-th is. -/
def glob (c : Dev nD) (k : Fin 1024) : Fin 32768 := ⟨1024 * c.val + k.val, glob_lt c k⟩

theorem Cut.row_eq (c : Dev nD) (b : Fin 4) (i : Fin 256) (k : Fin 1024) : rowK (blk m c) b i k = row X Wq Wk Wv b i (glob c k) := by
  have hc : c.val < 32 := c.isLt
  have hk := k.isLt
  have hg := (glob c k).isLt
  unfold rowK row
  rw [H.rows, H.qcols c _ _ (by omega), H.kcols c _ _ (by omega), H.vcols c _ _ (by omega)]
  rw [cols_congr Wq (hg' := by omega) (show 8 * c.val + k.val / 128 = (glob c k).val / 128 by show _ = (1024 * c.val + k.val) / 128; omega),
    cols_congr Wk (hg' := by omega) (show 2 * c.val + k.val / 512 = (glob c k).val / 512 by show _ = (1024 * c.val + k.val) / 512; omega),
    cols_congr Wv (hg' := by omega) (show 2 * c.val + k.val / 512 = (glob c k).val / 512 by show _ = (1024 * c.val + k.val) / 512; omega)]
  congr 1
  apply Fin.ext
  show k.val % 128 = (1024 * c.val + k.val) % 128
  omega

theorem Cut.wo_eq (c : Dev nD) (k n : Fin 1024) : rc (a := 1024) (b := 1024) (blk m c).wo k n = Wo (ix2 (glob c k) n) := by
  show (blk m c).wo (ix2 k n) = _
  rw [blk_wo, H.wo]
  refine congrArg Wo ?_
  funext a; apply Fin.ext; fin_cases a
  · show c.val * 1024 + k.val = 1024 * c.val + k.val; omega
  · rfl

omit H in
/-- A sum over all the heads' columns, device by device. -/
theorem by_device (f : Fin 32768 → EReal) : ∑ k, f k = ∑ c : Dev nD, ∑ k : Fin 1024, f (glob c k) := by
  rw [← Fintype.sum_prod_type' (f := fun (c : Dev nD) (k : Fin 1024) => f (glob c k))]
  refine (Equiv.sum_comp (finProdFinEquiv (m := 32) (n := 1024)) (f : Fin (32 * 1024) → EReal)).symm.trans ?_
  refine Finset.sum_congr rfl fun p _ => congrArg f (Fin.ext ?_)
  show p.2.val + 1024 * p.1.val = 1024 * p.1.val + p.2.val
  omega

/-- What the kernel leaves on a device, element by element. -/
theorem Cut.fin_eq (b : Fin 4) (i : Fin 256) (n : Fin 1024) :
    shapeCast S4x256x1024 (fin (parts m)) shapeCasts_S1024x1024_S4x256x1024 (ix3 b i n) = result X Wq Wk Wv Wo (ix3 b i n) := by
  have hb := b.isLt; have hi := i.isLt
  refine (shapeCast_apply _ _ _ (ix2 (⟨256 * b.val + i.val, by omega⟩ : Fin 1024) n) ?_).trans ?_
  · rw [Shape.rowMajor_val_three, Shape.rowMajor_val_two]
    show (256 * b.val + i.val) * 1024 + n.val = (b.val * 256 + i.val) * 1024 + n.val
    omega
  refine (fin_sum (parts m) _).trans (Eq.trans ?_ ((by_device _).symm.trans (result_at X Wq Wk Wv Wo b i n).symm))
  refine Finset.sum_congr rfl fun d _ => ?_
  refine (partial_value (blk m d) b i n _ rfl).trans ?_
  refine Finset.sum_congr rfl fun k _ => ?_
  rw [H.row_eq, H.wo_eq]

/-- What the kernel leaves on a device is the reference's result. -/
theorem Cut.result_eq (c : Dev nD) : V3 m (outs m) c main_v19 = result X Wq Wk Wv Wo := by
  have e : V3 m (outs m) c main_v19 = shapeCast S4x256x1024 (fin (parts m)) shapeCasts_S1024x1024_S4x256x1024 := by
    rw [← V2_out m c]
    after_results_simp
    rfl
  rw [e]
  funext j
  rw [eq_ix3 j]
  exact H.fin_eq (j 0) (j 1) (j 2)

end Cert.KernelIdeal.AR

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Same
public import proofs.«01_k».proof.Proof.Algebra
public import Idealize.ShloMosaic.Adequacy
public import Idealize.ShloMosaic.Init

@[expose] public section

noncomputable section

namespace Cert.Proof

open Idealize.ShloMosaic Idealize.ShloMosaic.TcCoe Idealize.SL.Sem

/-- Every run of the reference ends, its arguments unchanged and every semaphore at zero. -/
theorem frame_reference : Cert.quiescent_ReferenceIdeal := fun m ρ _ =>
  (θ_run Cert.ReferenceIdeal.defs _ _).mono (fun _ h => ⟨fun c => (h c).2, sem_eq_zero_of_no_sems rfl _⟩) (Cert.ReferenceIdeal.Value.run (F := Ideal) m ρ)

/-- Over the extended reals every device's result is the reference's. -/
theorem value : Cert.algebraic_KernelIdeal_ReferenceIdeal := fun m ρ m' ρ' _ hcut => by
  have H : Cert.KernelIdeal.AR.Cut m _ _ _ _ _ :=
    ⟨fun c => (hcut c).1, fun c => (hcut c).2.1, fun c => (hcut c).2.2.1, fun c => (hcut c).2.2.2.1, fun c => (hcut c).2.2.2.2⟩
  refine ⟨Cert.ReferenceIdeal.Value.res_out0 m' 0, ?_, ?_⟩
  · refine (θ_run Cert.KernelIdeal.defs _ _).mono (fun _ h c => ⟨?_, (h.1 c).1⟩) (Cert.KernelIdeal.AR.run_main (F := Ideal) m ρ)
    exact (h.1 c).2.trans ((H.result_eq c).trans (Cert.ReferenceIdeal.AR.result_eq m' 0).symm)
  · exact (θ_run Cert.ReferenceIdeal.defs _ _).mono (fun _ h => h 0) (Cert.ReferenceIdeal.Value.run (F := Ideal) m' ρ')

/-- The five claims together. -/
theorem claim : Cert.Claim := ⟨Cert.Kernel.Gen.facts, Cert.KernelIdeal.Gen.facts, Cert.ReferenceIdeal.Gen.facts,
  Cert.frame_kernel, Cert.frame_ideal, frame_reference, trivial, value⟩

end Cert.Proof

end
